-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_visited [hPre_finite_and_visited : Cert.Pre_finite_and_visited.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_visited.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_and_visited.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_and_visited.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_and_visited.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_and_visited.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_and_visited.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_visited [hPre_finite_and_visited : Cert.Pre_finite_and_visited.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_visited.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_and_visited.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_and_visited.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_and_visited.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_and_visited.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_and_visited.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_and_visited [hKernelIdeal : Cert.KernelIdeal.Facts] [hPre_finite_and_visited : Cert.Pre_finite_and_visited.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_visited m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_and_visited [hReferenceIdeal : Cert.ReferenceIdeal.Facts] [hPre_finite_and_visited : Cert.Pre_finite_and_visited.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_visited m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "tenth" .f32 0x3DCCCCCD#32 ((1 / 10 : ℝ) : EReal)

def algebraic_KernelIdeal_ReferenceIdeal_pre_finite_and_visited [hKernelIdeal : Cert.KernelIdeal.Facts] [hReferenceIdeal : Cert.ReferenceIdeal.Facts] [hPre_finite_and_visited : Cert.Pre_finite_and_visited.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_visited m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_and_visited : Cert.Pre_finite_and_visited.Facts),
    quiescent_Kernel (hKernel := hKernel)
    ∧ quiescent_KernelIdeal (hKernelIdeal := hKernelIdeal)
    ∧ quiescent_KernelIdeal_pre_finite_and_visited (hKernelIdeal := hKernelIdeal) (hPre_finite_and_visited := hPre_finite_and_visited)
    ∧ quiescent_ReferenceIdeal (hReferenceIdeal := hReferenceIdeal)
    ∧ quiescent_ReferenceIdeal_pre_finite_and_visited (hReferenceIdeal := hReferenceIdeal) (hPre_finite_and_visited := hPre_finite_and_visited)
    ∧ preserves_Kernel_KernelIdeal
    ∧ algebraic_KernelIdeal_ReferenceIdeal_pre_finite_and_visited (hKernelIdeal := hKernelIdeal) (hReferenceIdeal := hReferenceIdeal) (hPre_finite_and_visited := hPre_finite_and_visited)
-- ==== Pre_finite_and_visited.lean ====
abbrev S16x512x2048 : Shape := ⟨3, ![16, 512, 2048]⟩
abbrev S2048x128 : Shape := ⟨2, ![2048, 128]⟩
abbrev S1542x129 : Shape := ⟨2, ![1542, 129]⟩
abbrev S1542 : Shape := ⟨1, ![1542]⟩
abbrev S1542x385 : Shape := ⟨2, ![1542, 385]⟩
abbrev S64x384 : Shape := ⟨2, ![64, 384]⟩
abbrev S64 : Shape := ⟨1, ![64]⟩
abbrev S384x64 : Shape := ⟨2, ![384, 64]⟩
abbrev S384 : Shape := ⟨1, ![384]⟩
abbrev S384x384x10 : Shape := ⟨3, ![384, 384, 10]⟩
abbrev S128x384 : Shape := ⟨2, ![128, 384]⟩
abbrev S128 : Shape := ⟨1, ![128]⟩
abbrev S_ : Shape := ⟨0, ![]⟩
abbrev S8192x2048 : Shape := ⟨2, ![8192, 2048]⟩
abbrev S8192x128 : Shape := ⟨2, ![8192, 128]⟩
abbrev S16x512x128 : Shape := ⟨3, ![16, 512, 128]⟩
abbrev S16x512 : Shape := ⟨2, ![16, 512]⟩
abbrev S16 : Shape := ⟨1, ![16]⟩

class Facts : Prop where
  bcast_S_S16x512x2048 : S_.BroadcastsInDim S16x512x2048 (![] : Fin 0 → Fin S16x512x2048.rank)
  shapeCasts_S16x512x2048_S8192x2048 : S16x512x2048.ShapeCasts S8192x2048
  shapeCasts_S8192x128_S16x512x128 : S8192x128.ShapeCasts S16x512x128
  bcast_S_S16x512x128 : S_.BroadcastsInDim S16x512x128 (![] : Fin 0 → Fin S16x512x128.rank)
  reducesTo_S16x512x128_S16x512_d2 : S16x512x128.ReducesTo [2] S16x512
  h_S_ : 0 < S_.numel
  natLt_1_32 : 1 < 32
  reducesTo_S16x512_S16_d1 : S16x512.ReducesTo [1] S16
  bcast_S_S16 : S_.BroadcastsInDim S16 (![] : Fin 0 → Fin S16.rank)
  bcast_S_S2048x128 : S_.BroadcastsInDim S2048x128 (![] : Fin 0 → Fin S2048x128.rank)
  bcast_S_S1542x129 : S_.BroadcastsInDim S1542x129 (![] : Fin 0 → Fin S1542x129.rank)
  bcast_S_S1542 : S_.BroadcastsInDim S1542 (![] : Fin 0 → Fin S1542.rank)
  bcast_S_S1542x385 : S_.BroadcastsInDim S1542x385 (![] : Fin 0 → Fin S1542x385.rank)
  dot_S8192x2048_S2048x128_S8192x128_1_0_0_1_n_n_wf : DotDims.WF S8192x2048 S2048x128 S8192x128 [1] [0] [0] [1] [] []

variable [Facts]

def dot_S8192x2048_S2048x128_S8192x128_1_0_0_1_n_n : DotDims S8192x2048 S2048x128 S8192x128 where
  lhsContracting := [1]
  rhsContracting := [0]
  lhsNonContracting := [0]
  rhsNonContracting := [1]
  lhsBatch := []
  rhsBatch := []
  wf := dot_S8192x2048_S2048x128_S8192x128_1_0_0_1_n_n_wf
def fn_part1 {F : FTy → Type} [FloatOps F] (main_arg3 : FVec F S1542 .f32) (main_arg4 : FVec F S1542x385 .f32) (main_arg5 : FVec F S1542 .f32) (main_v12 : IVec S16 32) (main_v15 : IVec S2048x128 1) (main_v16 : FVec F S1542x129 .f32) (main_cst_4 : FVec F S_ .f32) : IVec S2048x128 1 × IVec S1542x129 1 × IVec S1542 1 × IVec S1542x385 1 × IVec S1542 1 × IVec S16 1 :=
  let main_v17 : FVec F S1542x129 .f32 := broadcastInDim S1542x129 ![] bcast_S_S1542x129 main_cst_4
  let main_v18 : IVec S1542x129 1 := cmpf .olt main_v16 main_v17
  let main_v19 : FVec F S1542 .f32 := Host.absf main_arg3
  let main_cst_5 : FVec F S_ .f32 := constant S_ .f32 0x7F800000#32
  let main_v20 : FVec F S1542 .f32 := broadcastInDim S1542 ![] bcast_S_S1542 main_cst_5
  let main_v21 : IVec S1542 1 := cmpf .olt main_v19 main_v20
  let main_v22 : FVec F S1542x385 .f32 := Host.absf main_arg4
  let main_cst_6 : FVec F S_ .f32 := constant S_ .f32 0x7F800000#32
  let main_v23 : FVec F S1542x385 .f32 := broadcastInDim S1542x385 ![] bcast_S_S1542x385 main_cst_6
  let main_v24 : IVec S1542x385 1 := cmpf .olt main_v22 main_v23
  let main_v25 : FVec F S1542 .f32 := Host.absf main_arg5
  let main_cst_7 : FVec F S_ .f32 := constant S_ .f32 0x7F800000#32
  let main_v26 : FVec F S1542 .f32 := broadcastInDim S1542 ![] bcast_S_S1542 main_cst_7
  let main_v27 : IVec S1542 1 := cmpf .olt main_v25 main_v26
  let main_c_8 : IVec S_ 32 := constantI S_ 32 0#32
  let main_v28 : IVec S16 32 := broadcastInDim S16 ![] bcast_S_S16 main_c_8
  let main_v29 : IVec S16 1 := cmpi .sge main_v12 main_v28
  (main_v15, main_v18, main_v21, main_v24, main_v27, main_v29)

def fn {F : FTy → Type} [FloatOps F] (main_arg0 : IVec S16x512x2048 32) (main_arg1 : FVec F S2048x128 .f32) (main_arg2 : FVec F S1542x129 .f32) (main_arg3 : FVec F S1542 .f32) (main_arg4 : FVec F S1542x385 .f32) (main_arg5 : FVec F S1542 .f32) (main_arg6 : FVec F S64x384 .f32) (main_arg7 : FVec F S64 .f32) (main_arg8 : FVec F S384x64 .f32) (main_arg9 : FVec F S384 .f32) (main_arg10 : FVec F S384x384x10 .f32) (main_arg11 : FVec F S384 .f32) (main_arg12 : FVec F S128x384 .f32) (main_arg13 : FVec F S128 .f32) : IVec S2048x128 1 × IVec S1542x129 1 × IVec S1542 1 × IVec S1542x385 1 × IVec S1542 1 × IVec S16 1 :=
  let main_c : IVec S_ 32 := constantI S_ 32 1#32
  let main_v0 : IVec S16x512x2048 32 := broadcastInDim S16x512x2048 ![] bcast_S_S16x512x2048 main_c
  let main_v1 : IVec S16x512x2048 1 := cmpi .eq main_arg0 main_v0
  let main_v2 : FVec F S16x512x2048 .f32 := uitofp .f32 main_v1
  let main_v3 : FVec F S8192x2048 .f32 := shapeCast S8192x2048 main_v2 shapeCasts_S16x512x2048_S8192x2048
  let main_v4 : FVec F S8192x128 .f32 := (fun l r => Host.dotGeneral dot_S8192x2048_S2048x128_S8192x128_1_0_0_1_n_n none l r) main_v3 main_arg1
  let main_v5 : FVec F S16x512x128 .f32 := shapeCast S16x512x128 main_v4 shapeCasts_S8192x128_S16x512x128
  let main_cst : FVec F S_ .f32 := constant S_ .f32 0x00000000#32
  let main_v6 : FVec F S16x512x128 .f32 := broadcastInDim S16x512x128 ![] bcast_S_S16x512x128 main_cst
  let main_v7 : IVec S16x512x128 1 := cmpf .une main_v5 main_v6
  let main_c_0 : IVec S_ 1 := constantI S_ 1 0#1
  let main_v8 : IVec S16x512 1 := (fun x v => Host.reduce IntOp.ori x v reducesTo_S16x512x128_S16x512_d2 h_S_) main_v7 main_c_0
  let main_v9 : IVec S16x512 32 := (extui 32 · natLt_1_32) main_v8
  let main_c_1 : IVec S_ 32 := constantI S_ 32 0#32
  let main_v10 : IVec S16 32 := (fun x v => Host.reduce IntOp.addi x v reducesTo_S16x512_S16_d1 h_S_) main_v9 main_c_1
  let main_c_2 : IVec S_ 32 := constantI S_ 32 1#32
  let main_v11 : IVec S16 32 := broadcastInDim S16 ![] bcast_S_S16 main_c_2
  let main_v12 : IVec S16 32 := subi main_v10 main_v11
  let main_v13 : FVec F S2048x128 .f32 := Host.absf main_arg1
  let main_cst_3 : FVec F S_ .f32 := constant S_ .f32 0x7F800000#32
  let main_v14 : FVec F S2048x128 .f32 := broadcastInDim S2048x128 ![] bcast_S_S2048x128 main_cst_3
  let main_v15 : IVec S2048x128 1 := cmpf .olt main_v13 main_v14
  let main_v16 : FVec F S1542x129 .f32 := Host.absf main_arg2
  let main_cst_4 : FVec F S_ .f32 := constant S_ .f32 0x7F800000#32
  fn_part1 (F := F) main_arg3 main_arg4 main_arg5 main_v12 main_v15 main_v16 main_cst_4
-- ==== Kernel.lean ====
abbrev S16x512x2048 : Shape := ⟨3, ![16, 512, 2048]⟩
abbrev S2048x128 : Shape := ⟨2, ![2048, 128]⟩
abbrev S1542x129 : Shape := ⟨2, ![1542, 129]⟩
abbrev S1542 : Shape := ⟨1, ![1542]⟩
abbrev S1542x385 : Shape := ⟨2, ![1542, 385]⟩
abbrev S64x384 : Shape := ⟨2, ![64, 384]⟩
abbrev S64 : Shape := ⟨1, ![64]⟩
abbrev S384x64 : Shape := ⟨2, ![384, 64]⟩
abbrev S384 : Shape := ⟨1, ![384]⟩
abbrev S384x384x10 : Shape := ⟨3, ![384, 384, 10]⟩
abbrev S128x384 : Shape := ⟨2, ![128, 384]⟩
abbrev S128 : Shape := ⟨1, ![128]⟩
abbrev S16x512x128 : Shape := ⟨3, ![16, 512, 128]⟩
abbrev S16x8x128 : Shape := ⟨3, ![16, 8, 128]⟩
abbrev S512x16x128 : Shape := ⟨3, ![512, 16, 128]⟩
abbrev S16x1x1 : Shape := ⟨3, ![16, 1, 1]⟩
abbrev S16 : Shape := ⟨1, ![16]⟩
abbrev S_ : Shape := ⟨0, ![]⟩
abbrev S16x1 : Shape := ⟨2, ![16, 1]⟩
abbrev S6x128 : Shape := ⟨2, ![6, 128]⟩
abbrev S128x6 : Shape := ⟨2, ![128, 6]⟩
abbrev S6x384 : Shape := ⟨2, ![6, 384]⟩
abbrev S384x6 : Shape := ⟨2, ![384, 6]⟩
abbrev S512x128 : Shape := ⟨2, ![512, 128]⟩
abbrev S1 : Shape := ⟨1, ![1]⟩
abbrev S2 : Shape := ⟨1, ![2]⟩
abbrev S1536x128 : Shape := ⟨2, ![1536, 128]⟩
abbrev S128x1536 : Shape := ⟨2, ![128, 1536]⟩
abbrev S1536x384 : Shape := ⟨2, ![1536, 384]⟩
abbrev S384x1536 : Shape := ⟨2, ![384, 1536]⟩
abbrev S512x1536 : Shape := ⟨2, ![512, 1536]⟩
abbrev S1542x1 : Shape := ⟨2, ![1542, 1]⟩
abbrev S1x128 : Shape := ⟨2, ![1, 128]⟩
abbrev S6 : Shape := ⟨1, ![6]⟩
abbrev S1536 : Shape := ⟨1, ![1536]⟩
abbrev S1x1536 : Shape := ⟨2, ![1, 1536]⟩
abbrev S10x384x384 : Shape := ⟨3, ![10, 384, 384]⟩
abbrev S3840x384 : Shape := ⟨2, ![3840, 384]⟩
abbrev S1x64 : Shape := ⟨2, ![1, 64]⟩
abbrev S1x384 : Shape := ⟨2, ![1, 384]⟩
abbrev S384x128 : Shape := ⟨2, ![384, 128]⟩
abbrev S528x16x384 : Shape := ⟨3, ![528, 16, 384]⟩
abbrev S16x128 : Shape := ⟨2, ![16, 128]⟩
abbrev S1x512x2048 : Shape := ⟨3, ![1, 512, 2048]⟩
abbrev S1x512x128 : Shape := ⟨3, ![1, 512, 128]⟩
abbrev S1x8x128 : Shape := ⟨3, ![1, 8, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1x1x1 : Shape := ⟨3, ![1, 1, 1]⟩
abbrev S16x384 : Shape := ⟨2, ![16, 384]⟩
abbrev S16x16x384 : Shape := ⟨3, ![16, 16, 384]⟩
abbrev S1x16x128 : Shape := ⟨3, ![1, 16, 128]⟩
abbrev S16x512 : Shape := ⟨2, ![16, 512]⟩
abbrev S16x1536 : Shape := ⟨2, ![16, 1536]⟩
abbrev S16x3 : Shape := ⟨2, ![16, 3]⟩
abbrev S16x9 : Shape := ⟨2, ![16, 9]⟩
abbrev S16x118 : Shape := ⟨2, ![16, 118]⟩
abbrev S1x16x384 : Shape := ⟨3, ![1, 16, 384]⟩
abbrev S64x16x384 : Shape := ⟨3, ![64, 16, 384]⟩
abbrev S64x16x1 : Shape := ⟨3, ![64, 16, 1]⟩
abbrev S1024x384 : Shape := ⟨2, ![1024, 384]⟩
abbrev S1024x1 : Shape := ⟨2, ![1024, 1]⟩
abbrev S384x384 : Shape := ⟨2, ![384, 384]⟩
abbrev S1024x64 : Shape := ⟨2, ![1024, 64]⟩
abbrev S1x16x1 : Shape := ⟨3, ![1, 16, 1]⟩

abbrev nBuf : Space → Nat
  | .hbm => 91
  | .vmem => 30
  | .smem => 0
  | _ => 0

abbrev bufTy : (tb : Table) → Fin (tcTables nBuf tb) → BufTy
  | .hbm, ⟨0, _⟩ => ⟨S16x512x2048, .i32⟩
  | .hbm, ⟨1, _⟩ => ⟨S2048x128, .f32⟩
  | .hbm, ⟨2, _⟩ => ⟨S1542x129, .f32⟩
  | .hbm, ⟨3, _⟩ => ⟨S1542, .f32⟩
  | .hbm, ⟨4, _⟩ => ⟨S1542x385, .f32⟩
  | .hbm, ⟨5, _⟩ => ⟨S1542, .f32⟩
  | .hbm, ⟨6, _⟩ => ⟨S64x384, .f32⟩
  | .hbm, ⟨7, _⟩ => ⟨S64, .f32⟩
  | .hbm, ⟨8, _⟩ => ⟨S384x64, .f32⟩
  | .hbm, ⟨9, _⟩ => ⟨S384, .f32⟩
  | .hbm, ⟨10, _⟩ => ⟨S384x384x10, .f32⟩
  | .hbm, ⟨11, _⟩ => ⟨S384, .f32⟩
  | .hbm, ⟨12, _⟩ => ⟨S128x384, .f32⟩
  | .hbm, ⟨13, _⟩ => ⟨S128, .f32⟩
  | .hbm, ⟨14, _⟩ => ⟨S2048x128, .bf16⟩
  | .hbm, ⟨15, _⟩ => ⟨S16x512x128, .bf16⟩
  | .hbm, ⟨16, _⟩ => ⟨S16x8x128, .f32⟩
  | .hbm, ⟨17, _⟩ => ⟨S512x16x128, .bf16⟩
  | .hbm, ⟨18, _⟩ => ⟨S16x1x1, .f32⟩
  | .hbm, ⟨19, _⟩ => ⟨S16, .f32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S6x128, .f32⟩
  | .hbm, ⟨34, _⟩ => ⟨S128x6, .f32⟩
  | .hbm, ⟨35, _⟩ => ⟨S6x384, .f32⟩
  | .hbm, ⟨36, _⟩ => ⟨S384x6, .f32⟩
  | .hbm, ⟨37, _⟩ => ⟨S_, .f32⟩
  | .hbm, ⟨38, _⟩ => ⟨S512x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S512x128, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S512x128, .f32⟩
  | .hbm, ⟨51, _⟩ => ⟨S1536x128, .f32⟩
  | .hbm, ⟨52, _⟩ => ⟨S128x1536, .f32⟩
  | .hbm, ⟨53, _⟩ => ⟨S1536x384, .f32⟩
  | .hbm, ⟨54, _⟩ => ⟨S384x1536, .f32⟩
  | .hbm, ⟨55, _⟩ => ⟨S512x1536, .f32⟩
  | .hbm, ⟨56, _⟩ => ⟨S1542x1, .f32⟩
  | .hbm, ⟨57, _⟩ => ⟨S1542, .f32⟩
  | .hbm, ⟨58, _⟩ => ⟨S1542, .f32⟩
  | .hbm, ⟨59, _⟩ => ⟨S1542, .f32⟩
  | .hbm, ⟨60, _⟩ => ⟨S1542x1, .f32⟩
  | .hbm, ⟨61, _⟩ => ⟨S1542, .f32⟩
  | .hbm, ⟨62, _⟩ => ⟨S1542, .f32⟩
  | .hbm, ⟨63, _⟩ => ⟨S_, .f32⟩
  | .hbm, ⟨64, _⟩ => ⟨S1x128, .f32⟩
  | .hbm, ⟨65, _⟩ => ⟨S6, .f32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S2, .i32⟩
  | .hbm, ⟨71, _⟩ => ⟨S1x128, .f32⟩
  | .hbm, ⟨72, _⟩ => ⟨S1536, .f32⟩
  | .hbm, ⟨73, _⟩ => ⟨S1x1536, .f32⟩
  | .hbm, ⟨74, _⟩ => ⟨S10x384x384, .f32⟩
  | .hbm, ⟨75, _⟩ => ⟨S3840x384, .f32⟩
  | .hbm, ⟨76, _⟩ => ⟨S384x64, .f32⟩
  | .hbm, ⟨77, _⟩ => ⟨S1x64, .f32⟩
  | .hbm, ⟨78, _⟩ => ⟨S64x384, .f32⟩
  | .hbm, ⟨79, _⟩ => ⟨S1x384, .f32⟩
  | .hbm, ⟨80, _⟩ => ⟨S1x384, .f32⟩
  | .hbm, ⟨81, _⟩ => ⟨S384x128, .f32⟩
  | .hbm, ⟨82, _⟩ => ⟨S1x128, .f32⟩
  | .hbm, ⟨83, _⟩ => ⟨S512x128, .bf16⟩
  | .hbm, ⟨84, _⟩ => ⟨S512x1536, .bf16⟩
  | .hbm, ⟨85, _⟩ => ⟨S528x16x384, .bf16⟩
  | .hbm, ⟨86, _⟩ => ⟨S512x16x128, .f32⟩
  | .hbm, ⟨87, _⟩ => ⟨S3840x384, .bf16⟩
  | .hbm, ⟨88, _⟩ => ⟨S384x64, .bf16⟩
  | .hbm, ⟨89, _⟩ => ⟨S64x384, .bf16⟩
  | .hbm, ⟨90, _⟩ => ⟨S16x128, .f32⟩
  | .local _ .vmem, ⟨0, _⟩ => ⟨S1x512x2048, .i32⟩
  | .local _ .vmem, ⟨1, _⟩ => ⟨S1x512x2048, .i32⟩
  | .local _ .vmem, ⟨2, _⟩ => ⟨S2048x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x8x128, .f32⟩
  | .local _ .vmem, ⟨6, _⟩ => ⟨S1x8x128, .f32⟩
  | .local _ .vmem, ⟨7, _⟩ => ⟨S512x16x128, .bf16⟩
  | .local _ .vmem, ⟨8, _⟩ => ⟨S512x128, .bf16⟩
  | .local _ .vmem, ⟨9, _⟩ => ⟨S512x1536, .bf16⟩
  | .local _ .vmem, ⟨10, _⟩ => ⟨S1x128, .f32⟩
  | .local _ .vmem, ⟨11, _⟩ => ⟨S1x1536, .f32⟩
  | .local _ .vmem, ⟨12, _⟩ => ⟨S528x16x384, .bf16⟩
  | .local _ .vmem, ⟨13, _⟩ => ⟨S512x16x128, .f32⟩
  | .local _ .vmem, ⟨14, _⟩ => ⟨S16x384, .f32⟩
  | .local _ .vmem, ⟨15, _⟩ => ⟨S16x384, .f32⟩
  | .local _ .vmem, ⟨16, _⟩ => ⟨S16x128, .f32⟩
  | .local _ .vmem, ⟨17, _⟩ => ⟨S528x16x384, .bf16⟩
  | .local _ .vmem, ⟨18, _⟩ => ⟨S512x16x128, .f32⟩
  | .local _ .vmem, ⟨19, _⟩ => ⟨S16x1, .i32⟩
  | .local _ .vmem, ⟨20, _⟩ => ⟨S3840x384, .bf16⟩
  | .local _ .vmem, ⟨21, _⟩ => ⟨S384x64, .bf16⟩
  | .local _ .vmem, ⟨22, _⟩ => ⟨S1x64, .f32⟩
  | .local _ .vmem, ⟨23, _⟩ => ⟨S64x384, .bf16⟩
  | .local _ .vmem, ⟨24, _⟩ => ⟨S1x384, .f32⟩
  | .local _ .vmem, ⟨25, _⟩ => ⟨S1x384, .f32⟩
  | .local _ .vmem, ⟨26, _⟩ => ⟨S384x128, .f32⟩
  | .local _ .vmem, ⟨27, _⟩ => ⟨S1x128, .f32⟩
  | .local _ .vmem, ⟨28, _⟩ => ⟨S16x128, .f32⟩
  | .local _ .vmem, ⟨29, _⟩ => ⟨S16x384, .f32⟩
  | _, _ => ⟨S16x512x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1_0 : Ref sig .tc := ⟨.hbm, 15, rfl⟩
abbrev main_call0_v1_1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c : Ref sig .tc := ⟨.hbm, 21, rfl⟩
abbrev main_call0_v6 : Ref sig .tc := ⟨.hbm, 22, rfl⟩
abbrev main_call0_v7 : Ref sig .tc := ⟨.hbm, 23, rfl⟩
abbrev main_call0_c_0 : Ref sig .tc := ⟨.hbm, 24, rfl⟩
abbrev main_call0_c_1 : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_call0_c_2 : Ref sig .tc := ⟨.hbm, 39, rfl⟩
abbrev main_call0_v15 : Ref sig .tc := ⟨.hbm, 40, rfl⟩
abbrev main_call0_c_3 : Ref sig .tc := ⟨.hbm, 41, rfl⟩
abbrev main_call0_v16 : Ref sig .tc := ⟨.hbm, 42, rfl⟩
abbrev main_call0_v17 : Ref sig .tc := ⟨.hbm, 43, rfl⟩
abbrev main_call0_v18 : Ref sig .tc := ⟨.hbm, 44, rfl⟩
abbrev main_call0_c_4 : Ref sig .tc := ⟨.hbm, 45, rfl⟩
abbrev main_call0_v19 : Ref sig .tc := ⟨.hbm, 46, rfl⟩
abbrev main_call0_c_5 : Ref sig .tc := ⟨.hbm, 47, rfl⟩
abbrev main_call0_v20 : Ref sig .tc := ⟨.hbm, 48, rfl⟩
abbrev main_call0_v21 : Ref sig .tc := ⟨.hbm, 49, rfl⟩
abbrev main_call0_v22 : Ref sig .tc := ⟨.hbm, 50, rfl⟩
abbrev main_call0_v23 : Ref sig .tc := ⟨.hbm, 51, rfl⟩
abbrev main_call0_v24 : Ref sig .tc := ⟨.hbm, 52, rfl⟩
abbrev main_call0_v25 : Ref sig .tc := ⟨.hbm, 53, rfl⟩
abbrev main_call0_v26 : Ref sig .tc := ⟨.hbm, 54, rfl⟩
abbrev main_call0_v27 : Ref sig .tc := ⟨.hbm, 55, rfl⟩
abbrev main_call0_v28 : Ref sig .tc := ⟨.hbm, 56, rfl⟩
abbrev main_call0_v29 : Ref sig .tc := ⟨.hbm, 57, rfl⟩
abbrev main_call0_v30 : Ref sig .tc := ⟨.hbm, 58, rfl⟩
abbrev main_call0_v31 : Ref sig .tc := ⟨.hbm, 59, rfl⟩
abbrev main_call0_v32 : Ref sig .tc := ⟨.hbm, 60, rfl⟩
abbrev main_call0_v33 : Ref sig .tc := ⟨.hbm, 61, rfl⟩
abbrev main_call0_v34 : Ref sig .tc := ⟨.hbm, 62, rfl⟩
abbrev main_call0_cst_6 : Ref sig .tc := ⟨.hbm, 63, rfl⟩
abbrev main_call0_v35 : Ref sig .tc := ⟨.hbm, 64, rfl⟩
abbrev main_call0_v36 : Ref sig .tc := ⟨.hbm, 65, rfl⟩
abbrev main_call0_c_7 : Ref sig .tc := ⟨.hbm, 66, rfl⟩
abbrev main_call0_v37 : Ref sig .tc := ⟨.hbm, 67, rfl⟩
abbrev main_call0_c_8 : Ref sig .tc := ⟨.hbm, 68, rfl⟩
abbrev main_call0_v38 : Ref sig .tc := ⟨.hbm, 69, rfl⟩
abbrev main_call0_v39 : Ref sig .tc := ⟨.hbm, 70, rfl⟩
abbrev main_call0_v40 : Ref sig .tc := ⟨.hbm, 71, rfl⟩
abbrev main_call0_v41 : Ref sig .tc := ⟨.hbm, 72, rfl⟩
abbrev main_call0_v42 : Ref sig .tc := ⟨.hbm, 73, rfl⟩
abbrev main_call0_v43 : Ref sig .tc := ⟨.hbm, 74, rfl⟩
abbrev main_call0_v44 : Ref sig .tc := ⟨.hbm, 75, rfl⟩
abbrev main_call0_v45 : Ref sig .tc := ⟨.hbm, 76, rfl⟩
abbrev main_call0_v46 : Ref sig .tc := ⟨.hbm, 77, rfl⟩
abbrev main_call0_v47 : Ref sig .tc := ⟨.hbm, 78, rfl⟩
abbrev main_call0_v48 : Ref sig .tc := ⟨.hbm, 79, rfl⟩
abbrev main_call0_v49 : Ref sig .tc := ⟨.hbm, 80, rfl⟩
abbrev main_call0_v50 : Ref sig .tc := ⟨.hbm, 81, rfl⟩
abbrev main_call0_v51 : Ref sig .tc := ⟨.hbm, 82, rfl⟩
abbrev main_call0_v52 : Ref sig .tc := ⟨.hbm, 83, rfl⟩
abbrev main_call0_v53 : Ref sig .tc := ⟨.hbm, 84, rfl⟩
abbrev main_call0_v54_0 : Ref sig .tc := ⟨.hbm, 85, rfl⟩
abbrev main_call0_v54_1 : Ref sig .tc := ⟨.hbm, 86, rfl⟩
abbrev main_call0_v55 : Ref sig .tc := ⟨.hbm, 87, rfl⟩
abbrev main_call0_v56 : Ref sig .tc := ⟨.hbm, 88, rfl⟩
abbrev main_call0_v57 : Ref sig .tc := ⟨.hbm, 89, rfl⟩
abbrev main_v0 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem11_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

@[reducible] def k1_t1_loop : Scf.Loop 32 :=
  let c0_i32 : BitVec 32 := 0#32
  let c256_i32 : BitVec 32 := 256#32
  let v22 : BitVec 32 := Scalar.addi c0_i32 c256_i32
  let c1_i32 : BitVec 32 := 1#32
  ⟨c0_i32, v22, c1_i32⟩
def k1_off1 (k1_t1 : Fin k1_t1_loop.trips) : Fin 3 → Nat :=
  let c2_i32 : BitVec 32 := 2#32
  let c0_i32 : BitVec 32 := 0#32
  let c1_i32 : BitVec 32 := 1#32
  let arg10 : BitVec 32 := Scf.iv c0_i32 c1_i32 k1_t1
  let v26 : BitVec 32 := Scalar.muli c2_i32 arg10
  let v27 : Index := Scalar.indexCast v26
  let c0_26 : Index := 0#32
  let c0_27 : Index := 0#32
  ![v27.toNat, 0, 0]
def k1_off2 (k1_t1 : Fin k1_t1_loop.trips) : Fin 3 → Nat :=
  let c16_i32 : BitVec 32 := 16#32
  let c2_i32 : BitVec 32 := 2#32
  let c0_i32 : BitVec 32 := 0#32
  let c1_i32 : BitVec 32 := 1#32
  let arg10 : BitVec 32 := Scf.iv c0_i32 c1_i32 k1_t1
  let v26 : BitVec 32 := Scalar.muli c2_i32 arg10
  let v234 : BitVec 32 := Scalar.addi c16_i32 v26
  let v235 : Index := Scalar.indexCast v234
  let c0_44 : Index := 0#32
  let c0_45 : Index := 0#32
  ![v235.toNat, 0, 0]
def k1_off3 (k1_t1 : Fin k1_t1_loop.trips) : Fin 3 → Nat :=
  let c2_i32 : BitVec 32 := 2#32
  let c0_i32 : BitVec 32 := 0#32
  let c1_i32 : BitVec 32 := 1#32
  let arg10 : BitVec 32 := Scf.iv c0_i32 c1_i32 k1_t1
  let v26 : BitVec 32 := Scalar.muli c2_i32 arg10
  let c1_i32_48 : BitVec 32 := 1#32
  let v243 : BitVec 32 := Scalar.addi v26 c1_i32_48
  let v244 : Index := Scalar.indexCast v243
  let c0_49 : Index := 0#32
  let c0_50 : Index := 0#32
  ![v244.toNat, 0, 0]
def k1_off4 (k1_t1 : Fin k1_t1_loop.trips) : Fin 3 → Nat :=
  let c16_i32_67 : BitVec 32 := 16#32
  let c2_i32 : BitVec 32 := 2#32
  let c0_i32 : BitVec 32 := 0#32
  let c1_i32 : BitVec 32 := 1#32
  let arg10 : BitVec 32 := Scf.iv c0_i32 c1_i32 k1_t1
  let v26 : BitVec 32 := Scalar.muli c2_i32 arg10
  let c1_i32_48 : BitVec 32 := 1#32
  let v243 : BitVec 32 := Scalar.addi v26 c1_i32_48
  let v451 : BitVec 32 := Scalar.addi c16_i32_67 v243
  let v452 : Index := Scalar.indexCast v451
  let c0_68 : Index := 0#32
  let c0_69 : Index := 0#32
  ![v452.toNat, 0, 0]
abbrev stage1_0 : Fin 1 → Memref sig .tc .vmem S512x16x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x1536 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1536 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S528x16x384 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S512x16x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := ⟨1, ![8], ![false]⟩

def k2_off1 (i : grid2.Coords) (c0_i32_1 : BitVec 32) : Fin 3 → Nat :=
  let arg0 : BitVec 32 := BitVec.ofNat 32 (i 0).val
  let c64_i32 : BitVec 32 := 64#32
  let v0 : BitVec 32 := Scalar.muli arg0 c64_i32
  let c16_i32 : BitVec 32 := 16#32
  let v4 : BitVec 32 := Scalar.addi v0 c16_i32
  let c9_i32 : BitVec 32 := 9#32
  let v5 : BitVec 32 := Scalar.subi v4 c9_i32
  let v6 : BitVec 32 := Scalar.addi v5 c0_i32_1
  let v7 : Index := Scalar.indexCast v6
  let c0 : Index := 0#32
  let c0_2 : Index := 0#32
  ![v7.toNat, 0, 0]
def k2_off2 (i : grid2.Coords) : Fin 3 → Nat :=
  let arg0 : BitVec 32 := BitVec.ofNat 32 (i 0).val
  let c64_i32 : BitVec 32 := 64#32
  let v0 : BitVec 32 := Scalar.muli arg0 c64_i32
  let v10 : Index := Scalar.indexCast v0
  let c0_3 : Index := 0#32
  let c0_4 : Index := 0#32
  ![v10.toNat, 0, 0]
def k2_off3 (i : grid2.Coords) : Fin 3 → Nat :=
  let arg0 : BitVec 32 := BitVec.ofNat 32 (i 0).val
  let c64_i32 : BitVec 32 := 64#32
  let v0 : BitVec 32 := Scalar.muli arg0 c64_i32
  let v28 : Index := Scalar.indexCast v0
  let c0_11 : Index := 0#32
  let c1 : Index := 1#32
  ![v28.toNat, 0, 1]
def k2_off4 (i : grid2.Coords) : Fin 3 → Nat :=
  let arg0 : BitVec 32 := BitVec.ofNat 32 (i 0).val
  let c64_i32 : BitVec 32 := 64#32
  let v0 : BitVec 32 := Scalar.muli arg0 c64_i32
  let v48 : Index := Scalar.indexCast v0
  let c0_18 : Index := 0#32
  let c2 : Index := 2#32
  ![v48.toNat, 0, 2]
def k2_off5 (i : grid2.Coords) : Fin 3 → Nat :=
  let arg0 : BitVec 32 := BitVec.ofNat 32 (i 0).val
  let c64_i32 : BitVec 32 := 64#32
  let v0 : BitVec 32 := Scalar.muli arg0 c64_i32
  let v68 : Index := Scalar.indexCast v0
  let c0_25 : Index := 0#32
  let c3 : Index := 3#32
  ![v68.toNat, 0, 3]
def k2_off6 (i : grid2.Coords) : Fin 3 → Nat :=
  let arg0 : BitVec 32 := BitVec.ofNat 32 (i 0).val
  let c64_i32 : BitVec 32 := 64#32
  let v0 : BitVec 32 := Scalar.muli arg0 c64_i32
  let v88 : Index := Scalar.indexCast v0
  let c0_32 : Index := 0#32
  let c4 : Index := 4#32
  ![v88.toNat, 0, 4]
def k2_off7 (i : grid2.Coords) : Fin 3 → Nat :=
  let arg0 : BitVec 32 := BitVec.ofNat 32 (i 0).val
  let c64_i32 : BitVec 32 := 64#32
  let v0 : BitVec 32 := Scalar.muli arg0 c64_i32
  let v108 : Index := Scalar.indexCast v0
  let c0_39 : Index := 0#32
  let c5 : Index := 5#32
  ![v108.toNat, 0, 5]
def k2_off8 (i : grid2.Coords) : Fin 3 → Nat :=
  let arg0 : BitVec 32 := BitVec.ofNat 32 (i 0).val
  let c64_i32 : BitVec 32 := 64#32
  let v0 : BitVec 32 := Scalar.muli arg0 c64_i32
  let v128 : Index := Scalar.indexCast v0
  let c0_46 : Index := 0#32
  let c6 : Index := 6#32
  ![v128.toNat, 0, 6]
def k2_off9 (i : grid2.Coords) : Fin 3 → Nat :=
  let arg0 : BitVec 32 := BitVec.ofNat 32 (i 0).val
  let c64_i32 : BitVec 32 := 64#32
  let v0 : BitVec 32 := Scalar.muli arg0 c64_i32
  let v148 : Index := Scalar.indexCast v0
  let c0_53 : Index := 0#32
  let c7 : Index := 7#32
  ![v148.toNat, 0, 7]
def k2_off10 (i : grid2.Coords) : Fin 3 → Nat :=
  let arg0 : BitVec 32 := BitVec.ofNat 32 (i 0).val
  let c64_i32 : BitVec 32 := 64#32
  let v0 : BitVec 32 := Scalar.muli arg0 c64_i32
  let v168 : Index := Scalar.indexCast v0
  let c0_60 : Index := 0#32
  let c8 : Index := 8#32
  ![v168.toNat, 0, 8]
def k2_off11 (i : grid2.Coords) : Fin 3 → Nat :=
  let arg0 : BitVec 32 := BitVec.ofNat 32 (i 0).val
  let c64_i32 : BitVec 32 := 64#32
  let v0 : BitVec 32 := Scalar.muli arg0 c64_i32
  let v188 : Index := Scalar.indexCast v0
  let c0_68 : Index := 0#32
  let c9 : Index := 9#32
  ![v188.toNat, 0, 9]
def k2_off12 (i : grid2.Coords) : Fin 3 → Nat :=
  let arg0 : BitVec 32 := BitVec.ofNat 32 (i 0).val
  let c64_i32 : BitVec 32 := 64#32
  let v0 : BitVec 32 := Scalar.muli arg0 c64_i32
  let c16_i32_85 : BitVec 32 := 16#32
  let v228 : BitVec 32 := Scalar.addi v0 c16_i32_85
  let v229 : Index := Scalar.indexCast v228
  let c0_86 : Index := 0#32
  let c0_87 : Index := 0#32
  ![v229.toNat, 0, 0]
def k2_cond2 (i : grid2.Coords) : BitVec 1 :=
  let arg0 : BitVec 32 := BitVec.ofNat 32 (i 0).val
  let c7_i32_95 : BitVec 32 := 7#32
  let v253 : BitVec 1 := Scalar.cmpi .eq arg0 c7_i32_95
  let v254 : BitVec 32 := Scalar.extui v253
  let c0_i32_96 : BitVec 32 := 0#32
  let v255 : BitVec 1 := Scalar.cmpi .ne v254 c0_i32_96
  v255

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S528x16x384 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3840x384 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S384x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x384 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x384 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S384x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S16x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]
-- ==== KernelIdeal.lean ====
variable {F : FTy → Type} [FloatOps F] [Named F]
def κ : String → Option EReal := fun
  | "tenth" => some ((1 / 10 : ℝ) : EReal)
  | "third" => some ((1 / 3 : ℝ) : EReal)
  | _ => none
-- ==== ReferenceIdeal.lean ====
abbrev S16x512x2048 : Shape := ⟨3, ![16, 512, 2048]⟩
abbrev S2048x128 : Shape := ⟨2, ![2048, 128]⟩
abbrev S1542x129 : Shape := ⟨2, ![1542, 129]⟩
abbrev S1542 : Shape := ⟨1, ![1542]⟩
abbrev S1542x385 : Shape := ⟨2, ![1542, 385]⟩
abbrev S64x384 : Shape := ⟨2, ![64, 384]⟩
abbrev S64 : Shape := ⟨1, ![64]⟩
abbrev S384x64 : Shape := ⟨2, ![384, 64]⟩
abbrev S384 : Shape := ⟨1, ![384]⟩
abbrev S384x384x10 : Shape := ⟨3, ![384, 384, 10]⟩
abbrev S128x384 : Shape := ⟨2, ![128, 384]⟩
abbrev S128 : Shape := ⟨1, ![128]⟩
abbrev S_ : Shape := ⟨0, ![]⟩
abbrev S8192x2048 : Shape := ⟨2, ![8192, 2048]⟩
abbrev S8192x128 : Shape := ⟨2, ![8192, 128]⟩
abbrev S16x512x128 : Shape := ⟨3, ![16, 512, 128]⟩
abbrev S16x512 : Shape := ⟨2, ![16, 512]⟩
abbrev S16x384 : Shape := ⟨2, ![16, 384]⟩
abbrev S10x16x384 : Shape := ⟨3, ![10, 16, 384]⟩
abbrev S10x16 : Shape := ⟨2, ![10, 16]⟩
abbrev S512x16x128 : Shape := ⟨3, ![512, 16, 128]⟩
abbrev S512x16 : Shape := ⟨2, ![512, 16]⟩
abbrev S512x16x384 : Shape := ⟨3, ![512, 16, 384]⟩
abbrev S1x16x128 : Shape := ⟨3, ![1, 16, 128]⟩
abbrev S16x128 : Shape := ⟨2, ![16, 128]⟩
abbrev S1x16 : Shape := ⟨2, ![1, 16]⟩
abbrev S16 : Shape := ⟨1, ![16]⟩
abbrev S16x1 : Shape := ⟨2, ![16, 1]⟩
abbrev S16x129 : Shape := ⟨2, ![16, 129]⟩
abbrev S129x1542 : Shape := ⟨2, ![129, 1542]⟩
abbrev S16x1542 : Shape := ⟨2, ![16, 1542]⟩
abbrev S1x1542 : Shape := ⟨2, ![1, 1542]⟩
abbrev S16x385 : Shape := ⟨2, ![16, 385]⟩
abbrev S385x1542 : Shape := ⟨2, ![385, 1542]⟩
abbrev S16x3 : Shape := ⟨2, ![16, 3]⟩
abbrev S16x3x1 : Shape := ⟨3, ![16, 3, 1]⟩
abbrev S16x1536 : Shape := ⟨2, ![16, 1536]⟩
abbrev S16x12x128 : Shape := ⟨3, ![16, 12, 128]⟩
abbrev S16x3x128 : Shape := ⟨3, ![16, 3, 128]⟩
abbrev S16x387 : Shape := ⟨2, ![16, 387]⟩
abbrev S9x16x384 : Shape := ⟨3, ![9, 16, 384]⟩
abbrev S1x16x384 : Shape := ⟨3, ![1, 16, 384]⟩
abbrev S9x16 : Shape := ⟨2, ![9, 16]⟩
abbrev S16x10 : Shape := ⟨2, ![16, 10]⟩
abbrev S16x384x10 : Shape := ⟨3, ![16, 384, 10]⟩
abbrev S16x1x10 : Shape := ⟨3, ![16, 1, 10]⟩
abbrev S16x64 : Shape := ⟨2, ![16, 64]⟩
abbrev S1x64 : Shape := ⟨2, ![1, 64]⟩
abbrev S1x384 : Shape := ⟨2, ![1, 384]⟩
abbrev S16x512x384 : Shape := ⟨3, ![16, 512, 384]⟩
abbrev S16x2 : Shape := ⟨2, ![16, 2]⟩
abbrev S384x128 : Shape := ⟨2, ![384, 128]⟩
abbrev S1x128 : Shape := ⟨2, ![1, 128]⟩

abbrev nBuf : Space → Nat
  | .hbm => 289
  | .vmem => 0
  | .smem => 0
  | _ => 0

abbrev hbmTy0_0 (i : Nat) : BufTy := match i % 128 with
  | 0 => ⟨S16x512x2048, .i32⟩
  | 1 => ⟨S2048x128, .f32⟩
  | 2 => ⟨S1542x129, .f32⟩
  | 3 => ⟨S1542, .f32⟩
  | 4 => ⟨S1542x385, .f32⟩
  | 5 => ⟨S1542, .f32⟩
  | 6 => ⟨S64x384, .f32⟩
  | 7 => ⟨S64, .f32⟩
  | 8 => ⟨S384x64, .f32⟩
  | 9 => ⟨S384, .f32⟩
  | 10 => ⟨S384x384x10, .f32⟩
  | 11 => ⟨S384, .f32⟩
  | 12 => ⟨S128x384, .f32⟩
  | 13 => ⟨S128, .f32⟩
  | 14 => ⟨S_, .i32⟩
  | 15 => ⟨S16x512x2048, .i32⟩
  | 16 => ⟨S16x512x2048, .i1⟩
  | 17 => ⟨S16x512x2048, .f32⟩
  | 18 => ⟨S8192x2048, .f32⟩
  | 19 => ⟨S8192x128, .f32⟩
  | 20 => ⟨S16x512x128, .f32⟩
  | 21 => ⟨S_, .f32⟩
  | 22 => ⟨S16x512x128, .f32⟩
  | 23 => ⟨S16x512x128, .i1⟩
  | 24 => ⟨S_, .i1⟩
  | 25 => ⟨S16x512, .i1⟩
  | 26 => ⟨S_, .f32⟩
  | 27 => ⟨S16x512, .f32⟩
  | 28 => ⟨S_, .f32⟩
  | 29 => ⟨S16x384, .f32⟩
  | 30 => ⟨S_, .f32⟩
  | 31 => ⟨S16x384, .f32⟩
  | 32 => ⟨S_, .f32⟩
  | 33 => ⟨S10x16x384, .f32⟩
  | 34 => ⟨S_, .f32⟩
  | 35 => ⟨S10x16, .f32⟩
  | 36 => ⟨S512x16x128, .f32⟩
  | 37 => ⟨S512x16, .f32⟩
  | 38 => ⟨S_, .f32⟩
  | 39 => ⟨S512x16x384, .f32⟩
  | 40 => ⟨S_, .f32⟩
  | 41 => ⟨S512x16x384, .f32⟩
  | 42 => ⟨S_, .i32⟩
  | 43 => ⟨S512x16x128, .f32⟩
  | 44 => ⟨S512x16, .f32⟩
  | 45 => ⟨S1542x129, .f32⟩
  | 46 => ⟨S1542, .f32⟩
  | 47 => ⟨S1542x385, .f32⟩
  | 48 => ⟨S1542, .f32⟩
  | 49 => ⟨S64x384, .f32⟩
  | 50 => ⟨S64, .f32⟩
  | 51 => ⟨S384x64, .f32⟩
  | 52 => ⟨S384, .f32⟩
  | 53 => ⟨S384x384x10, .f32⟩
  | 54 => ⟨S384, .f32⟩
  | 55 => ⟨S_, .i32⟩
  | 56 => ⟨S16x384, .f32⟩
  | 57 => ⟨S16x384, .f32⟩
  | 58 => ⟨S10x16x384, .f32⟩
  | 59 => ⟨S10x16, .f32⟩
  | 60 => ⟨S512x16x384, .f32⟩
  | 61 => ⟨S512x16x384, .f32⟩
  | 62 => ⟨S_, .i32⟩
  | 63 => ⟨S_, .i1⟩
  | 64 => ⟨S_, .i32⟩
  | 65 => ⟨S_, .i32⟩
  | 66 => ⟨S1x16x128, .f32⟩
  | 67 => ⟨S16x128, .f32⟩
  | 68 => ⟨S_, .i32⟩
  | 69 => ⟨S1x16, .f32⟩
  | 70 => ⟨S16, .f32⟩
  | 71 => ⟨S16x1, .f32⟩
  | 72 => ⟨S16x129, .f32⟩
  | 73 => ⟨S129x1542, .f32⟩
  | 74 => ⟨S16x1542, .f32⟩
  | 75 => ⟨S1x1542, .f32⟩
  | 76 => ⟨S16x1542, .f32⟩
  | 77 => ⟨S16x1542, .f32⟩
  | 78 => ⟨S16x385, .f32⟩
  | 79 => ⟨S385x1542, .f32⟩
  | 80 => ⟨S16x1542, .f32⟩
  | 81 => ⟨S1x1542, .f32⟩
  | 82 => ⟨S16x1542, .f32⟩
  | 83 => ⟨S16x1542, .f32⟩
  | 84 => ⟨S16x1542, .f32⟩
  | 85 => ⟨S16x3, .f32⟩
  | 86 => ⟨S_, .f32⟩
  | 87 => ⟨S16, .f32⟩
  | 88 => ⟨S_, .f32⟩
  | 89 => ⟨S16, .f32⟩
  | 90 => ⟨S16, .f32⟩
  | 91 => ⟨S16x1, .f32⟩
  | 92 => ⟨S16x3, .f32⟩
  | 93 => ⟨S16x3, .f32⟩
  | 94 => ⟨S16x3, .f32⟩
  | 95 => ⟨S_, .f32⟩
  | 96 => ⟨S16, .f32⟩
  | 97 => ⟨S16x1, .f32⟩
  | 98 => ⟨S16x3, .f32⟩
  | 99 => ⟨S16x3, .f32⟩
  | 100 => ⟨S_, .f32⟩
  | 101 => ⟨S_, .f32⟩
  | 102 => ⟨S16x3, .f32⟩
  | 103 => ⟨S16x3x1, .f32⟩
  | 104 => ⟨S16x3, .f32⟩
  | 105 => ⟨S16x3, .f32⟩
  | 106 => ⟨S_, .f32⟩
  | 107 => ⟨S16, .f32⟩
  | 108 => ⟨S_, .f32⟩
  | 109 => ⟨S16, .f32⟩
  | 110 => ⟨S16, .f32⟩
  | 111 => ⟨S16x1, .f32⟩
  | 112 => ⟨S16x3, .f32⟩
  | 113 => ⟨S16x3, .f32⟩
  | 114 => ⟨S16x3, .f32⟩
  | 115 => ⟨S_, .f32⟩
  | 116 => ⟨S16, .f32⟩
  | 117 => ⟨S16x1, .f32⟩
  | 118 => ⟨S16x3, .f32⟩
  | 119 => ⟨S16x3, .f32⟩
  | 120 => ⟨S_, .f32⟩
  | 121 => ⟨S_, .f32⟩
  | 122 => ⟨S16x3, .f32⟩
  | 123 => ⟨S16x3, .f32⟩
  | 124 => ⟨S16x3x1, .f32⟩
  | 125 => ⟨S16x1536, .f32⟩
  | 126 => ⟨S16x12x128, .f32⟩
  | 127 => ⟨S16x3x128, .f32⟩
  | _ => ⟨S16x512x2048, .i32⟩

abbrev hbmTy0_1 (i : Nat) : BufTy := match i % 128 with
  | 0 => ⟨S16x3x128, .f32⟩
  | 1 => ⟨S16x3x128, .f32⟩
  | 2 => ⟨S_, .f32⟩
  | 3 => ⟨S16x3x128, .f32⟩
  | 4 => ⟨S16x3x128, .f32⟩
  | 5 => ⟨S_, .f32⟩
  | 6 => ⟨S16x3x128, .f32⟩
  | 7 => ⟨S16x3x128, .f32⟩
  | 8 => ⟨S16x3x128, .f32⟩
  | 9 => ⟨S16x3x128, .f32⟩
  | 10 => ⟨S16x3x128, .f32⟩
  | 11 => ⟨S_, .f32⟩
  | 12 => ⟨S16x3x128, .f32⟩
  | 13 => ⟨S16x3x128, .f32⟩
  | 14 => ⟨S_, .f32⟩
  | 15 => ⟨S16x3x128, .f32⟩
  | 16 => ⟨S16x3x128, .f32⟩
  | 17 => ⟨S16x3x128, .f32⟩
  | 18 => ⟨S16x3x128, .f32⟩
  | 19 => ⟨S16x3x128, .f32⟩
  | 20 => ⟨S_, .f32⟩
  | 21 => ⟨S16x3x128, .f32⟩
  | 22 => ⟨S16x3x128, .f32⟩
  | 23 => ⟨S_, .f32⟩
  | 24 => ⟨S16x3x128, .f32⟩
  | 25 => ⟨S16x3x128, .f32⟩
  | 26 => ⟨S16x3x128, .f32⟩
  | 27 => ⟨S16x3x128, .f32⟩
  | 28 => ⟨S16x3x128, .f32⟩
  | 29 => ⟨S16x3x1, .f32⟩
  | 30 => ⟨S16x3x128, .f32⟩
  | 31 => ⟨S16x3x128, .f32⟩
  | 32 => ⟨S16x3x128, .f32⟩
  | 33 => ⟨S16x3x128, .f32⟩
  | 34 => ⟨S16x3x128, .f32⟩
  | 35 => ⟨S16x3x1, .f32⟩
  | 36 => ⟨S16x3x128, .f32⟩
  | 37 => ⟨S16x3x128, .f32⟩
  | 38 => ⟨S16x3x128, .f32⟩
  | 39 => ⟨S16x3x1, .f32⟩
  | 40 => ⟨S16x3x128, .f32⟩
  | 41 => ⟨S16x3x128, .f32⟩
  | 42 => ⟨S16x3x128, .f32⟩
  | 43 => ⟨S16x3x128, .f32⟩
  | 44 => ⟨S16x3x128, .f32⟩
  | 45 => ⟨S16x384, .f32⟩
  | 46 => ⟨S16x384, .f32⟩
  | 47 => ⟨S16x3, .f32⟩
  | 48 => ⟨S16x387, .f32⟩
  | 49 => ⟨S16x3, .f32⟩
  | 50 => ⟨S_, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S16x384, .f32⟩
  | 59 => ⟨S9x16x384, .f32⟩
  | 60 => ⟨S1x16x384, .f32⟩
  | 61 => ⟨S10x16x384, .f32⟩
  | 62 => ⟨S9x16, .f32⟩
  | 63 => ⟨S1x16, .f32⟩
  | 64 => ⟨S10x16, .f32⟩
  | 65 => ⟨S16x10, .f32⟩
  | 66 => ⟨S_, .f32⟩
  | 67 => ⟨S_, .f32⟩
  | 68 => ⟨S16x10, .f32⟩
  | 69 => ⟨S_, .f32⟩
  | 70 => ⟨S16, .f32⟩
  | 71 => ⟨S_, .f32⟩
  | 72 => ⟨S16, .f32⟩
  | 73 => ⟨S16, .f32⟩
  | 74 => ⟨S16x1, .f32⟩
  | 75 => ⟨S16x10, .f32⟩
  | 76 => ⟨S16x10, .f32⟩
  | 77 => ⟨S16x10, .f32⟩
  | 78 => ⟨S_, .f32⟩
  | 79 => ⟨S16, .f32⟩
  | 80 => ⟨S16x1, .f32⟩
  | 81 => ⟨S16x10, .f32⟩
  | 82 => ⟨S16x10, .f32⟩
  | 83 => ⟨S16x384x10, .f32⟩
  | 84 => ⟨S16x1x10, .f32⟩
  | 85 => ⟨S16x384x10, .f32⟩
  | 86 => ⟨S16x384x10, .f32⟩
  | 87 => ⟨S_, .f32⟩
  | 88 => ⟨S16x384, .f32⟩
  | 89 => ⟨S_, .f32⟩
  | 90 => ⟨S16x384, .f32⟩
  | 91 => ⟨S16x384, .f32⟩
  | 92 => ⟨S384x64, .f32⟩
  | 93 => ⟨S16x64, .f32⟩
  | 94 => ⟨S1x64, .f32⟩
  | 95 => ⟨S16x64, .f32⟩
  | 96 => ⟨S16x64, .f32⟩
  | 97 => ⟨S_, .f32⟩
  | 98 => ⟨S16x64, .f32⟩
  | 99 => ⟨S16x64, .f32⟩
  | 100 => ⟨S64x384, .f32⟩
  | 101 => ⟨S16x384, .f32⟩
  | 102 => ⟨S1x384, .f32⟩
  | 103 => ⟨S16x384, .f32⟩
  | 104 => ⟨S16x384, .f32⟩
  | 105 => ⟨S16x384, .f32⟩
  | 106 => ⟨S16x384, .f32⟩
  | 107 => ⟨S_, .f32⟩
  | 108 => ⟨S16x384, .f32⟩
  | 109 => ⟨S16x384, .f32⟩
  | 110 => ⟨S_, .f32⟩
  | 111 => ⟨S16x384, .f32⟩
  | 112 => ⟨S16x384, .f32⟩
  | 113 => ⟨S16x384, .f32⟩
  | 114 => ⟨S1x384, .f32⟩
  | 115 => ⟨S16x384, .f32⟩
  | 116 => ⟨S16x384, .f32⟩
  | 117 => ⟨S16x384, .f32⟩
  | 118 => ⟨S1x16x384, .f32⟩
  | 119 => ⟨S_, .i32⟩
  | 120 => ⟨S_, .i32⟩
  | 121 => ⟨S512x16x384, .f32⟩
  | 122 => ⟨S1x16x384, .f32⟩
  | 123 => ⟨S_, .i32⟩
  | 124 => ⟨S_, .i32⟩
  | 125 => ⟨S512x16x384, .f32⟩
  | 126 => ⟨S_, .i32⟩
  | 127 => ⟨S_, .i32⟩
  | _ => ⟨S16x512x2048, .i32⟩

abbrev hbmTy0_2 (i : Nat) : BufTy := match i % 128 with
  | 0 => ⟨S16x512x384, .f32⟩
  | 1 => ⟨S16x512x384, .f32⟩
  | 2 => ⟨S16x512x384, .f32⟩
  | 3 => ⟨S16x512, .i32⟩
  | 4 => ⟨S_, .i32⟩
  | 5 => ⟨S16, .i32⟩
  | 6 => ⟨S_, .i32⟩
  | 7 => ⟨S16, .i32⟩
  | 8 => ⟨S16, .i32⟩
  | 9 => ⟨S16, .i32⟩
  | 10 => ⟨S_, .i32⟩
  | 11 => ⟨S16, .i32⟩
  | 12 => ⟨S16, .i1⟩
  | 13 => ⟨S_, .i32⟩
  | 14 => ⟨S16, .i32⟩
  | 15 => ⟨S16, .i32⟩
  | 16 => ⟨S16, .i32⟩
  | 17 => ⟨S_, .i32⟩
  | 18 => ⟨S16, .i32⟩
  | 19 => ⟨S16, .i1⟩
  | 20 => ⟨S_, .i32⟩
  | 21 => ⟨S16, .i32⟩
  | 22 => ⟨S16, .i32⟩
  | 23 => ⟨S16, .i32⟩
  | 24 => ⟨S16x1, .i32⟩
  | 25 => ⟨S16x1, .i32⟩
  | 26 => ⟨S16x2, .i32⟩
  | 27 => ⟨S16x384, .f32⟩
  | 28 => ⟨S384x128, .f32⟩
  | 29 => ⟨S16x128, .f32⟩
  | 30 => ⟨S1x128, .f32⟩
  | 31 => ⟨S16x128, .f32⟩
  | 32 => ⟨S16x128, .f32⟩
  | _ => ⟨S16x512x2048, .i32⟩

abbrev hbmTy (i : Nat) : BufTy := match i / 128 with
  | 0 => hbmTy0_0 i
  | 1 => hbmTy0_1 i
  | 2 => hbmTy0_2 i
  | _ => ⟨S16x512x2048, .i32⟩

abbrev bufTy : (tb : Table) → Fin (tcTables nBuf tb) → BufTy
  | .hbm, ⟨i, _⟩ => hbmTy i
  | _, _ => ⟨S16x512x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_cst_4 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_6 : Ref sig .tc := ⟨.hbm, 38, rfl⟩
abbrev main_v16 : Ref sig .tc := ⟨.hbm, 39, rfl⟩
abbrev main_cst_7 : Ref sig .tc := ⟨.hbm, 40, rfl⟩
abbrev main_v17 : Ref sig .tc := ⟨.hbm, 41, rfl⟩
abbrev main_c_8 : Ref sig .tc := ⟨.hbm, 42, rfl⟩
abbrev main_v18_0 : Ref sig .tc := ⟨.hbm, 43, rfl⟩
abbrev main_v18_1 : Ref sig .tc := ⟨.hbm, 44, rfl⟩
abbrev main_v18_2 : Ref sig .tc := ⟨.hbm, 45, rfl⟩
abbrev main_v18_3 : Ref sig .tc := ⟨.hbm, 46, rfl⟩
abbrev main_v18_4 : Ref sig .tc := ⟨.hbm, 47, rfl⟩
abbrev main_v18_5 : Ref sig .tc := ⟨.hbm, 48, rfl⟩
abbrev main_v18_6 : Ref sig .tc := ⟨.hbm, 49, rfl⟩
abbrev main_v18_7 : Ref sig .tc := ⟨.hbm, 50, rfl⟩
abbrev main_v18_8 : Ref sig .tc := ⟨.hbm, 51, rfl⟩
abbrev main_v18_9 : Ref sig .tc := ⟨.hbm, 52, rfl⟩
abbrev main_v18_10 : Ref sig .tc := ⟨.hbm, 53, rfl⟩
abbrev main_v18_11 : Ref sig .tc := ⟨.hbm, 54, rfl⟩
abbrev main_v18_12 : Ref sig .tc := ⟨.hbm, 55, rfl⟩
abbrev main_v18_13 : Ref sig .tc := ⟨.hbm, 56, rfl⟩
abbrev main_v18_14 : Ref sig .tc := ⟨.hbm, 57, rfl⟩
abbrev main_v18_15 : Ref sig .tc := ⟨.hbm, 58, rfl⟩
abbrev main_v18_16 : Ref sig .tc := ⟨.hbm, 59, rfl⟩
abbrev main_v18_17 : Ref sig .tc := ⟨.hbm, 60, rfl⟩
abbrev main_v18_18 : Ref sig .tc := ⟨.hbm, 61, rfl⟩
abbrev main_while0c_c_33 : Ref sig .tc := ⟨.hbm, 62, rfl⟩
abbrev main_while0c_v46 : Ref sig .tc := ⟨.hbm, 63, rfl⟩
abbrev main_while0b_call0_c : Ref sig .tc := ⟨.hbm, 64, rfl⟩
abbrev main_while0b_call0_c_0 : Ref sig .tc := ⟨.hbm, 65, rfl⟩
abbrev main_while0b_call0_v0 : Ref sig .tc := ⟨.hbm, 66, rfl⟩
abbrev main_while0b_v46 : Ref sig .tc := ⟨.hbm, 67, rfl⟩
abbrev main_while0b_call1_c : Ref sig .tc := ⟨.hbm, 68, rfl⟩
abbrev main_while0b_call1_v0 : Ref sig .tc := ⟨.hbm, 69, rfl⟩
abbrev main_while0b_v47 : Ref sig .tc := ⟨.hbm, 70, rfl⟩
abbrev main_while0b_v48 : Ref sig .tc := ⟨.hbm, 71, rfl⟩
abbrev main_while0b_v49 : Ref sig .tc := ⟨.hbm, 72, rfl⟩
abbrev main_while0b_v50 : Ref sig .tc := ⟨.hbm, 73, rfl⟩
abbrev main_while0b_v51 : Ref sig .tc := ⟨.hbm, 74, rfl⟩
abbrev main_while0b_v52 : Ref sig .tc := ⟨.hbm, 75, rfl⟩
abbrev main_while0b_v53 : Ref sig .tc := ⟨.hbm, 76, rfl⟩
abbrev main_while0b_v54 : Ref sig .tc := ⟨.hbm, 77, rfl⟩
abbrev main_while0b_v55 : Ref sig .tc := ⟨.hbm, 78, rfl⟩
abbrev main_while0b_v56 : Ref sig .tc := ⟨.hbm, 79, rfl⟩
abbrev main_while0b_v57 : Ref sig .tc := ⟨.hbm, 80, rfl⟩
abbrev main_while0b_v58 : Ref sig .tc := ⟨.hbm, 81, rfl⟩
abbrev main_while0b_v59 : Ref sig .tc := ⟨.hbm, 82, rfl⟩
abbrev main_while0b_v60 : Ref sig .tc := ⟨.hbm, 83, rfl⟩
abbrev main_while0b_v61 : Ref sig .tc := ⟨.hbm, 84, rfl⟩
abbrev main_while0b_v62 : Ref sig .tc := ⟨.hbm, 85, rfl⟩
abbrev main_while0b_cst_33 : Ref sig .tc := ⟨.hbm, 86, rfl⟩
abbrev main_while0b_v63 : Ref sig .tc := ⟨.hbm, 87, rfl⟩
abbrev main_while0b_cst_34 : Ref sig .tc := ⟨.hbm, 88, rfl⟩
abbrev main_while0b_v64 : Ref sig .tc := ⟨.hbm, 89, rfl⟩
abbrev main_while0b_v65 : Ref sig .tc := ⟨.hbm, 90, rfl⟩
abbrev main_while0b_v66 : Ref sig .tc := ⟨.hbm, 91, rfl⟩
abbrev main_while0b_v67 : Ref sig .tc := ⟨.hbm, 92, rfl⟩
abbrev main_while0b_v68 : Ref sig .tc := ⟨.hbm, 93, rfl⟩
abbrev main_while0b_v69 : Ref sig .tc := ⟨.hbm, 94, rfl⟩
abbrev main_while0b_cst_35 : Ref sig .tc := ⟨.hbm, 95, rfl⟩
abbrev main_while0b_v70 : Ref sig .tc := ⟨.hbm, 96, rfl⟩
abbrev main_while0b_v71 : Ref sig .tc := ⟨.hbm, 97, rfl⟩
abbrev main_while0b_v72 : Ref sig .tc := ⟨.hbm, 98, rfl⟩
abbrev main_while0b_v73 : Ref sig .tc := ⟨.hbm, 99, rfl⟩
abbrev main_while0b_call2_call0_cst : Ref sig .tc := ⟨.hbm, 100, rfl⟩
abbrev main_while0b_call2_call0_v0 : Ref sig .tc := ⟨.hbm, 101, rfl⟩
abbrev main_while0b_v74 : Ref sig .tc := ⟨.hbm, 102, rfl⟩
abbrev main_while0b_v75 : Ref sig .tc := ⟨.hbm, 103, rfl⟩
abbrev main_while0b_v76 : Ref sig .tc := ⟨.hbm, 104, rfl⟩
abbrev main_while0b_v77 : Ref sig .tc := ⟨.hbm, 105, rfl⟩
abbrev main_while0b_cst_36 : Ref sig .tc := ⟨.hbm, 106, rfl⟩
abbrev main_while0b_v78 : Ref sig .tc := ⟨.hbm, 107, rfl⟩
abbrev main_while0b_cst_37 : Ref sig .tc := ⟨.hbm, 108, rfl⟩
abbrev main_while0b_v79 : Ref sig .tc := ⟨.hbm, 109, rfl⟩
abbrev main_while0b_v80 : Ref sig .tc := ⟨.hbm, 110, rfl⟩
abbrev main_while0b_v81 : Ref sig .tc := ⟨.hbm, 111, rfl⟩
abbrev main_while0b_v82 : Ref sig .tc := ⟨.hbm, 112, rfl⟩
abbrev main_while0b_v83 : Ref sig .tc := ⟨.hbm, 113, rfl⟩
abbrev main_while0b_v84 : Ref sig .tc := ⟨.hbm, 114, rfl⟩
abbrev main_while0b_cst_38 : Ref sig .tc := ⟨.hbm, 115, rfl⟩
abbrev main_while0b_v85 : Ref sig .tc := ⟨.hbm, 116, rfl⟩
abbrev main_while0b_v86 : Ref sig .tc := ⟨.hbm, 117, rfl⟩
abbrev main_while0b_v87 : Ref sig .tc := ⟨.hbm, 118, rfl⟩
abbrev main_while0b_v88 : Ref sig .tc := ⟨.hbm, 119, rfl⟩
abbrev main_while0b_call4_call0_cst : Ref sig .tc := ⟨.hbm, 120, rfl⟩
abbrev main_while0b_call4_call0_v0 : Ref sig .tc := ⟨.hbm, 121, rfl⟩
abbrev main_while0b_v89 : Ref sig .tc := ⟨.hbm, 122, rfl⟩
abbrev main_while0b_v90 : Ref sig .tc := ⟨.hbm, 123, rfl⟩
abbrev main_while0b_v91 : Ref sig .tc := ⟨.hbm, 124, rfl⟩
abbrev main_while0b_v92 : Ref sig .tc := ⟨.hbm, 125, rfl⟩
abbrev main_while0b_v93 : Ref sig .tc := ⟨.hbm, 126, rfl⟩
abbrev main_while0b_v94 : Ref sig .tc := ⟨.hbm, 127, rfl⟩
abbrev main_while0b_v95 : Ref sig .tc := ⟨.hbm, 128, rfl⟩
abbrev main_while0b_v96 : Ref sig .tc := ⟨.hbm, 129, rfl⟩
abbrev main_while0b_cst_39 : Ref sig .tc := ⟨.hbm, 130, rfl⟩
abbrev main_while0b_v97 : Ref sig .tc := ⟨.hbm, 131, rfl⟩
abbrev main_while0b_v98 : Ref sig .tc := ⟨.hbm, 132, rfl⟩
abbrev main_while0b_cst_40 : Ref sig .tc := ⟨.hbm, 133, rfl⟩
abbrev main_while0b_v99 : Ref sig .tc := ⟨.hbm, 134, rfl⟩
abbrev main_while0b_v100 : Ref sig .tc := ⟨.hbm, 135, rfl⟩
abbrev main_while0b_v101 : Ref sig .tc := ⟨.hbm, 136, rfl⟩
abbrev main_while0b_v102 : Ref sig .tc := ⟨.hbm, 137, rfl⟩
abbrev main_while0b_v103 : Ref sig .tc := ⟨.hbm, 138, rfl⟩
abbrev main_while0b_cst_41 : Ref sig .tc := ⟨.hbm, 139, rfl⟩
abbrev main_while0b_v104 : Ref sig .tc := ⟨.hbm, 140, rfl⟩
abbrev main_while0b_v105 : Ref sig .tc := ⟨.hbm, 141, rfl⟩
abbrev main_while0b_cst_42 : Ref sig .tc := ⟨.hbm, 142, rfl⟩
abbrev main_while0b_v106 : Ref sig .tc := ⟨.hbm, 143, rfl⟩
abbrev main_while0b_v107 : Ref sig .tc := ⟨.hbm, 144, rfl⟩
abbrev main_while0b_v108 : Ref sig .tc := ⟨.hbm, 145, rfl⟩
abbrev main_while0b_v109 : Ref sig .tc := ⟨.hbm, 146, rfl⟩
abbrev main_while0b_v110 : Ref sig .tc := ⟨.hbm, 147, rfl⟩
abbrev main_while0b_cst_43 : Ref sig .tc := ⟨.hbm, 148, rfl⟩
abbrev main_while0b_v111 : Ref sig .tc := ⟨.hbm, 149, rfl⟩
abbrev main_while0b_v112 : Ref sig .tc := ⟨.hbm, 150, rfl⟩
abbrev main_while0b_cst_44 : Ref sig .tc := ⟨.hbm, 151, rfl⟩
abbrev main_while0b_v113 : Ref sig .tc := ⟨.hbm, 152, rfl⟩
abbrev main_while0b_v114 : Ref sig .tc := ⟨.hbm, 153, rfl⟩
abbrev main_while0b_v115 : Ref sig .tc := ⟨.hbm, 154, rfl⟩
abbrev main_while0b_v116 : Ref sig .tc := ⟨.hbm, 155, rfl⟩
abbrev main_while0b_v117 : Ref sig .tc := ⟨.hbm, 156, rfl⟩
abbrev main_while0b_v118 : Ref sig .tc := ⟨.hbm, 157, rfl⟩
abbrev main_while0b_v119 : Ref sig .tc := ⟨.hbm, 158, rfl⟩
abbrev main_while0b_v120 : Ref sig .tc := ⟨.hbm, 159, rfl⟩
abbrev main_while0b_v121 : Ref sig .tc := ⟨.hbm, 160, rfl⟩
abbrev main_while0b_v122 : Ref sig .tc := ⟨.hbm, 161, rfl⟩
abbrev main_while0b_v123 : Ref sig .tc := ⟨.hbm, 162, rfl⟩
abbrev main_while0b_v124 : Ref sig .tc := ⟨.hbm, 163, rfl⟩
abbrev main_while0b_v125 : Ref sig .tc := ⟨.hbm, 164, rfl⟩
abbrev main_while0b_v126 : Ref sig .tc := ⟨.hbm, 165, rfl⟩
abbrev main_while0b_v127 : Ref sig .tc := ⟨.hbm, 166, rfl⟩
abbrev main_while0b_v128 : Ref sig .tc := ⟨.hbm, 167, rfl⟩
abbrev main_while0b_v129 : Ref sig .tc := ⟨.hbm, 168, rfl⟩
abbrev main_while0b_v130 : Ref sig .tc := ⟨.hbm, 169, rfl⟩
abbrev main_while0b_v131 : Ref sig .tc := ⟨.hbm, 170, rfl⟩
abbrev main_while0b_v132 : Ref sig .tc := ⟨.hbm, 171, rfl⟩
abbrev main_while0b_v133 : Ref sig .tc := ⟨.hbm, 172, rfl⟩
abbrev main_while0b_v134 : Ref sig .tc := ⟨.hbm, 173, rfl⟩
abbrev main_while0b_v135 : Ref sig .tc := ⟨.hbm, 174, rfl⟩
abbrev main_while0b_v136 : Ref sig .tc := ⟨.hbm, 175, rfl⟩
abbrev main_while0b_v137 : Ref sig .tc := ⟨.hbm, 176, rfl⟩
abbrev main_while0b_v138 : Ref sig .tc := ⟨.hbm, 177, rfl⟩
abbrev main_while0b_cst_45 : Ref sig .tc := ⟨.hbm, 178, rfl⟩
abbrev main_while0b_v139 : Ref sig .tc := ⟨.hbm, 179, rfl⟩
abbrev main_while0b_cst_46 : Ref sig .tc := ⟨.hbm, 180, rfl⟩
abbrev main_while0b_v140 : Ref sig .tc := ⟨.hbm, 181, rfl⟩
abbrev main_while0b_v141 : Ref sig .tc := ⟨.hbm, 182, rfl⟩
abbrev main_while0b_cst_47 : Ref sig .tc := ⟨.hbm, 183, rfl⟩
abbrev main_while0b_v142 : Ref sig .tc := ⟨.hbm, 184, rfl⟩
abbrev main_while0b_v143 : Ref sig .tc := ⟨.hbm, 185, rfl⟩
abbrev main_while0b_v144 : Ref sig .tc := ⟨.hbm, 186, rfl⟩
abbrev main_while0b_v145 : Ref sig .tc := ⟨.hbm, 187, rfl⟩
abbrev main_while0b_v146 : Ref sig .tc := ⟨.hbm, 188, rfl⟩
abbrev main_while0b_v147 : Ref sig .tc := ⟨.hbm, 189, rfl⟩
abbrev main_while0b_v148 : Ref sig .tc := ⟨.hbm, 190, rfl⟩
abbrev main_while0b_v149 : Ref sig .tc := ⟨.hbm, 191, rfl⟩
abbrev main_while0b_v150 : Ref sig .tc := ⟨.hbm, 192, rfl⟩
abbrev main_while0b_v151 : Ref sig .tc := ⟨.hbm, 193, rfl⟩
abbrev main_while0b_call6_call0_cst : Ref sig .tc := ⟨.hbm, 194, rfl⟩
abbrev main_while0b_call6_call0_v0 : Ref sig .tc := ⟨.hbm, 195, rfl⟩
abbrev main_while0b_v152 : Ref sig .tc := ⟨.hbm, 196, rfl⟩
abbrev main_while0b_cst_48 : Ref sig .tc := ⟨.hbm, 197, rfl⟩
abbrev main_while0b_v153 : Ref sig .tc := ⟨.hbm, 198, rfl⟩
abbrev main_while0b_cst_49 : Ref sig .tc := ⟨.hbm, 199, rfl⟩
abbrev main_while0b_v154 : Ref sig .tc := ⟨.hbm, 200, rfl⟩
abbrev main_while0b_v155 : Ref sig .tc := ⟨.hbm, 201, rfl⟩
abbrev main_while0b_v156 : Ref sig .tc := ⟨.hbm, 202, rfl⟩
abbrev main_while0b_v157 : Ref sig .tc := ⟨.hbm, 203, rfl⟩
abbrev main_while0b_v158 : Ref sig .tc := ⟨.hbm, 204, rfl⟩
abbrev main_while0b_v159 : Ref sig .tc := ⟨.hbm, 205, rfl⟩
abbrev main_while0b_cst_50 : Ref sig .tc := ⟨.hbm, 206, rfl⟩
abbrev main_while0b_v160 : Ref sig .tc := ⟨.hbm, 207, rfl⟩
abbrev main_while0b_v161 : Ref sig .tc := ⟨.hbm, 208, rfl⟩
abbrev main_while0b_v162 : Ref sig .tc := ⟨.hbm, 209, rfl⟩
abbrev main_while0b_v163 : Ref sig .tc := ⟨.hbm, 210, rfl⟩
abbrev main_while0b_v164 : Ref sig .tc := ⟨.hbm, 211, rfl⟩
abbrev main_while0b_v165 : Ref sig .tc := ⟨.hbm, 212, rfl⟩
abbrev main_while0b_v166 : Ref sig .tc := ⟨.hbm, 213, rfl⟩
abbrev main_while0b_v167 : Ref sig .tc := ⟨.hbm, 214, rfl⟩
abbrev main_while0b_cst_51 : Ref sig .tc := ⟨.hbm, 215, rfl⟩
abbrev main_while0b_v168 : Ref sig .tc := ⟨.hbm, 216, rfl⟩
abbrev main_while0b_cst_52 : Ref sig .tc := ⟨.hbm, 217, rfl⟩
abbrev main_while0b_v169 : Ref sig .tc := ⟨.hbm, 218, rfl⟩
abbrev main_while0b_v170 : Ref sig .tc := ⟨.hbm, 219, rfl⟩
abbrev main_while0b_v171 : Ref sig .tc := ⟨.hbm, 220, rfl⟩
abbrev main_while0b_v172 : Ref sig .tc := ⟨.hbm, 221, rfl⟩
abbrev main_while0b_v173 : Ref sig .tc := ⟨.hbm, 222, rfl⟩
abbrev main_while0b_v174 : Ref sig .tc := ⟨.hbm, 223, rfl⟩
abbrev main_while0b_v175 : Ref sig .tc := ⟨.hbm, 224, rfl⟩
abbrev main_while0b_cst_53 : Ref sig .tc := ⟨.hbm, 225, rfl⟩
abbrev main_while0b_v176 : Ref sig .tc := ⟨.hbm, 226, rfl⟩
abbrev main_while0b_v177 : Ref sig .tc := ⟨.hbm, 227, rfl⟩
abbrev main_while0b_v178 : Ref sig .tc := ⟨.hbm, 228, rfl⟩
abbrev main_while0b_v179 : Ref sig .tc := ⟨.hbm, 229, rfl⟩
abbrev main_while0b_v180 : Ref sig .tc := ⟨.hbm, 230, rfl⟩
abbrev main_while0b_v181 : Ref sig .tc := ⟨.hbm, 231, rfl⟩
abbrev main_while0b_v182 : Ref sig .tc := ⟨.hbm, 232, rfl⟩
abbrev main_while0b_v183 : Ref sig .tc := ⟨.hbm, 233, rfl⟩
abbrev main_while0b_v184 : Ref sig .tc := ⟨.hbm, 234, rfl⟩
abbrev main_while0b_cst_54 : Ref sig .tc := ⟨.hbm, 235, rfl⟩
abbrev main_while0b_v185 : Ref sig .tc := ⟨.hbm, 236, rfl⟩
abbrev main_while0b_v186 : Ref sig .tc := ⟨.hbm, 237, rfl⟩
abbrev main_while0b_cst_55 : Ref sig .tc := ⟨.hbm, 238, rfl⟩
abbrev main_while0b_v187 : Ref sig .tc := ⟨.hbm, 239, rfl⟩
abbrev main_while0b_v188 : Ref sig .tc := ⟨.hbm, 240, rfl⟩
abbrev main_while0b_v189 : Ref sig .tc := ⟨.hbm, 241, rfl⟩
abbrev main_while0b_v190 : Ref sig .tc := ⟨.hbm, 242, rfl⟩
abbrev main_while0b_v191 : Ref sig .tc := ⟨.hbm, 243, rfl⟩
abbrev main_while0b_v192 : Ref sig .tc := ⟨.hbm, 244, rfl⟩
abbrev main_while0b_v193 : Ref sig .tc := ⟨.hbm, 245, rfl⟩
abbrev main_while0b_call7_v0 : Ref sig .tc := ⟨.hbm, 246, rfl⟩
abbrev main_while0b_call7_c : Ref sig .tc := ⟨.hbm, 247, rfl⟩
abbrev main_while0b_call7_c_0 : Ref sig .tc := ⟨.hbm, 248, rfl⟩
abbrev main_while0b_v194 : Ref sig .tc := ⟨.hbm, 249, rfl⟩
abbrev main_while0b_call8_v0 : Ref sig .tc := ⟨.hbm, 250, rfl⟩
abbrev main_while0b_call8_c : Ref sig .tc := ⟨.hbm, 251, rfl⟩
abbrev main_while0b_call8_c_0 : Ref sig .tc := ⟨.hbm, 252, rfl⟩
abbrev main_while0b_v195 : Ref sig .tc := ⟨.hbm, 253, rfl⟩
abbrev main_while0b_c_56 : Ref sig .tc := ⟨.hbm, 254, rfl⟩
abbrev main_while0b_v196 : Ref sig .tc := ⟨.hbm, 255, rfl⟩
abbrev main_v19 : Ref sig .tc := ⟨.hbm, 256, rfl⟩
abbrev main_v20 : Ref sig .tc := ⟨.hbm, 257, rfl⟩
abbrev main_v21 : Ref sig .tc := ⟨.hbm, 258, rfl⟩
abbrev main_v22 : Ref sig .tc := ⟨.hbm, 259, rfl⟩
abbrev main_c_9 : Ref sig .tc := ⟨.hbm, 260, rfl⟩
abbrev main_v23 : Ref sig .tc := ⟨.hbm, 261, rfl⟩
abbrev main_c_10 : Ref sig .tc := ⟨.hbm, 262, rfl⟩
abbrev main_v24 : Ref sig .tc := ⟨.hbm, 263, rfl⟩
abbrev main_v25 : Ref sig .tc := ⟨.hbm, 264, rfl⟩
abbrev main_v26 : Ref sig .tc := ⟨.hbm, 265, rfl⟩
abbrev main_c_11 : Ref sig .tc := ⟨.hbm, 266, rfl⟩
abbrev main_v27 : Ref sig .tc := ⟨.hbm, 267, rfl⟩
abbrev main_v28 : Ref sig .tc := ⟨.hbm, 268, rfl⟩
abbrev main_c_12 : Ref sig .tc := ⟨.hbm, 269, rfl⟩
abbrev main_v29 : Ref sig .tc := ⟨.hbm, 270, rfl⟩
abbrev main_v30 : Ref sig .tc := ⟨.hbm, 271, rfl⟩
abbrev main_v31 : Ref sig .tc := ⟨.hbm, 272, rfl⟩
abbrev main_c_13 : Ref sig .tc := ⟨.hbm, 273, rfl⟩
abbrev main_v32 : Ref sig .tc := ⟨.hbm, 274, rfl⟩
abbrev main_v33 : Ref sig .tc := ⟨.hbm, 275, rfl⟩
abbrev main_c_14 : Ref sig .tc := ⟨.hbm, 276, rfl⟩
abbrev main_v34 : Ref sig .tc := ⟨.hbm, 277, rfl⟩
abbrev main_v35 : Ref sig .tc := ⟨.hbm, 278, rfl⟩
abbrev main_v36 : Ref sig .tc := ⟨.hbm, 279, rfl⟩
abbrev main_v37 : Ref sig .tc := ⟨.hbm, 280, rfl⟩
abbrev main_v38 : Ref sig .tc := ⟨.hbm, 281, rfl⟩
abbrev main_v39 : Ref sig .tc := ⟨.hbm, 282, rfl⟩
abbrev main_v40 : Ref sig .tc := ⟨.hbm, 283, rfl⟩
abbrev main_v41 : Ref sig .tc := ⟨.hbm, 284, rfl⟩
abbrev main_v42 : Ref sig .tc := ⟨.hbm, 285, rfl⟩
abbrev main_v43 : Ref sig .tc := ⟨.hbm, 286, rfl⟩
abbrev main_v44 : Ref sig .tc := ⟨.hbm, 287, rfl⟩
abbrev main_v45 : Ref sig .tc := ⟨.hbm, 288, rfl⟩

abbrev nD : Nat := 1
abbrev τ : Topo := Topo.v7x

variable {F : FTy → Type} [FloatOps F]

abbrev main_while0_count : Scf.Loop 32 := ⟨0#32, 512#32, 1#32⟩
-- ==== Proof.Ideal.Emb.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x512x2048 := Rect.unit (s := S1x512x2048) ![0, 0, 0] S1x512x2048.size inb_S1x512x2048_S1x512x2048_0_0_0
abbrev r0_1 : Rect S2048x128 := Rect.unit (s := S2048x128) ![0, 0] S2048x128.size inb_S2048x128_S2048x128_0_0
abbrev r0_2 : Rect S1x512x128 := Rect.unit (s := S1x512x128) ![0, 0, 0] S1x512x128.size inb_S1x512x128_S1x512x128_0_0_0
abbrev r0_3 : Rect S1x8x128 := Rect.unit (s := S1x8x128) ![0, 0, 0] S1x8x128.size inb_S1x8x128_S1x8x128_0_0_0

/-- The embeddings that one grid point leaves. -/
def out0_2 (x0 : Vec F S1x512x2048 .i32) (x1 : Vec F S2048x128 .bf16) : Vec F S1x512x128 .bf16 :=
  View.canon [⟨r0_2, k0_pay2 (View.ld x0 r0_0) (View.ld x1 r0_1)⟩]

/-- Its one store covers the block. -/
theorem cover0_2 (p0 : Vec F S1x512x128 .bf16) (y : S1x512x128.Idx) :
    ∃ pc ∈ ([⟨r0_2, p0⟩] : List (View.Piece (Elt F) S1x512x128 .bf16)), y ∈ pc.1.set :=
  View.cover_of_tiled [⟨r0_2, p0⟩] S1x512x128.size (by rfl) y

/-- The counts that it leaves. -/
def out0_3 (x0 : Vec F S1x512x2048 .i32) (x1 : Vec F S2048x128 .bf16) : Vec F S1x8x128 .f32 :=
  View.canon [⟨r0_3, k0_pay3 (View.ld x0 r0_0) (View.ld x1 r0_1)⟩]

/-- Its one store covers this block too. -/
theorem cover0_3 (p0 : Vec F S1x8x128 .f32) (y : S1x8x128.Idx) :
    ∃ pc ∈ ([⟨r0_3, p0⟩] : List (View.Piece (Elt F) S1x8x128 .f32)), y ∈ pc.1.set :=
  View.cover_of_tiled [⟨r0_3, p0⟩] S1x8x128.size (by rfl) y

set_option maxHeartbeats 1000000 in
theorem sound_kernel0 (c : Dev nD) (E : Set ℕ) (i : grid0.Coords) (arg1 : Memref sig .tc .vmem S1x512x2048 .i32) (harg1 : arg1.IsWhole) (arg2 : Memref sig .tc .vmem S2048x128 .bf16) (harg2 : arg2.IsWhole) (arg3 : Memref sig .tc .vmem S1x512x128 .bf16) (harg3 : arg3.IsWhole) (arg4 : Memref sig .tc .vmem S1x8x128 .f32) (harg4 : arg4.IsWhole)
    (x0 : Vec F S1x512x2048 .i32) (x1 : Vec F S2048x128 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__emb_body i arg1 harg1 arg2 harg2 arg3 harg3 arg4 harg4) K := by
  simp only [cc0__emb_body_eq_skeleton]; unfold cc0__emb_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-- What each window holds before and after a grid point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body runs, and leaves what was said. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row0 (t : Fin cfg0.N) :
    defs₀ (F := F) .tc cfg0.body (cfg0.bodyArgs t (cfg0.slots t)) = bodyAt0 t := by
  unfold defs₀; rw [Defs.onTc_tc]

/-- So at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.Ideal.Rec.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev VO1_5 : View sig .tc .vmem S528x16x384 .bf16 := (Memref.whole cc1_stg5_0 : Memref sig .tc .vmem S528x16x384 .bf16).view
abbrev VO1_6 : View sig .tc .vmem S512x16x128 .f32 := (Memref.whole cc1_stg6_0 : Memref sig .tc .vmem S512x16x128 .f32).view
abbrev ms1_0 (t : Fin cfg1.N) : Memref sig .tc .vmem S512x16x128 .bf16 := win1_0.stage (cfg1.slots t 0)
abbrev hs1_0 (t : Fin cfg1.N) : (ms1_0 t).IsWhole := hstage1_0 0
abbrev ms1_1 (t : Fin cfg1.N) : Memref sig .tc .vmem S512x128 .bf16 := win1_1.stage (cfg1.slots t 1)
abbrev hs1_1 (t : Fin cfg1.N) : (ms1_1 t).IsWhole := hstage1_1 0
abbrev ms1_2 (t : Fin cfg1.N) : Memref sig .tc .vmem S512x1536 .bf16 := win1_2.stage (cfg1.slots t 2)
abbrev hs1_2 (t : Fin cfg1.N) : (ms1_2 t).IsWhole := hstage1_2 0
abbrev ms1_3 (t : Fin cfg1.N) : Memref sig .tc .vmem S1x128 .f32 := win1_3.stage (cfg1.slots t 3)
abbrev hs1_3 (t : Fin cfg1.N) : (ms1_3 t).IsWhole := hstage1_3 0
abbrev ms1_4 (t : Fin cfg1.N) : Memref sig .tc .vmem S1x1536 .f32 := win1_4.stage (cfg1.slots t 4)
abbrev hs1_4 (t : Fin cfg1.N) : (ms1_4 t).IsWhole := hstage1_4 0
abbrev ms1_5 (t : Fin cfg1.N) : Memref sig .tc .vmem S528x16x384 .bf16 := win1_5.stage (cfg1.slots t 5)
abbrev hs1_5 (t : Fin cfg1.N) : (ms1_5 t).IsWhole := hstage1_5 0
abbrev ms1_6 (t : Fin cfg1.N) : Memref sig .tc .vmem S512x16x128 .f32 := win1_6.stage (cfg1.slots t 6)
abbrev hs1_6 (t : Fin cfg1.N) : (ms1_6 t).IsWhole := hstage1_6 0
abbrev scM1_0 : Memref sig .tc .vmem S16x384 .f32 := Memref.whole cc1_scratch0
abbrev scM1_1 : Memref sig .tc .vmem S16x384 .f32 := Memref.whole cc1_scratch1
abbrev scM1_2 : Memref sig .tc .vmem S16x128 .f32 := Memref.whole cc1_scratch2

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg9_0), ((c : Thread nD τ).loc cc2_stg9_0) ↦{fullShare} f) ∗ (∃ f : Buf (Elt F) ((c : Thread nD τ).loc cc2_stg10_0), ((c : Thread nD τ).loc cc2_stg10_0) ↦{fullShare} f) ∗ (∃ f : Buf (Elt F) ((c : Thread nD τ).loc cc2_stg11_0), ((c : Thread nD τ).loc cc2_stg11_0) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, scM1_1, scM1_2, owns_whole]; try rfl
/-- What the recurrence carries from one step to the next: the cell, the hidden state and the two older distances. -/
structure RecSt (F : FTy → Type) [FloatOps F] where
  /-- the cell -/
  c : Vec F S16x384 .f32
  /-- the hidden state -/
  h : Vec F S16x384 .f32
  /-- the distances -/
  d : Vec F S16x128 .f32

/-- The recurrence's weights as one trip reads them: the two halves of the packed projection and their biases. -/
structure RecW (F : FTy → Type) [FloatOps F] where
  /-- the columns of the two masters -/
  wm : Vec F S512x128 .bf16
  /-- the columns of the four gates -/
  wg : Vec F S512x1536 .bf16
  /-- the bias of the masters -/
  bm : Vec F S1x128 .f32
  /-- the bias of the gates -/
  bg : Vec F S1x1536 .f32

variable (w : RecW F) (x : Vec F S1x16x128 .bf16) (s : RecSt F)

/-- The first step of a trip: the gates. -/
def gateA : FVec F S16x1536 .f32 := k1_pay16 (k1_pay2 w.wg) (k1_pay4 w.bg) s.h x
/-- The first step: the three values of the first master. -/
def fA0 : FVec F S16x1 .f32 := k1_pay18 (k1_pay1 w.wm) (k1_pay3 w.bm) s.h x
/-- second value -/
def fA1 : FVec F S16x1 .f32 := k1_pay20 (k1_pay1 w.wm) (k1_pay3 w.bm) s.h x
/-- third value -/
def fA2 : FVec F S16x1 .f32 := k1_pay21 (k1_pay1 w.wm) (k1_pay3 w.bm) s.h x
/-- The first step: the three values of the second master. -/
def iA0 : FVec F S16x1 .f32 := k1_pay23 (k1_pay1 w.wm) (k1_pay3 w.bm) s.h x
/-- second value -/
def iA1 : FVec F S16x1 .f32 := k1_pay24 (k1_pay1 w.wm) (k1_pay3 w.bm) s.h x
/-- third value -/
def iA2 : FVec F S16x1 .f32 := k1_pay25 (k1_pay1 w.wm) (k1_pay3 w.bm) s.h x

/-- The state after the first step of a trip. -/
def recA : RecSt F where
  c := k1_pay32 s.c (gateA w x s) (fA2 w x s) (iA2 w x s)
    (k1_pay26 s.c (gateA w x s) (fA0 w x s) (iA0 w x s) (iA1 w x s) (iA2 w x s))
    (k1_pay29 s.c (gateA w x s) (fA1 w x s) (iA1 w x s) (iA2 w x s))
  h := k1_pay33 s.c (gateA w x s) (fA2 w x s) (iA2 w x s)
    (k1_pay27 s.c (gateA w x s) (fA0 w x s) (iA0 w x s) (iA1 w x s) (iA2 w x s))
    (k1_pay28 (gateA w x s))
    (k1_pay30 s.c (gateA w x s) (fA1 w x s) (iA1 w x s) (iA2 w x s))
  d := k1_pay34 s.d (fA0 w x s) (fA1 w x s) (fA2 w x s)

/-- The window weights the first step of a trip stores. -/
def disA : FVec F S16x128 .f32 :=
  k1_pay44 (recA w x s).d (k1_pay35 s.d (fA0 w x s) (fA1 w x s) (fA2 w x s)) (k1_pay36 s.d (fA0 w x s) (fA1 w x s) (fA2 w x s))
    (k1_pay37 s.d (fA0 w x s) (fA1 w x s) (fA2 w x s)) (k1_pay38 s.d (fA0 w x s) (fA1 w x s) (fA2 w x s))
    (k1_pay39 s.d (fA0 w x s) (fA1 w x s) (fA2 w x s)) (k1_pay40 s.d (fA0 w x s) (fA1 w x s) (fA2 w x s))
    (k1_pay41 s.d (fA0 w x s) (fA1 w x s) (fA2 w x s)) (k1_pay42 s.d (fA0 w x s) (fA1 w x s) (fA2 w x s))
    (k1_pay43 s.d (fA0 w x s) (fA1 w x s) (fA2 w x s))

/-- The second step of a trip: the gates. -/
def gateB : FVec F S16x1536 .f32 := k1_pay50 (k1_pay2 w.wg) (k1_pay4 w.bg) s.h x
/-- The second step: the three values of the first master. -/
def fB0 : FVec F S16x1 .f32 := k1_pay52 (k1_pay1 w.wm) (k1_pay3 w.bm) s.h x
/-- second value -/
def fB1 : FVec F S16x1 .f32 := k1_pay54 (k1_pay1 w.wm) (k1_pay3 w.bm) s.h x
/-- third value -/
def fB2 : FVec F S16x1 .f32 := k1_pay55 (k1_pay1 w.wm) (k1_pay3 w.bm) s.h x
/-- The second step: the second master as a row of three. -/
def iB : FVec F S16x3 .f32 := k1_pay56 (k1_pay1 w.wm) (k1_pay3 w.bm) s.h x

/-- The state after the second step of a trip. -/
def recB : RecSt F where
  c := k1_pay11 (k1_pay69 s.c (gateB w x s) (fB2 w x s) (k1_pay58 (iB w x s)) (k1_pay60 s.c (gateB w x s) (fB0 w x s) (iB w x s))
    (k1_pay63 (gateB w x s)) (k1_pay65 s.c (gateB w x s) (fB1 w x s) (iB w x s)) (k1_pay66 (gateB w x s) (fB1 w x s) (iB w x s)))
  h := k1_pay12 (k1_pay70 s.c (gateB w x s) (fB2 w x s) (k1_pay58 (iB w x s)) (k1_pay61 s.c (gateB w x s) (fB0 w x s) (iB w x s))
    (k1_pay62 (gateB w x s))
    (k1_pay63 (gateB w x s)) (k1_pay65 s.c (gateB w x s) (fB1 w x s) (iB w x s)) (k1_pay66 (gateB w x s) (fB1 w x s) (iB w x s)))
  d := k1_pay13 (k1_pay71 s.d (fB0 w x s) (fB1 w x s) (fB2 w x s))

/-- The window weights the second step of a trip stores. -/
def disB : FVec F S16x128 .f32 :=
  k1_pay80 (k1_pay71 s.d (fB0 w x s) (fB1 w x s) (fB2 w x s)) (k1_pay72 s.d (fB0 w x s) (fB1 w x s) (fB2 w x s)) (k1_pay73 s.d (fB0 w x s) (fB1 w x s) (fB2 w x s))
    (k1_pay74 s.d (fB0 w x s) (fB1 w x s) (fB2 w x s)) (k1_pay75 s.d (fB0 w x s) (fB1 w x s) (fB2 w x s))
    (k1_pay76 s.d (fB0 w x s) (fB1 w x s) (fB2 w x s)) (k1_pay77 s.d (fB0 w x s) (fB1 w x s) (fB2 w x s))
    (k1_pay78 s.d (fB0 w x s) (fB1 w x s) (fB2 w x s)) (k1_pay79 s.d (fB0 w x s) (fB1 w x s) (fB2 w x s))

/-- The hidden state the second step of a trip stores. -/
def hidB : FVec F S16x384 .bf16 :=
  k1_pay81 (k1_pay70 s.c (gateB w x s) (fB2 w x s) (k1_pay58 (iB w x s)) (k1_pay61 s.c (gateB w x s) (fB0 w x s) (iB w x s))
    (k1_pay62 (gateB w x s))
    (k1_pay63 (gateB w x s)) (k1_pay65 s.c (gateB w x s) (fB1 w x s) (iB w x s)) (k1_pay66 (gateB w x s) (fB1 w x s) (iB w x s)))

variable (X : Vec F S512x16x128 .bf16) (k : Fin k1_t1_loop.trips)

/-- The input row of a trip's first step. -/
def xA : Vec F S1x16x128 .bf16 := View.ld X (Rect.unit (s := S512x16x128) (k1_off1 k) S1x16x128.size (k1_off1_inb k))
/-- The input row of a trip's second step. -/
def xB : Vec F S1x16x128 .bf16 := View.ld X (Rect.unit (s := S512x16x128) (k1_off3 k) S1x16x128.size (k1_off3_inb k))

/-- The state as a trip reads it. -/
def ldSt (s : RecSt F) : RecSt F where
  c := View.ld s.c (Rect.unit (s := S16x384) ![0, 0] S16x384.size inb_S16x384_S16x384_0_0)
  h := View.ld s.h (Rect.unit (s := S16x384) ![0, 0] S16x384.size inb_S16x384_S16x384_0_0)
  d := View.ld s.d (Rect.unit (s := S16x128) ![0, 0] S16x128.size inb_S16x128_S16x128_0_0)

/-- A state written whole and read back is the same state. -/
theorem ldSt_eq (s : RecSt F) : ldSt s = s := by
  have h0 : (![0, 0] : Fin 2 → ℕ) = fun _ => 0 := by funext a; fin_cases a <;> rfl
  unfold ldSt
  rw [View.ld_unit_zero h0, View.ld_unit_zero h0, View.ld_unit_zero h0]

/-- The state after trip `k`. -/
def recTrip : RecSt F := recB w (xB X k) (recA w (xA X k) (ldSt s))

/-- The state before trip `n`, from state `s`. -/
def recSt : ℕ → RecSt F
  | 0 => s
  | n + 1 => if h : n < k1_t1_loop.trips then recTrip w (recSt n) X ⟨n, h⟩ else recSt n

/-- The state after one more trip. -/
theorem recSt_succ (k : Fin k1_t1_loop.trips) : recSt w s X (k.val + 1) = recTrip w (recSt w s X k.val) X k := dif_pos k.isLt

/-- What trip `k` writes of the hidden states, last first. -/
def hTrip : List (View.Piece (Elt F) S528x16x384 .bf16) :=
  [⟨Rect.unit (s := S528x16x384) (k1_off4 k) S1x16x384.size (k1_off4_inb k), k1_pay9 (hidB w (xB X k) (recA w (xA X k) (ldSt s)))⟩,
   ⟨Rect.unit (s := S528x16x384) (k1_off2 k) S1x16x384.size (k1_off2_inb k), k1_pay46 (k1_pay45 (recA w (xA X k) (ldSt s)).h)⟩]
/-- What trip `k` writes of the window weights, last first. -/
def dTrip : List (View.Piece (Elt F) S512x16x128 .f32) :=
  [⟨Rect.unit (s := S512x16x128) (k1_off3 k) S1x16x128.size (k1_off3_inb k), k1_pay10 (disB w (xB X k) (recA w (xA X k) (ldSt s)))⟩,
   ⟨Rect.unit (s := S512x16x128) (k1_off1 k) S1x16x128.size (k1_off1_inb k), k1_pay47 (disA w (xA X k) (ldSt s))⟩]
/-- What trip `k` writes of the cell. -/
def cTrip : List (View.Piece (Elt F) S16x384 .f32) :=
  [⟨Rect.unit (s := S16x384) ![0, 0] S16x384.size inb_S16x384_S16x384_0_0, (recTrip w s X k).c⟩]
/-- What trip `k` writes of the hidden state it carries. -/
def gTrip : List (View.Piece (Elt F) S16x384 .f32) :=
  [⟨Rect.unit (s := S16x384) ![0, 0] S16x384.size inb_S16x384_S16x384_0_0, (recTrip w s X k).h⟩]
/-- What trip `k` writes of the distances. -/
def eTrip : List (View.Piece (Elt F) S16x128 .f32) :=
  [⟨Rect.unit (s := S16x128) ![0, 0] S16x128.size inb_S16x128_S16x128_0_0, (recTrip w s X k).d⟩]

/-- The pieces the trips before trip `n` write, the last first. -/
def allPieces {A : Type} (f : RecSt F → Fin k1_t1_loop.trips → List A) : ℕ → List A
  | 0 => []
  | n + 1 => if h : n < k1_t1_loop.trips then f (recSt w s X n) ⟨n, h⟩ ++ allPieces f n else allPieces f n

/-- The pieces stored after one more trip. -/
theorem allPieces_succ {A : Type} (f : RecSt F → Fin k1_t1_loop.trips → List A) (k : Fin k1_t1_loop.trips) :
    allPieces w s X f (k.val + 1) = f (recSt w s X k.val) k ++ allPieces w s X f k.val := dif_pos k.isLt

/-- One trip's resources. -/
abbrev RecRes (c : Dev nD) (arg0 : Memref sig .tc .vmem S512x16x128 .bf16) (harg0 : arg0.IsWhole) (arg1 : Memref sig .tc .vmem S512x128 .bf16) (harg1 : arg1.IsWhole) (arg2 : Memref sig .tc .vmem S512x1536 .bf16) (harg2 : arg2.IsWhole) (arg3 : Memref sig .tc .vmem S1x128 .f32) (harg3 : arg3.IsWhole) (arg4 : Memref sig .tc .vmem S1x1536 .f32) (harg4 : arg4.IsWhole) (arg5 : Memref sig .tc .vmem S528x16x384 .bf16) (harg5 : arg5.IsWhole) (arg6 : Memref sig .tc .vmem S512x16x128 .f32) (harg6 : arg6.IsWhole) (arg7 : Memref sig .tc .vmem S16x384 .f32) (harg7 : arg7.IsWhole) (arg8 : Memref sig .tc .vmem S16x384 .f32) (harg8 : arg8.IsWhole) (arg9 : Memref sig .tc .vmem S16x128 .f32) (harg9 : arg9.IsWhole) (X0 : BufTy.Contents (Elt F) arg0.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) : sProp 𝕄 :=
  iprop((arg0.view.loc (c : Thread nD τ) ↦[arg0.view.set]{fullShare} X0) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

/-- The state three buffers hold. -/
abbrev stOf (arg0 : Memref sig .tc .vmem S512x16x128 .bf16) (harg0 : arg0.IsWhole) (arg1 : Memref sig .tc .vmem S512x128 .bf16) (harg1 : arg1.IsWhole) (arg2 : Memref sig .tc .vmem S512x1536 .bf16) (harg2 : arg2.IsWhole) (arg3 : Memref sig .tc .vmem S1x128 .f32) (harg3 : arg3.IsWhole) (arg4 : Memref sig .tc .vmem S1x1536 .f32) (harg4 : arg4.IsWhole) (arg5 : Memref sig .tc .vmem S528x16x384 .bf16) (harg5 : arg5.IsWhole) (arg6 : Memref sig .tc .vmem S512x16x128 .f32) (harg6 : arg6.IsWhole) (arg7 : Memref sig .tc .vmem S16x384 .f32) (harg7 : arg7.IsWhole) (arg8 : Memref sig .tc .vmem S16x384 .f32) (harg8 : arg8.IsWhole) (arg9 : Memref sig .tc .vmem S16x128 .f32) (harg9 : arg9.IsWhole) (f7 : BufTy.Contents (Elt F) arg7.view.ty) (f8 : BufTy.Contents (Elt F) arg8.view.ty) (f9 : BufTy.Contents (Elt F) arg9.view.ty) : RecSt F :=
  ⟨arg7.view.read (Elt F) f7, arg8.view.read (Elt F) f8, arg9.view.read (Elt F) f9⟩

set_option maxHeartbeats 1000000 in
/-- One trip: what it finds and what it leaves. -/
theorem recTrip_run (c : Dev nD) (arg0 : Memref sig .tc .vmem S512x16x128 .bf16) (harg0 : arg0.IsWhole) (arg1 : Memref sig .tc .vmem S512x128 .bf16) (harg1 : arg1.IsWhole) (arg2 : Memref sig .tc .vmem S512x1536 .bf16) (harg2 : arg2.IsWhole) (arg3 : Memref sig .tc .vmem S1x128 .f32) (harg3 : arg3.IsWhole) (arg4 : Memref sig .tc .vmem S1x1536 .f32) (harg4 : arg4.IsWhole) (arg5 : Memref sig .tc .vmem S528x16x384 .bf16) (harg5 : arg5.IsWhole) (arg6 : Memref sig .tc .vmem S512x16x128 .f32) (harg6 : arg6.IsWhole) (arg7 : Memref sig .tc .vmem S16x384 .f32) (harg7 : arg7.IsWhole) (arg8 : Memref sig .tc .vmem S16x384 .f32) (harg8 : arg8.IsWhole) (arg9 : Memref sig .tc .vmem S16x128 .f32) (harg9 : arg9.IsWhole) (v0 : Vec F S512x128 .bf16) (v2 : Vec F S512x1536 .bf16) (v4 : Vec F S1x128 .f32) (v6 : Vec F S1x1536 .f32)
    (X0 : BufTy.Contents (Elt F) arg0.view.ty) (k : Fin k1_t1_loop.trips) (E : Set ℕ)
    (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    RecRes (F := F) c arg0 harg0 arg1 harg1 arg2 harg2 arg3 harg3 arg4 harg4 arg5 harg5 arg6 harg6 arg7 harg7 arg8 harg8 arg9 harg9 X0 f5 f6 f7 f8 f9
      ⊢ wp frame (wpE (defs₀ (F := F)) Variants.none (c : Thread nD τ) none) E (k1_t1_body (F := F) arg0 harg0 arg1 harg1 arg2 harg2 arg3 harg3 arg4 harg4 arg5 harg5 arg6 harg6 arg7 harg7 arg8 harg8 arg9 harg9 v0 v2 v4 v6 k PUnit.unit)
          (fun _ => RecRes (F := F) c arg0 harg0 arg1 harg1 arg2 harg2 arg3 harg3 arg4 harg4 arg5 harg5 arg6 harg6 arg7 harg7 arg8 harg8 arg9 harg9 X0
            (arg5.view.writes (Elt F) f5 (hTrip ⟨v0, v2, v4, v6⟩ (stOf arg0 harg0 arg1 harg1 arg2 harg2 arg3 harg3 arg4 harg4 arg5 harg5 arg6 harg6 arg7 harg7 arg8 harg8 arg9 harg9 f7 f8 f9) (arg0.view.read (Elt F) X0) k))
            (arg6.view.writes (Elt F) f6 (dTrip ⟨v0, v2, v4, v6⟩ (stOf arg0 harg0 arg1 harg1 arg2 harg2 arg3 harg3 arg4 harg4 arg5 harg5 arg6 harg6 arg7 harg7 arg8 harg8 arg9 harg9 f7 f8 f9) (arg0.view.read (Elt F) X0) k))
            (arg7.view.writes (Elt F) f7 (cTrip ⟨v0, v2, v4, v6⟩ (stOf arg0 harg0 arg1 harg1 arg2 harg2 arg3 harg3 arg4 harg4 arg5 harg5 arg6 harg6 arg7 harg7 arg8 harg8 arg9 harg9 f7 f8 f9) (arg0.view.read (Elt F) X0) k))
            (arg8.view.writes (Elt F) f8 (gTrip ⟨v0, v2, v4, v6⟩ (stOf arg0 harg0 arg1 harg1 arg2 harg2 arg3 harg3 arg4 harg4 arg5 harg5 arg6 harg6 arg7 harg7 arg8 harg8 arg9 harg9 f7 f8 f9) (arg0.view.read (Elt F) X0) k))
            (arg9.view.writes (Elt F) f9 (eTrip ⟨v0, v2, v4, v6⟩ (stOf arg0 harg0 arg1 harg1 arg2 harg2 arg3 harg3 arg4 harg4 arg5 harg5 arg6 harg6 arg7 harg7 arg8 harg8 arg9 harg9 f7 f8 f9) (arg0.view.read (Elt F) X0) k))) := by
  have hk : k.val < 256 := Nat.lt_of_lt_of_le k.isLt k1_t1_abs.2.1
  unfold k1_t1_body
  iintro ⟨HR0, HW5, HW6, HW7, HW8, HW9⟩
  sl_exec
  sl_step
  have e5 : hTrip ⟨v0, v2, v4, v6⟩ (stOf arg0 harg0 arg1 harg1 arg2 harg2 arg3 harg3 arg4 harg4 arg5 harg5 arg6 harg6 arg7 harg7 arg8 harg8 arg9 harg9 f7 f8 f9) (arg0.view.read (Elt F) X0) k = [⟨Rect.unit (s := S528x16x384) (k1_off4 k) S1x16x384.size (k1_off4_inb k), k1_pay9 (recTrip_run.sl.v450 arg0 arg7 arg8 v0 v2 v4 v6 X0 k f7 f8)⟩,
      ⟨Rect.unit (s := S528x16x384) (k1_off2 k) S1x16x384.size (k1_off2_inb k), recTrip_run.sl.v238 arg0 arg7 arg8 v0 v2 v4 v6 X0 k f7 f8⟩] := by sl_kernel_rfl
  have e6 : dTrip ⟨v0, v2, v4, v6⟩ (stOf arg0 harg0 arg1 harg1 arg2 harg2 arg3 harg3 arg4 harg4 arg5 harg5 arg6 harg6 arg7 harg7 arg8 harg8 arg9 harg9 f7 f8 f9) (arg0.view.read (Elt F) X0) k = [⟨Rect.unit (s := S512x16x128) (k1_off3 k) S1x16x128.size (k1_off3_inb k), k1_pay10 (recTrip_run.sl.v449 arg0 arg7 arg8 arg9 v0 v2 v4 v6 X0 k f7 f8 f9)⟩,
      ⟨Rect.unit (s := S512x16x128) (k1_off1 k) S1x16x128.size (k1_off1_inb k), recTrip_run.sl.v242 arg0 arg8 arg9 v0 v4 X0 k f8 f9⟩] := by sl_kernel_rfl
  have e7 : cTrip ⟨v0, v2, v4, v6⟩ (stOf arg0 harg0 arg1 harg1 arg2 harg2 arg3 harg3 arg4 harg4 arg5 harg5 arg6 harg6 arg7 harg7 arg8 harg8 arg9 harg9 f7 f8 f9) (arg0.view.read (Elt F) X0) k = [⟨(Rect.unit (s := S16x384) ![0, 0] S16x384.size inb_S16x384_S16x384_0_0), k1_pay11 (recTrip_run.sl.r_14 arg0 arg7 arg8 v0 v2 v4 v6 X0 k f7 f8)⟩] := by sl_kernel_rfl
  have e8 : gTrip ⟨v0, v2, v4, v6⟩ (stOf arg0 harg0 arg1 harg1 arg2 harg2 arg3 harg3 arg4 harg4 arg5 harg5 arg6 harg6 arg7 harg7 arg8 harg8 arg9 harg9 f7 f8 f9) (arg0.view.read (Elt F) X0) k = [⟨(Rect.unit (s := S16x384) ![0, 0] S16x384.size inb_S16x384_S16x384_0_0), k1_pay12 (recTrip_run.sl.r_15 arg0 arg7 arg8 v0 v2 v4 v6 X0 k f7 f8)⟩] := by sl_kernel_rfl
  have e9 : eTrip ⟨v0, v2, v4, v6⟩ (stOf arg0 harg0 arg1 harg1 arg2 harg2 arg3 harg3 arg4 harg4 arg5 harg5 arg6 harg6 arg7 harg7 arg8 harg8 arg9 harg9 f7 f8 f9) (arg0.view.read (Elt F) X0) k = [⟨(Rect.unit (s := S16x128) ![0, 0] S16x128.size inb_S16x128_S16x128_0_0), k1_pay13 (recTrip_run.sl.r_16 arg0 arg7 arg8 arg9 v0 v2 v4 v6 X0 k f7 f8 f9)⟩] := by sl_kernel_rfl
  rw [e5, e6, e7, e8, e9]
  isplitl [HR0]; · iexact HR0
  isplitl [HW5]; · iexact HW5
  isplitl [HW6]; · iexact HW6
  isplitl [HW7]; · iexact HW7
  isplitl [HW8]; · iexact HW8
  iexact HW9

/-- A whole store hides what was there before. -/
theorem read_whole_cons {S : Shape} {e : EltTy} {sp : Space} (v : View sig .tc sp S e) (f : v.ty.Contents (Elt F)) {off : Fin S.rank → Nat} (h : off = fun _ => 0)
    (inb : ∀ a, off a + S.size a ≤ S.size a) (p : S.Idx → Elt F e) (L : List (View.Piece (Elt F) S e)) :
    v.read (Elt F) (v.writes (Elt F) f (⟨Rect.unit off S.size inb, p⟩ :: L)) = p := by
  rw [View.read_writes_eq_canon _ _ _ (fun y => ⟨_, List.mem_cons_self, View.mem_set_unit_zero h inb y⟩)]
  exact View.canon_cons_unit_zero h inb p L

theorem zero2 : (![0, 0] : Fin 2 → ℕ) = fun _ => 0 := by funext a; fin_cases a <;> rfl

/-- The state the buffers hold before trip `n` is the recurrence's. -/
theorem stOf_eq (arg0 : Memref sig .tc .vmem S512x16x128 .bf16) (harg0 : arg0.IsWhole) (arg1 : Memref sig .tc .vmem S512x128 .bf16) (harg1 : arg1.IsWhole) (arg2 : Memref sig .tc .vmem S512x1536 .bf16) (harg2 : arg2.IsWhole) (arg3 : Memref sig .tc .vmem S1x128 .f32) (harg3 : arg3.IsWhole) (arg4 : Memref sig .tc .vmem S1x1536 .f32) (harg4 : arg4.IsWhole) (arg5 : Memref sig .tc .vmem S528x16x384 .bf16) (harg5 : arg5.IsWhole) (arg6 : Memref sig .tc .vmem S512x16x128 .f32) (harg6 : arg6.IsWhole) (arg7 : Memref sig .tc .vmem S16x384 .f32) (harg7 : arg7.IsWhole) (arg8 : Memref sig .tc .vmem S16x384 .f32) (harg8 : arg8.IsWhole) (arg9 : Memref sig .tc .vmem S16x128 .f32) (harg9 : arg9.IsWhole) (w : RecW F) (X : Vec F S512x16x128 .bf16)
    (G7 : BufTy.Contents (Elt F) arg7.view.ty) (G8 : BufTy.Contents (Elt F) arg8.view.ty) (G9 : BufTy.Contents (Elt F) arg9.view.ty) :
    ∀ n : ℕ, stOf arg0 harg0 arg1 harg1 arg2 harg2 arg3 harg3 arg4 harg4 arg5 harg5 arg6 harg6 arg7 harg7 arg8 harg8 arg9 harg9 (arg7.view.writes (Elt F) G7 (allPieces w (stOf arg0 harg0 arg1 harg1 arg2 harg2 arg3 harg3 arg4 harg4 arg5 harg5 arg6 harg6 arg7 harg7 arg8 harg8 arg9 harg9 G7 G8 G9) X (fun s k => cTrip w s X k) n))
        (arg8.view.writes (Elt F) G8 (allPieces w (stOf arg0 harg0 arg1 harg1 arg2 harg2 arg3 harg3 arg4 harg4 arg5 harg5 arg6 harg6 arg7 harg7 arg8 harg8 arg9 harg9 G7 G8 G9) X (fun s k => gTrip w s X k) n))
        (arg9.view.writes (Elt F) G9 (allPieces w (stOf arg0 harg0 arg1 harg1 arg2 harg2 arg3 harg3 arg4 harg4 arg5 harg5 arg6 harg6 arg7 harg7 arg8 harg8 arg9 harg9 G7 G8 G9) X (fun s k => eTrip w s X k) n))
      = recSt w (stOf arg0 harg0 arg1 harg1 arg2 harg2 arg3 harg3 arg4 harg4 arg5 harg5 arg6 harg6 arg7 harg7 arg8 harg8 arg9 harg9 G7 G8 G9) X n
  | 0 => rfl
  | n + 1 => by
    by_cases h : n < k1_t1_loop.trips
    · have e (A : Type) (f : RecSt F → Fin k1_t1_loop.trips → List A) :=
        allPieces_succ w (stOf arg0 harg0 arg1 harg1 arg2 harg2 arg3 harg3 arg4 harg4 arg5 harg5 arg6 harg6 arg7 harg7 arg8 harg8 arg9 harg9 G7 G8 G9) X f ⟨n, h⟩
      have e' := recSt_succ w (stOf arg0 harg0 arg1 harg1 arg2 harg2 arg3 harg3 arg4 harg4 arg5 harg5 arg6 harg6 arg7 harg7 arg8 harg8 arg9 harg9 G7 G8 G9) X ⟨n, h⟩
      dsimp only at e e'
      rw [e, e, e, e']
      unfold cTrip gTrip eTrip
      rw [List.singleton_append, List.singleton_append, List.singleton_append]
      show RecSt.mk (arg7.view.read (Elt F) _) (arg8.view.read (Elt F) _) (arg9.view.read (Elt F) _) = _
      rw [read_whole_cons _ _ zero2, read_whole_cons _ _ zero2, read_whole_cons _ _ zero2]
    · have e (A : Type) (f : RecSt F → Fin k1_t1_loop.trips → List A) :
        allPieces w (stOf arg0 harg0 arg1 harg1 arg2 harg2 arg3 harg3 arg4 harg4 arg5 harg5 arg6 harg6 arg7 harg7 arg8 harg8 arg9 harg9 G7 G8 G9) X f (n + 1) = allPieces w (stOf arg0 harg0 arg1 harg1 arg2 harg2 arg3 harg3 arg4 harg4 arg5 harg5 arg6 harg6 arg7 harg7 arg8 harg8 arg9 harg9 G7 G8 G9) X f n := dif_neg h
      have e' : recSt w (stOf arg0 harg0 arg1 harg1 arg2 harg2 arg3 harg3 arg4 harg4 arg5 harg5 arg6 harg6 arg7 harg7 arg8 harg8 arg9 harg9 G7 G8 G9) X (n + 1) = recSt w (stOf arg0 harg0 arg1 harg1 arg2 harg2 arg3 harg3 arg4 harg4 arg5 harg5 arg6 harg6 arg7 harg7 arg8 harg8 arg9 harg9 G7 G8 G9) X n := dif_neg h
      rw [e, e, e, e']
      exact stOf_eq arg0 harg0 arg1 harg1 arg2 harg2 arg3 harg3 arg4 harg4 arg5 harg5 arg6 harg6 arg7 harg7 arg8 harg8 arg9 harg9 w X G7 G8 G9 n

/-- What holds before trip `k` of the loop. -/
abbrev recInv (c : Dev nD) (arg0 : Memref sig .tc .vmem S512x16x128 .bf16) (harg0 : arg0.IsWhole) (arg1 : Memref sig .tc .vmem S512x128 .bf16) (harg1 : arg1.IsWhole) (arg2 : Memref sig .tc .vmem S512x1536 .bf16) (harg2 : arg2.IsWhole) (arg3 : Memref sig .tc .vmem S1x128 .f32) (harg3 : arg3.IsWhole) (arg4 : Memref sig .tc .vmem S1x1536 .f32) (harg4 : arg4.IsWhole) (arg5 : Memref sig .tc .vmem S528x16x384 .bf16) (harg5 : arg5.IsWhole) (arg6 : Memref sig .tc .vmem S512x16x128 .f32) (harg6 : arg6.IsWhole) (arg7 : Memref sig .tc .vmem S16x384 .f32) (harg7 : arg7.IsWhole) (arg8 : Memref sig .tc .vmem S16x384 .f32) (harg8 : arg8.IsWhole) (arg9 : Memref sig .tc .vmem S16x128 .f32) (harg9 : arg9.IsWhole) (v0 : Vec F S512x128 .bf16) (v2 : Vec F S512x1536 .bf16) (v4 : Vec F S1x128 .f32) (v6 : Vec F S1x1536 .f32)
    (X0 : BufTy.Contents (Elt F) arg0.view.ty)
    (G5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty)
    (k : ℕ) (_u : PUnit) : sProp 𝕄 :=
  iprop((arg0.view.loc (c : Thread nD τ) ↦[arg0.view.set]{fullShare} X0)
    ∗ (∃ f, (arg5.view.loc (c : Thread nD τ) ↦[arg5.view.set]{fullShare} f) ∗ ⌜f = arg5.view.writes (Elt F) G5 (allPieces ⟨v0, v2, v4, v6⟩ (stOf arg0 harg0 arg1 harg1 arg2 harg2 arg3 harg3 arg4 harg4 arg5 harg5 arg6 harg6 arg7 harg7 arg8 harg8 arg9 harg9 G7 G8 G9) (arg0.view.read (Elt F) X0) (fun s k => hTrip ⟨v0, v2, v4, v6⟩ s (arg0.view.read (Elt F) X0) k) k)⌝)
    ∗ (∃ f, (arg6.view.loc (c : Thread nD τ) ↦[arg6.view.set]{fullShare} f) ∗ ⌜f = arg6.view.writes (Elt F) G6 (allPieces ⟨v0, v2, v4, v6⟩ (stOf arg0 harg0 arg1 harg1 arg2 harg2 arg3 harg3 arg4 harg4 arg5 harg5 arg6 harg6 arg7 harg7 arg8 harg8 arg9 harg9 G7 G8 G9) (arg0.view.read (Elt F) X0) (fun s k => dTrip ⟨v0, v2, v4, v6⟩ s (arg0.view.read (Elt F) X0) k) k)⌝)
    ∗ (∃ f, (arg7.view.loc (c : Thread nD τ) ↦[arg7.view.set]{fullShare} f) ∗ ⌜f = arg7.view.writes (Elt F) G7 (allPieces ⟨v0, v2, v4, v6⟩ (stOf arg0 harg0 arg1 harg1 arg2 harg2 arg3 harg3 arg4 harg4 arg5 harg5 arg6 harg6 arg7 harg7 arg8 harg8 arg9 harg9 G7 G8 G9) (arg0.view.read (Elt F) X0) (fun s k => cTrip ⟨v0, v2, v4, v6⟩ s (arg0.view.read (Elt F) X0) k) k)⌝)
    ∗ (∃ f, (arg8.view.loc (c : Thread nD τ) ↦[arg8.view.set]{fullShare} f) ∗ ⌜f = arg8.view.writes (Elt F) G8 (allPieces ⟨v0, v2, v4, v6⟩ (stOf arg0 harg0 arg1 harg1 arg2 harg2 arg3 harg3 arg4 harg4 arg5 harg5 arg6 harg6 arg7 harg7 arg8 harg8 arg9 harg9 G7 G8 G9) (arg0.view.read (Elt F) X0) (fun s k => gTrip ⟨v0, v2, v4, v6⟩ s (arg0.view.read (Elt F) X0) k) k)⌝)
    ∗ (∃ f, (arg9.view.loc (c : Thread nD τ) ↦[arg9.view.set]{fullShare} f) ∗ ⌜f = arg9.view.writes (Elt F) G9 (allPieces ⟨v0, v2, v4, v6⟩ (stOf arg0 harg0 arg1 harg1 arg2 harg2 arg3 harg3 arg4 harg4 arg5 harg5 arg6 harg6 arg7 harg7 arg8 harg8 arg9 harg9 G7 G8 G9) (arg0.view.read (Elt F) X0) (fun s k => eTrip ⟨v0, v2, v4, v6⟩ s (arg0.view.read (Elt F) X0) k) k)⌝))

set_option warn.classDefReducibility false in
/-- The loop by its invariant. -/
@[sl_loop] def recLoop (c : Dev nD) (E : Set ℕ) (arg0 : Memref sig .tc .vmem S512x16x128 .bf16) (harg0 : arg0.IsWhole) (arg1 : Memref sig .tc .vmem S512x128 .bf16) (harg1 : arg1.IsWhole) (arg2 : Memref sig .tc .vmem S512x1536 .bf16) (harg2 : arg2.IsWhole) (arg3 : Memref sig .tc .vmem S1x128 .f32) (harg3 : arg3.IsWhole) (arg4 : Memref sig .tc .vmem S1x1536 .f32) (harg4 : arg4.IsWhole) (arg5 : Memref sig .tc .vmem S528x16x384 .bf16) (harg5 : arg5.IsWhole) (arg6 : Memref sig .tc .vmem S512x16x128 .f32) (harg6 : arg6.IsWhole) (arg7 : Memref sig .tc .vmem S16x384 .f32) (harg7 : arg7.IsWhole) (arg8 : Memref sig .tc .vmem S16x384 .f32) (harg8 : arg8.IsWhole) (arg9 : Memref sig .tc .vmem S16x128 .f32) (harg9 : arg9.IsWhole) (v0 : Vec F S512x128 .bf16) (v2 : Vec F S512x1536 .bf16) (v4 : Vec F S1x128 .f32) (v6 : Vec F S1x1536 .f32)
    (X0 : BufTy.Contents (Elt F) arg0.view.ty)
    (G5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) :
    Idealize.ShloMosaic.LoopInv (M := 𝕄) Idealize.ShloMosaic.frame (wpE (defs₀ (F := F)) Variants.none (c : Thread nD τ) none) E
      k1_t1_loop.lb k1_t1_loop.ub k1_t1_loop.st k1_t1_ok () (k1_t1_body (F := F) arg0 harg0 arg1 harg1 arg2 harg2 arg3 harg3 arg4 harg4 arg5 harg5 arg6 harg6 arg7 harg7 arg8 harg8 arg9 harg9 v0 v2 v4 v6) where
  inv := recInv (F := F) c arg0 harg0 arg1 harg1 arg2 harg2 arg3 harg3 arg4 harg4 arg5 harg5 arg6 harg6 arg7 harg7 arg8 harg8 arg9 harg9 v0 v2 v4 v6 X0 G5 G6 G7 G8 G9
  step k acc := by
    iintro ⟨HR0, ⟨%f5, HW5, %h5⟩, ⟨%f6, HW6, %h6⟩, ⟨%f7, HW7, %h7⟩, ⟨%f8, HW8, %h8⟩, ⟨%f9, HW9, %h9⟩⟩
    have hst : stOf arg0 harg0 arg1 harg1 arg2 harg2 arg3 harg3 arg4 harg4 arg5 harg5 arg6 harg6 arg7 harg7 arg8 harg8 arg9 harg9 f7 f8 f9 = recSt ⟨v0, v2, v4, v6⟩ (stOf arg0 harg0 arg1 harg1 arg2 harg2 arg3 harg3 arg4 harg4 arg5 harg5 arg6 harg6 arg7 harg7 arg8 harg8 arg9 harg9 G7 G8 G9) (arg0.view.read (Elt F) X0) k.val := by
      rw [h7, h8, h9]; exact stOf_eq arg0 harg0 arg1 harg1 arg2 harg2 arg3 harg3 arg4 harg4 arg5 harg5 arg6 harg6 arg7 harg7 arg8 harg8 arg9 harg9 _ _ G7 G8 G9 k.val
    iapply (wp_wand_r Idealize.ShloMosaic.frame (wpE (defs₀ (F := F)) Variants.none (c : Thread nD τ) none) E)
    isplitl [HR0 HW5 HW6 HW7 HW8 HW9]
    · iapply (recTrip_run c arg0 harg0 arg1 harg1 arg2 harg2 arg3 harg3 arg4 harg4 arg5 harg5 arg6 harg6 arg7 harg7 arg8 harg8 arg9 harg9 v0 v2 v4 v6 X0 k E f5 f6 f7 f8 f9)
      isplitl [HR0]; · iexact HR0
      isplitl [HW5]; · iexact HW5
      isplitl [HW6]; · iexact HW6
      isplitl [HW7]; · iexact HW7
      isplitl [HW8]; · iexact HW8
      iexact HW9
    · iintro %_ ⟨HR0, HW5, HW6, HW7, HW8, HW9⟩
      isplitl [HR0]; · iexact HR0
      rw [allPieces_succ, allPieces_succ, allPieces_succ, allPieces_succ, allPieces_succ]
      isplitl [HW5]
      · iexists _; isplitl [HW5]; · iexact HW5
        ipureintro; rw [hst, h5, ← View.writes_append]
      isplitl [HW6]
      · iexists _; isplitl [HW6]; · iexact HW6
        ipureintro; rw [hst, h6, ← View.writes_append]
      isplitl [HW7]
      · iexists _; isplitl [HW7]; · iexact HW7
        ipureintro; rw [hst, h7, ← View.writes_append]
      isplitl [HW8]
      · iexists _; isplitl [HW8]; · iexact HW8
        ipureintro; rw [hst, h8, ← View.writes_append]
      iexists _; isplitl [HW9]; · iexact HW9
      ipureintro; rw [hst, h9, ← View.writes_append]

/-- The state the recurrence starts from. -/
def recZero : RecSt F := ⟨k1_pay5, k1_pay6, k1_pay7⟩

/-- The weights as the body loads them. -/
def recW (x1 : Vec F S512x128 .bf16) (x2 : Vec F S512x1536 .bf16) (x3 : Vec F S1x128 .f32) (x4 : Vec F S1x1536 .f32) : RecW F where
  wm := View.ld x1 (Rect.unit (s := S512x128) ![0, 0] S512x128.size inb_S512x128_S512x128_0_0)
  wg := View.ld x2 (Rect.unit (s := S512x1536) ![0, 0] S512x1536.size inb_S512x1536_S512x1536_0_0)
  bm := View.ld x3 (Rect.unit (s := S1x128) ![0, 0] S1x128.size inb_S1x128_S1x128_0_0)
  bg := View.ld x4 (Rect.unit (s := S1x1536) ![0, 0] S1x1536.size inb_S1x1536_S1x1536_0_0)

/-- All that the body writes of the hidden states, last first. -/
def hPieces (w : RecW F) (X : Vec F S512x16x128 .bf16) : List (View.Piece (Elt F) S528x16x384 .bf16) :=
  allPieces w recZero X (fun s k => hTrip w s X k) k1_t1_loop.trips
    ++ [⟨Rect.unit (s := S528x16x384) ![0, 0, 0] S16x16x384.size inb_S528x16x384_S16x16x384_0_0_0, k1_pay8⟩]
/-- All that the body writes of the window weights, last first. -/
def dPieces (w : RecW F) (X : Vec F S512x16x128 .bf16) : List (View.Piece (Elt F) S512x16x128 .f32) :=
  allPieces w recZero X (fun s k => dTrip w s X k) k1_t1_loop.trips

set_option maxHeartbeats 4000000 in
/-- The body, from inputs to what it writes. -/
theorem rec_run (c : Dev nD) (arg0 : Memref sig .tc .vmem S512x16x128 .bf16) (harg0 : arg0.IsWhole) (arg1 : Memref sig .tc .vmem S512x128 .bf16) (harg1 : arg1.IsWhole) (arg2 : Memref sig .tc .vmem S512x1536 .bf16) (harg2 : arg2.IsWhole) (arg3 : Memref sig .tc .vmem S1x128 .f32) (harg3 : arg3.IsWhole) (arg4 : Memref sig .tc .vmem S1x1536 .f32) (harg4 : arg4.IsWhole) (arg5 : Memref sig .tc .vmem S528x16x384 .bf16) (harg5 : arg5.IsWhole) (arg6 : Memref sig .tc .vmem S512x16x128 .f32) (harg6 : arg6.IsWhole) (arg7 : Memref sig .tc .vmem S16x384 .f32) (harg7 : arg7.IsWhole) (arg8 : Memref sig .tc .vmem S16x384 .f32) (harg8 : arg8.IsWhole) (arg9 : Memref sig .tc .vmem S16x128 .f32) (harg9 : arg9.IsWhole)
    (x0 : Vec F S512x16x128 .bf16) (x1 : Vec F S512x128 .bf16) (x2 : Vec F S512x1536 .bf16) (x3 : Vec F S1x128 .f32) (x4 : Vec F S1x1536 .f32) (E : Set ℕ) (K : PUnit → sProp 𝕄) :
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f (hPieces (recW x1 x2 x3 x4) x0)) ∗ (∃ f, arg6.view.loc (c : Thread nD τ) ↦[arg6.view.set]{fullShare} arg6.view.writes (Elt F) f (dPieces (recW x1 x2 x3 x4) x0)) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc1__rec_body arg0 harg0 arg1 harg1 arg2 harg2 arg3 harg3 arg4 harg4 arg5 harg5 arg6 harg6 arg7 harg7 arg8 harg8 arg9 harg9) K := by
  simp only [cc1__rec_body_eq_skeleton]; unfold cc1__rec_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hk⟩
  subst hf0 hf1 hf2 hf3 hf4
  sl_exec
  sl_step
  have hz : stOf arg0 harg0 arg1 harg1 arg2 harg2 arg3 harg3 arg4 harg4 arg5 harg5 arg6 harg6 arg7 harg7 arg8 harg8 arg9 harg9 (arg7.view.writes (Elt F) arg7.view.junk rec_run.sl.HS0_1) (arg8.view.writes (Elt F) arg8.view.junk rec_run.sl.HS1_1)
      (arg9.view.writes (Elt F) arg9.view.junk rec_run.sl.HS2_1) = (recZero : RecSt F) := by
    unfold stOf rec_run.sl.HS0_1 rec_run.sl.HS1_1 rec_run.sl.HS2_1
    rw [read_whole_cons _ _ zero2, read_whole_cons _ _ zero2, read_whole_cons _ _ zero2]
    rfl
  rw [hz]
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]; · iexists _; iexact H5
  isplitl [H6]; · iexists _; iexact H6
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-- There are 256 trips. -/
theorem trips_eq : k1_t1_loop.trips = 256 := by decide +kernel

/-- Every stored piece comes from some trip. -/
theorem mem_allPieces (w : RecW F) (s : RecSt F) (X : Vec F S512x16x128 .bf16) {A : Type} (f : RecSt F → Fin k1_t1_loop.trips → List A)
    (k : Fin k1_t1_loop.trips) (p : A) (hp : p ∈ f (recSt w s X k.val) k) : ∀ n : ℕ, k.val < n → p ∈ allPieces w s X f n
  | 0, h => absurd h (Nat.not_lt_zero _)
  | n + 1, h => by
    by_cases hk : k.val = n
    · subst hk; rw [allPieces_succ]; exact List.mem_append_left _ hp
    · have := mem_allPieces w s X f k p hp n (by omega)
      unfold allPieces; split
      · exact List.mem_append_right _ this
      · exact this

/-- Every index of the window weights lies in a row some trip writes. -/
theorem dPieces_cover (w : RecW F) (X : Vec F S512x16x128 .bf16) (y : S512x16x128.Idx) : ∃ p ∈ dPieces w X, y ∈ p.1.set := by
  have h0 : (y 0).val < 512 := (y 0).isLt
  have h1 : (y 1).val < 16 := (y 1).isLt
  have h2 : (y 2).val < 128 := (y 2).isLt
  have hk : (y 0).val / 2 < k1_t1_loop.trips := by rw [trips_eq]; omega
  have hm (p) (hp : p ∈ dTrip w (recSt w recZero X ((y 0).val / 2)) X ⟨(y 0).val / 2, hk⟩) : p ∈ dPieces w X :=
    mem_allPieces w recZero X _ ⟨(y 0).val / 2, hk⟩ p hp _ hk
  by_cases hpar : (y 0).val % 2 = 0
  · refine ⟨_, hm _ (List.mem_cons_of_mem _ List.mem_cons_self), ?_⟩
    dsimp only
    rw [Rect.mem_set_unit]
    intro a
    rw [k1_off1_eq]
    fin_cases a <;> simp [S1x16x128, Shape.size] <;> omega
  · refine ⟨_, hm _ List.mem_cons_self, ?_⟩
    dsimp only
    rw [Rect.mem_set_unit]
    intro a
    rw [k1_off3_eq]
    fin_cases a <;> simp [S1x16x128, Shape.size] <;> omega

/-- Every index of the hidden states lies in the padding or in a row some trip writes. -/
theorem hPieces_cover (w : RecW F) (X : Vec F S512x16x128 .bf16) (y : S528x16x384.Idx) : ∃ p ∈ hPieces w X, y ∈ p.1.set := by
  have h0 : (y 0).val < 528 := (y 0).isLt
  have h1 : (y 1).val < 16 := (y 1).isLt
  have h2 : (y 2).val < 384 := (y 2).isLt
  by_cases hpad : (y 0).val < 16
  · refine ⟨_, List.mem_append_right _ List.mem_cons_self, ?_⟩
    dsimp only
    rw [Rect.mem_set_unit]
    intro a
    fin_cases a <;> simp [S16x16x384, Shape.size] <;> omega
  have hk : ((y 0).val - 16) / 2 < k1_t1_loop.trips := by rw [trips_eq]; omega
  have hm (p) (hp : p ∈ hTrip w (recSt w recZero X (((y 0).val - 16) / 2)) X ⟨((y 0).val - 16) / 2, hk⟩) : p ∈ hPieces w X :=
    List.mem_append_left _ (mem_allPieces w recZero X _ ⟨((y 0).val - 16) / 2, hk⟩ p hp _ hk)
  by_cases hpar : (y 0).val % 2 = 0
  · refine ⟨_, hm _ (List.mem_cons_of_mem _ List.mem_cons_self), ?_⟩
    dsimp only
    rw [Rect.mem_set_unit]
    intro a
    rw [k1_off2_eq]
    fin_cases a <;> simp [S1x16x384, Shape.size] <;> omega
  · refine ⟨_, hm _ List.mem_cons_self, ?_⟩
    dsimp only
    rw [Rect.mem_set_unit]
    intro a
    rw [k1_off4_eq]
    fin_cases a <;> simp [S1x16x384, Shape.size] <;> omega

/-- The hidden states the launch leaves. -/
def hOut (c : Dev nD) (t : Fin cfg1.N) : Vec F S528x16x384 .bf16 :=
  View.canon (hPieces (recW (iblk1 V c 1 t) (iblk1 V c 2 t) (iblk1 V c 3 t) (iblk1 V c 4 t)) (iblk1 V c 0 t))
/-- The window weights the launch leaves. -/
def dOut (c : Dev nD) (t : Fin cfg1.N) : Vec F S512x16x128 .f32 :=
  View.canon (dPieces (recW (iblk1 V c 1 t) (iblk1 V c 2 t) (iblk1 V c 3 t) (iblk1 V c 4 t)) (iblk1 V c 0 t))

/-- What each window holds before and after the call. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => hOut V c t
    | ⟨6, _⟩ => dOut V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = hOut V c t := by dsimp only [dat1]
theorem after1_6 (c : Dev nD) (t : Fin cfg1.N) : (dat1 V c).after 6 t = dOut V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  iintro ⟨⟨⟨HR0, HR1, HR2, HR3, HR4, HR5, HR6, HS0, HS1, HS2, HR10, HR11, HR12, HR13, HR14, HR15, HR16, HR17, HR18, HR19, HR20, HR21, HR22⟩, Hg⟩, Ho, ⟨%d0, H0⟩, ⟨%d1, H1⟩, ⟨%d2, H2⟩, ⟨%d3, H3⟩, ⟨%d4, H4⟩, ⟨%d5, H5⟩, ⟨%d6, H6⟩⟩
  iapply (rec_run c _ _ _ _ _ _ _ _ _ _ _ _ _ _ _ _ _ _ _ _ (iblk1 V c 0 t) (iblk1 V c 1 t) (iblk1 V c 2 t) (iblk1 V c 3 t) (iblk1 V c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, ⟨%e5, H5⟩, ⟨%e6, H6⟩, HS0, HS1, HS2⟩
  isplitl [HR0 HR1 HR2 HR3 HR4 HR5 HR6 HS0 HS1 HS2 HR10 HR11 HR12 HR13 HR14 HR15 HR16 HR17 HR18 HR19 HR20 HR21 HR22 Hg]
  · isplitl [HR0 HR1 HR2 HR3 HR4 HR5 HR6 HS0 HS1 HS2 HR10 HR11 HR12 HR13 HR14 HR15 HR16 HR17 HR18 HR19 HR20 HR21 HR22]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HS0]
      · iexact HS0
      isplitl [HS1]
      · iexact HS1
      isplitl [HS2]
      · iexact HS2
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      isplitl [HR18]
      · iexact HR18
      isplitl [HR19]
      · iexact HR19
      isplitl [HR20]
      · iexact HR20
      isplitl [HR21]
      · iexact HR21
      iexact HR22
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (hPieces_cover _ _)
  unfold owns; iexists _; isplitr
  swap; · iexact H6
  ipureintro; exact View.read_writes_eq_canon _ _ _ (dPieces_cover _ _)

theorem defs₀_row1 (t : Fin cfg1.N) :
    defs₀ (F := F) .tc cfg1.body (cfg1.bodyArgs t (cfg1.slots t)) = bodyAt1 t := by
  unfold defs₀; rw [Defs.onTc_tc]

/-- The body runs, and leaves what was said. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.Ideal.Win.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := k2_cond2 i = 1#1
/-- The last branch is taken at the last grid point only. -/
theorem hcond2_0 : ∀ t : Fin cfg2.N, cond2_0 (grid2.coords t) ↔ t.val % 8 = 7 :=
  (fun t => by
    have ht : t.val < 8 := Nat.lt_of_lt_of_eq t.isLt N_2
    have e0 : (grid2.coords t 0).val = t.val / 1 % 8 := Pipeline.Grid.coords_val t 0 (by decide) rfl
    simp only [cond2_0, k2_cond2, e0]
    word_cmp
   : ∀ t : Fin grid2.N, cond2_0 (grid2.coords t) ↔ t.val % 8 = 7)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
theorem liveAt2_9 : ∀ t : Fin cfg2.N, cfg2.idle 9 (grid2.coords t) = false := fun _ => rfl
theorem liveAt2_10 : ∀ t : Fin cfg2.N, cfg2.idle 10 (grid2.coords t) = false := fun _ => rfl
theorem idleAt2_11_A : ∀ t : Fin cfg2.N, ¬cond2_0 (grid2.coords t) → cfg2.idle 11 (grid2.coords t) = true := by decide +kernel
theorem noFlush2_11_A : ∀ t : Fin cfg2.N, ¬cond2_0 (grid2.coords t) → (cfg2.win 11).flush t = false := by decide +kernel
theorem liveAt2_11_B : ∀ t : Fin cfg2.N, cond2_0 (grid2.coords t) → cfg2.idle 11 (grid2.coords t) = false := by decide +kernel

abbrev VO2_11 : View sig .tc .vmem S16x128 .f32 := (Memref.whole cc2_stg11_0 : Memref sig .tc .vmem S16x128 .f32).view
abbrev ms2_0 (t : Fin cfg2.N) : Memref sig .tc .vmem S528x16x384 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x16x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3840x384 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S384x64 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x384 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x384 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x384 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S384x128 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x128 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S16x128 .f32 := win2_11.stage (cfg2.slots t 11)
abbrev hs2_11 (t : Fin cfg2.N) : (ms2_11 t).IsWhole := hstage2_11 ((cfg2.slots t 11).cast nbuf2_11)
abbrev scM2_0 : Memref sig .tc .vmem S16x384 .f32 := Memref.whole cc2_scratch0

theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ d, owns (c : Thread nD τ) scM2_0 fullShare d)) ∗ (∃ r, prngReg c r)) := by
  unfold Pipeline.ΦA; rw [scopedRest2_eq]; simp only [scM2_0, owns_whole]; try rfl

/-- The condition of the first point. -/
abbrev cond2_1 (i : grid2.Coords) : Prop := (Scalar.cmpi .ne (Scalar.extui (Scalar.cmpi .eq (BitVec.ofNat 32 (i 0).val) 0#32)) 0#32) = 1#1
theorem hcond2_1 : ∀ t : Fin cfg2.N, cond2_1 (grid2.coords t) ↔ t.val % 8 = 0 :=
  (fun t => by
    have ht : t.val < 8 := Nat.lt_of_lt_of_eq t.isLt N_2
    have e0 : (grid2.coords t 0).val = t.val / 1 % 8 := Pipeline.Grid.coords_val t 0 (by decide) rfl
    simp only [cond2_1, e0]
    word_cmp
   : ∀ t : Fin grid2.N, cond2_1 (grid2.coords t) ↔ t.val % 8 = 0)

variable (i : grid2.Coords) (x0 : Vec F S528x16x384 .bf16) (x1 : Vec F S512x16x128 .f32) (x2 : Vec F S16x1 .i32) (x3 : Vec F S3840x384 .bf16) (x4 : Vec F S384x64 .bf16) (x5 : Vec F S1x64 .f32) (x6 : Vec F S64x384 .bf16) (x7 : Vec F S1x384 .f32) (x8 : Vec F S1x384 .f32)

/-- The hidden states of window slot `r`. -/
def winH (r : Fin 10) : Vec F S64x16x384 .bf16 :=
  View.ld x0 (Rect.unit (s := S528x16x384) (k2_off1 i (BitVec.ofNat 32 r.val)) S64x16x384.size (k2_off1_inb i r))
/-- The weights of window slot 0. -/
def winD0 : Vec F S64x16x1 .f32 :=
  View.ld x1 (Rect.unit (s := S512x16x128) (k2_off2 i) S64x16x1.size (k2_off2_inb i))
/-- The projection of window slot 0. -/
def winW0 : Vec F S384x384 .bf16 :=
  View.ld x3 (Rect.unit (s := S3840x384) ![0, 0] S384x384.size inb_S3840x384_S384x384_0_0)
/-- The weights of window slot 1. -/
def winD1 : Vec F S64x16x1 .f32 :=
  View.ld x1 (Rect.unit (s := S512x16x128) (k2_off3 i) S64x16x1.size (k2_off3_inb i))
/-- The projection of window slot 1. -/
def winW1 : Vec F S384x384 .bf16 :=
  View.ld x3 (Rect.unit (s := S3840x384) ![384, 0] S384x384.size inb_S3840x384_S384x384_384_0)
/-- The weights of window slot 2. -/
def winD2 : Vec F S64x16x1 .f32 :=
  View.ld x1 (Rect.unit (s := S512x16x128) (k2_off4 i) S64x16x1.size (k2_off4_inb i))
/-- The projection of window slot 2. -/
def winW2 : Vec F S384x384 .bf16 :=
  View.ld x3 (Rect.unit (s := S3840x384) ![768, 0] S384x384.size inb_S3840x384_S384x384_768_0)
/-- The weights of window slot 3. -/
def winD3 : Vec F S64x16x1 .f32 :=
  View.ld x1 (Rect.unit (s := S512x16x128) (k2_off5 i) S64x16x1.size (k2_off5_inb i))
/-- The projection of window slot 3. -/
def winW3 : Vec F S384x384 .bf16 :=
  View.ld x3 (Rect.unit (s := S3840x384) ![1152, 0] S384x384.size inb_S3840x384_S384x384_1152_0)
/-- The weights of window slot 4. -/
def winD4 : Vec F S64x16x1 .f32 :=
  View.ld x1 (Rect.unit (s := S512x16x128) (k2_off6 i) S64x16x1.size (k2_off6_inb i))
/-- The projection of window slot 4. -/
def winW4 : Vec F S384x384 .bf16 :=
  View.ld x3 (Rect.unit (s := S3840x384) ![1536, 0] S384x384.size inb_S3840x384_S384x384_1536_0)
/-- The weights of window slot 5. -/
def winD5 : Vec F S64x16x1 .f32 :=
  View.ld x1 (Rect.unit (s := S512x16x128) (k2_off7 i) S64x16x1.size (k2_off7_inb i))
/-- The projection of window slot 5. -/
def winW5 : Vec F S384x384 .bf16 :=
  View.ld x3 (Rect.unit (s := S3840x384) ![1920, 0] S384x384.size inb_S3840x384_S384x384_1920_0)
/-- The weights of window slot 6. -/
def winD6 : Vec F S64x16x1 .f32 :=
  View.ld x1 (Rect.unit (s := S512x16x128) (k2_off8 i) S64x16x1.size (k2_off8_inb i))
/-- The projection of window slot 6. -/
def winW6 : Vec F S384x384 .bf16 :=
  View.ld x3 (Rect.unit (s := S3840x384) ![2304, 0] S384x384.size inb_S3840x384_S384x384_2304_0)
/-- The weights of window slot 7. -/
def winD7 : Vec F S64x16x1 .f32 :=
  View.ld x1 (Rect.unit (s := S512x16x128) (k2_off9 i) S64x16x1.size (k2_off9_inb i))
/-- The projection of window slot 7. -/
def winW7 : Vec F S384x384 .bf16 :=
  View.ld x3 (Rect.unit (s := S3840x384) ![2688, 0] S384x384.size inb_S3840x384_S384x384_2688_0)
/-- The weights of window slot 8. -/
def winD8 : Vec F S64x16x1 .f32 :=
  View.ld x1 (Rect.unit (s := S512x16x128) (k2_off10 i) S64x16x1.size (k2_off10_inb i))
/-- The projection of window slot 8. -/
def winW8 : Vec F S384x384 .bf16 :=
  View.ld x3 (Rect.unit (s := S3840x384) ![3072, 0] S384x384.size inb_S3840x384_S384x384_3072_0)
/-- The weights of window slot 9. -/
def winD9 : Vec F S64x16x1 .f32 :=
  View.ld x1 (Rect.unit (s := S512x16x128) (k2_off11 i) S64x16x1.size (k2_off11_inb i))
/-- The projection of window slot 9. -/
def winW9 : Vec F S384x384 .bf16 :=
  View.ld x3 (Rect.unit (s := S3840x384) ![3456, 0] S384x384.size inb_S3840x384_S384x384_3456_0)

/-- The projected slots after the first part, -/
def winC1 : FVec F S1024x384 .f32 := k2_pay5 (winH i x0 0) (winD0 i x1) (winW0 x3)
/-- the sum of the slots, -/
def winS1 : FVec F S1024x384 .f32 := k2_pay7 (winH i x0 0) (winD0 i x1) (winH i x0 1) (winD1 i x1)
/-- and the slot that is to be projected next. -/
def winP1 : FVec F S1024x384 .bf16 := k2_pay8 (winH i x0 1) (winD1 i x1)
/-- The same after part 2. -/
def winC2 : FVec F S1024x384 .f32 := k2_pay10 (winC1 i x0 x1 x3) (winP1 i x0 x1) (winW1 x3) (winH i x0 2) (winD2 i x1) (winW2 x3)
/-- sum -/
def winS2 : FVec F S1024x384 .f32 := k2_pay12 (winS1 i x0 x1) (winH i x0 2) (winD2 i x1) (winH i x0 3) (winD3 i x1)
/-- next slot -/
def winP2 : FVec F S1024x384 .bf16 := k2_pay13 (winH i x0 3) (winD3 i x1)
/-- The same after part 3. -/
def winC3 : FVec F S1024x384 .f32 := k2_pay15 (winC2 i x0 x1 x3) (winP2 i x0 x1) (winW3 x3) (winH i x0 4) (winD4 i x1) (winW4 x3)
/-- sum -/
def winS3 : FVec F S1024x384 .f32 := k2_pay17 (winS2 i x0 x1) (winH i x0 4) (winD4 i x1) (winH i x0 5) (winD5 i x1)
/-- next slot -/
def winP3 : FVec F S1024x384 .bf16 := k2_pay18 (winH i x0 5) (winD5 i x1)
/-- The same after part 4. -/
def winC4 : FVec F S1024x384 .f32 := k2_pay20 (winC3 i x0 x1 x3) (winP3 i x0 x1) (winW5 x3) (winH i x0 6) (winD6 i x1) (winW6 x3)
/-- sum -/
def winS4 : FVec F S1024x384 .f32 := k2_pay22 (winS3 i x0 x1) (winH i x0 6) (winD6 i x1) (winH i x0 7) (winD7 i x1)
/-- next slot -/
def winP4 : FVec F S1024x384 .bf16 := k2_pay23 (winH i x0 7) (winD7 i x1)
/-- The same after part 5. -/
def winC5 : FVec F S1024x384 .f32 := k2_pay25 (winC4 i x0 x1 x3) (winP4 i x0 x1) (winW7 x3) (winH i x0 8) (winD8 i x1) (winW8 x3)
/-- sum -/
def winS5 : FVec F S1024x384 .f32 := k2_pay27 (winS4 i x0 x1) (winH i x0 8) (winD8 i x1) (winH i x0 9) (winD9 i x1)
/-- next slot -/
def winP5 : FVec F S1024x384 .bf16 := k2_pay28 (winH i x0 9) (winD9 i x1)

/-- The values of the point's 64 steps. -/
def winRows : FVec F S64x16x384 .f32 :=
  k2_pay29 (winC5 i x0 x1 x3) (winS5 i x0 x1) (winP5 i x0 x1) (winW9 x3) (View.ld x4 (Rect.unit (s := S384x64) ![0, 0] S384x64.size inb_S384x64_S384x64_0_0)) (View.ld x5 (Rect.unit (s := S1x64) ![0, 0] S1x64.size inb_S1x64_S1x64_0_0)) (View.ld x6 (Rect.unit (s := S64x384) ![0, 0] S64x384.size inb_S64x384_S64x384_0_0)) (View.ld x7 (Rect.unit (s := S1x384) ![0, 0] S1x384.size inb_S1x384_S1x384_0_0)) (View.ld x8 (Rect.unit (s := S1x384) ![0, 0] S1x384.size inb_S1x384_S1x384_0_0))
    (View.ld x0 (Rect.unit (s := S528x16x384) (k2_off12 i) S64x16x384.size (k2_off12_inb i)))

/-- The steps' numbers. -/
def winIdx (i : grid2.Coords) : IVec S64x16x1 32 := k2_pay30 (Scalar.muli (BitVec.ofNat 32 (i 0).val) 64#32)

/-- One point: what the accumulator holds afterwards. -/
def winStep (acc : Vec F S16x384 .f32) : Vec F S16x384 .f32 :=
  k2_pay1 (winRows i x0 x1 x3 x4 x5 x6 x7 x8) (winIdx i) (View.ld x2 (Rect.unit (s := S16x1) ![0, 0] S16x1.size inb_S16x1_S16x1_0_0)) (View.ld acc (Rect.unit (s := S16x384) ![0, 0] S16x384.size inb_S16x384_S16x384_0_0))

/-- What the last point stores. -/
def winFin (x9 : Vec F S384x128 .f32) (x10 : Vec F S1x128 .f32) (acc : Vec F S16x384 .f32) : Vec F S16x128 .f32 :=
  k2_pay2 (View.ld acc (Rect.unit (s := S16x384) ![0, 0] S16x384.size inb_S16x384_S16x384_0_0)) (View.ld x9 (Rect.unit (s := S384x128) ![0, 0] S384x128.size inb_S384x128_S384x128_0_0)) (View.ld x10 (Rect.unit (s := S1x128) ![0, 0] S1x128.size inb_S1x128_S1x128_0_0))

theorem zero2' : (![0, 0] : Fin 2 → ℕ) = fun _ => 0 := by funext a; fin_cases a <;> rfl

/-- A whole store hides what was there before. -/
theorem read_whole_cons' {S : Shape} {e : EltTy} {sp : Space} (v : View sig .tc sp S e) (f : v.ty.Contents (Elt F)) {off : Fin S.rank → Nat} (h : off = fun _ => 0)
    (inb : ∀ a, off a + S.size a ≤ S.size a) (p : S.Idx → Elt F e) (L : List (View.Piece (Elt F) S e)) :
    v.read (Elt F) (v.writes (Elt F) f (⟨Rect.unit off S.size inb, p⟩ :: L)) = p := by
  rw [View.read_writes_eq_canon _ _ _ (fun y => ⟨_, List.mem_cons_self, View.mem_set_unit_zero h inb y⟩)]
  exact View.canon_cons_unit_zero h inb p L

/-- Reading a whole buffer gives its contents. -/
theorem readCov_whole {S : Shape} {e : EltTy} {sp : Space} (v : View sig .tc sp S e) {off : Fin S.rank → Nat} (h : off = fun _ => 0)
    (inb : ∀ a, off a + S.size a ≤ S.size a) (p : S.Idx → Elt F e) (L : List (View.Piece (Elt F) S e)) :
    v.readCov (⟨Rect.unit off S.size inb, p⟩ :: L) (Rect.unit off S.size inb).toLoadRect = p := by
  rw [View.readCov_eq_canon v _ _ (fun j => ⟨_, List.mem_cons_self, View.mem_set_unit_zero h inb _⟩),
    View.canon_cons_unit_zero h inb p L]
  exact View.ld_unit_zero h inb p

set_option maxHeartbeats 4000000 in
/-- The body at the first point. -/
theorem win_runA (c : Dev nD) (arg1 : Memref sig .tc .vmem S528x16x384 .bf16) (harg1 : arg1.IsWhole) (arg2 : Memref sig .tc .vmem S512x16x128 .f32) (harg2 : arg2.IsWhole) (arg3 : Memref sig .tc .vmem S16x1 .i32) (harg3 : arg3.IsWhole) (arg4 : Memref sig .tc .vmem S3840x384 .bf16) (harg4 : arg4.IsWhole) (arg5 : Memref sig .tc .vmem S384x64 .bf16) (harg5 : arg5.IsWhole) (arg6 : Memref sig .tc .vmem S1x64 .f32) (harg6 : arg6.IsWhole) (arg7 : Memref sig .tc .vmem S64x384 .bf16) (harg7 : arg7.IsWhole) (arg8 : Memref sig .tc .vmem S1x384 .f32) (harg8 : arg8.IsWhole) (arg9 : Memref sig .tc .vmem S1x384 .f32) (harg9 : arg9.IsWhole) (arg10 : Memref sig .tc .vmem S384x128 .f32) (harg10 : arg10.IsWhole) (arg11 : Memref sig .tc .vmem S1x128 .f32) (harg11 : arg11.IsWhole) (arg12 : Memref sig .tc .vmem S16x128 .f32) (harg12 : arg12.IsWhole) (arg13 : Memref sig .tc .vmem S16x384 .f32) (harg13 : arg13.IsWhole)
    (h1 : cond2_1 i) (h2 : ¬ cond2_0 i) (x0 : Vec F S528x16x384 .bf16) (x1 : Vec F S512x16x128 .f32) (x2 : Vec F S16x1 .i32) (x3 : Vec F S3840x384 .bf16) (x4 : Vec F S384x64 .bf16) (x5 : Vec F S1x64 .f32) (x6 : Vec F S64x384 .bf16) (x7 : Vec F S1x384 .f32) (x8 : Vec F S1x384 .f32) (x9 : Vec F S384x128 .f32) (x10 : Vec F S1x128 .f32) (x11 : Vec F S16x128 .f32) (acc : Vec F S16x384 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (winStep i x0 x1 x2 x3 x4 x5 x6 x7 x8 k2_pay3)) -∗ K ⟨⟩))
      ⊢ wp frame (wpE (defs₀ (F := F)) Variants.none c none) E (cc2__win_body i arg1 harg1 arg2 harg2 arg3 harg3 arg4 harg4 arg5 harg5 arg6 harg6 arg7 harg7 arg8 harg8 arg9 harg9 arg10 harg10 arg11 harg11 arg12 harg12 arg13 harg13) K := by
  simp only [cc2__win_body_eq_skeleton]; unfold cc2__win_body_skel
  simp only [k2_part1_eq_skeleton, k2_part2_eq_skeleton, k2_part3_eq_skeleton, k2_part4_eq_skeleton, k2_part5_eq_skeleton, k2_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%dS, %fS, -, HS⟩, Hk⟩
  subst hf0 hf1 hf2 hf3 hf4 hf5 hf6 hf7 hf8 hf9 hf10 hf11
  sl_exec (disch := first | sl_exact h1 | sl_exact h2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  iexists _; isplitr; swap; · iexact HS
  ipureintro
  unfold win_runA.sl.HS_1
  refine (read_whole_cons' _ _ zero2' _ _ _).trans ?_
  unfold win_runA.sl.v245 win_runA.sl.HS_1
  rw [readCov_whole _ zero2']
  sl_kernel_rfl

set_option maxHeartbeats 4000000 in
/-- The body at a point between. -/
theorem win_runB (c : Dev nD) (arg1 : Memref sig .tc .vmem S528x16x384 .bf16) (harg1 : arg1.IsWhole) (arg2 : Memref sig .tc .vmem S512x16x128 .f32) (harg2 : arg2.IsWhole) (arg3 : Memref sig .tc .vmem S16x1 .i32) (harg3 : arg3.IsWhole) (arg4 : Memref sig .tc .vmem S3840x384 .bf16) (harg4 : arg4.IsWhole) (arg5 : Memref sig .tc .vmem S384x64 .bf16) (harg5 : arg5.IsWhole) (arg6 : Memref sig .tc .vmem S1x64 .f32) (harg6 : arg6.IsWhole) (arg7 : Memref sig .tc .vmem S64x384 .bf16) (harg7 : arg7.IsWhole) (arg8 : Memref sig .tc .vmem S1x384 .f32) (harg8 : arg8.IsWhole) (arg9 : Memref sig .tc .vmem S1x384 .f32) (harg9 : arg9.IsWhole) (arg10 : Memref sig .tc .vmem S384x128 .f32) (harg10 : arg10.IsWhole) (arg11 : Memref sig .tc .vmem S1x128 .f32) (harg11 : arg11.IsWhole) (arg12 : Memref sig .tc .vmem S16x128 .f32) (harg12 : arg12.IsWhole) (arg13 : Memref sig .tc .vmem S16x384 .f32) (harg13 : arg13.IsWhole)
    (h1 : ¬ cond2_1 i) (h2 : ¬ cond2_0 i) (x0 : Vec F S528x16x384 .bf16) (x1 : Vec F S512x16x128 .f32) (x2 : Vec F S16x1 .i32) (x3 : Vec F S3840x384 .bf16) (x4 : Vec F S384x64 .bf16) (x5 : Vec F S1x64 .f32) (x6 : Vec F S64x384 .bf16) (x7 : Vec F S1x384 .f32) (x8 : Vec F S1x384 .f32) (x9 : Vec F S384x128 .f32) (x10 : Vec F S1x128 .f32) (x11 : Vec F S16x128 .f32) (acc : Vec F S16x384 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (winStep i x0 x1 x2 x3 x4 x5 x6 x7 x8 acc)) -∗ K ⟨⟩))
      ⊢ wp frame (wpE (defs₀ (F := F)) Variants.none c none) E (cc2__win_body i arg1 harg1 arg2 harg2 arg3 harg3 arg4 harg4 arg5 harg5 arg6 harg6 arg7 harg7 arg8 harg8 arg9 harg9 arg10 harg10 arg11 harg11 arg12 harg12 arg13 harg13) K := by
  simp only [cc2__win_body_eq_skeleton]; unfold cc2__win_body_skel
  simp only [k2_part1_eq_skeleton, k2_part2_eq_skeleton, k2_part3_eq_skeleton, k2_part4_eq_skeleton, k2_part5_eq_skeleton, k2_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fS, %hfS, HS⟩, Hk⟩
  subst hf0 hf1 hf2 hf3 hf4 hf5 hf6 hf7 hf8 hf9 hf10 hf11 hfS
  sl_exec (disch := first | sl_exact h1 | sl_exact h2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  iexists _; isplitr; swap; · iexact HS
  ipureintro
  refine (read_whole_cons' _ _ zero2' _ _ _).trans ?_
  sl_kernel_rfl

set_option maxHeartbeats 4000000 in
/-- The body at the last point. -/
theorem win_runC (c : Dev nD) (arg1 : Memref sig .tc .vmem S528x16x384 .bf16) (harg1 : arg1.IsWhole) (arg2 : Memref sig .tc .vmem S512x16x128 .f32) (harg2 : arg2.IsWhole) (arg3 : Memref sig .tc .vmem S16x1 .i32) (harg3 : arg3.IsWhole) (arg4 : Memref sig .tc .vmem S3840x384 .bf16) (harg4 : arg4.IsWhole) (arg5 : Memref sig .tc .vmem S384x64 .bf16) (harg5 : arg5.IsWhole) (arg6 : Memref sig .tc .vmem S1x64 .f32) (harg6 : arg6.IsWhole) (arg7 : Memref sig .tc .vmem S64x384 .bf16) (harg7 : arg7.IsWhole) (arg8 : Memref sig .tc .vmem S1x384 .f32) (harg8 : arg8.IsWhole) (arg9 : Memref sig .tc .vmem S1x384 .f32) (harg9 : arg9.IsWhole) (arg10 : Memref sig .tc .vmem S384x128 .f32) (harg10 : arg10.IsWhole) (arg11 : Memref sig .tc .vmem S1x128 .f32) (harg11 : arg11.IsWhole) (arg12 : Memref sig .tc .vmem S16x128 .f32) (harg12 : arg12.IsWhole) (arg13 : Memref sig .tc .vmem S16x384 .f32) (harg13 : arg13.IsWhole)
    (h1 : ¬ cond2_1 i) (h2 : cond2_0 i) (x0 : Vec F S528x16x384 .bf16) (x1 : Vec F S512x16x128 .f32) (x2 : Vec F S16x1 .i32) (x3 : Vec F S3840x384 .bf16) (x4 : Vec F S384x64 .bf16) (x5 : Vec F S1x64 .f32) (x6 : Vec F S64x384 .bf16) (x7 : Vec F S1x384 .f32) (x8 : Vec F S1x384 .f32) (x9 : Vec F S384x128 .f32) (x10 : Vec F S1x128 .f32) (x11 : Vec F S16x128 .f32) (acc : Vec F S16x384 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (winFin x9 x10 (winStep i x0 x1 x2 x3 x4 x5 x6 x7 x8 acc)) ∗ owns (c : Thread nD τ) arg13 fullShare (winStep i x0 x1 x2 x3 x4 x5 x6 x7 x8 acc)) -∗ K ⟨⟩))
      ⊢ wp frame (wpE (defs₀ (F := F)) Variants.none c none) E (cc2__win_body i arg1 harg1 arg2 harg2 arg3 harg3 arg4 harg4 arg5 harg5 arg6 harg6 arg7 harg7 arg8 harg8 arg9 harg9 arg10 harg10 arg11 harg11 arg12 harg12 arg13 harg13) K := by
  simp only [cc2__win_body_eq_skeleton]; unfold cc2__win_body_skel
  simp only [k2_part1_eq_skeleton, k2_part2_eq_skeleton, k2_part3_eq_skeleton, k2_part4_eq_skeleton, k2_part5_eq_skeleton, k2_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fS, %hfS, HS⟩, Hk⟩
  subst hf0 hf1 hf2 hf3 hf4 hf5 hf6 hf7 hf8 hf9 hf10 hfS
  sl_exec (disch := first | sl_exact h1 | sl_exact h2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; swap; · iexact H11
    ipureintro
    refine (read_whole_cons' _ _ zero2' _ _ _).trans ?_
    unfold win_runC.sl.v256 win_runC.sl.HS_1
    rw [readCov_whole _ zero2']
    unfold winFin
    rw [View.ld_unit_zero zero2']
    sl_kernel_rfl
  iexists _; isplitr; swap; · iexact HS
  ipureintro
  unfold win_runC.sl.HS_1
  refine (read_whole_cons' _ _ zero2' _ _ _).trans ?_
  sl_kernel_rfl

omit i x0 x1 x2 x3 x4 x5 x6 x7 x8

/-- What the accumulator holds before point `n`. -/
def accB (c : Dev nD) : ℕ → Vec F S16x384 .f32
  | 0 => k2_pay3
  | n + 1 => if h : n < cfg2.N then winStep (grid2.coords ⟨n, h⟩) (iblk2 V c 0 ⟨n, h⟩) (iblk2 V c 1 ⟨n, h⟩) (iblk2 V c 2 ⟨n, h⟩) (iblk2 V c 3 ⟨n, h⟩) (iblk2 V c 4 ⟨n, h⟩) (iblk2 V c 5 ⟨n, h⟩) (iblk2 V c 6 ⟨n, h⟩) (iblk2 V c 7 ⟨n, h⟩) (iblk2 V c 8 ⟨n, h⟩) (accB c n) else accB c n

/-- The sum after one more grid point. -/
theorem accB_succ (c : Dev nD) (t : Fin cfg2.N) :
    accB V c (t.val + 1) = winStep (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (accB V c t.val) := dif_pos t.isLt

/-- What is held before point `n`: the other launches' buffers, the accumulator with the sum so far, the generator's register. -/
def PhiS (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ d, iprop(⌜n ≠ 0 → d = accB V c n⌝ ∗ owns (c : Thread nD τ) scM2_0 fullShare d))) ∗ (∃ r, prngReg c r))

/-- The sum's buffer starts with anything. -/
theorem PhiS_in (c : Dev nD) : (Pipeline.ΦA spec2 c : sProp 𝕄) ⊢ PhiS V c 0 := by
  rw [PhiA2_eq]; unfold PhiS
  iintro ⟨⟨HR0, HR1, HR2, HR3, HR4, HR5, HR6, HR7, HR8, HR9, HR10, HR11, HR12, HR13, HR14, HR15, HR16, ⟨%d, HS⟩⟩, Hg⟩
  isplitr [Hg]; swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  iexists d; isplitr
  · ipureintro; exact fun h => absurd rfl h
  iexact HS

/-- It may end with anything. -/
theorem PhiS_out (c : Dev nD) (n : ℕ) : PhiS V c n ⊢ (Pipeline.ΦA spec2 c : sProp 𝕄) := by
  rw [PhiA2_eq]; unfold PhiS
  iintro ⟨⟨HR0, HR1, HR2, HR3, HR4, HR5, HR6, HR7, HR8, HR9, HR10, HR11, HR12, HR13, HR14, HR15, HR16, ⟨%d, -, HS⟩⟩, Hg⟩
  isplitr [Hg]; swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  iexists d; iexact HS

/-- What each window holds before and after a grid point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => winFin (iblk2 V c 9 t) (iblk2 V c 10 t) (accB V c (t.val + 1))
  Φ n := PhiS V c n.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = winFin (iblk2 V c 9 t) (iblk2 V c 10 t) (accB V c (t.val + 1)) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = PhiS V c (t.val + 1) from rfl,
    show (dat2 V c).Φ t.castSucc = PhiS V c t.val from rfl,
    show (dat2 V c).owesAt () t.succ = (dat2 V c).owesAt () t.castSucc from rfl]
  unfold PhiS
  have hN : t.val < 8 := lt_of_lt_of_eq t.isLt (show cfg2.N = 8 from N_2)
  have hs := accB_succ V c t
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  rw [show (dat2 V c).leavesExact 5 t = owns (c : Thread nD τ) (ms2_5 t) fullShare ((dat2 V c).after 5 t) from by
      unfold Dat.leavesExact; rw [liveAt2_5 t], after2_5]
  rw [show (dat2 V c).leavesExact 6 t = owns (c : Thread nD τ) (ms2_6 t) fullShare ((dat2 V c).after 6 t) from by
      unfold Dat.leavesExact; rw [liveAt2_6 t], after2_6]
  rw [show (dat2 V c).leavesExact 7 t = owns (c : Thread nD τ) (ms2_7 t) fullShare ((dat2 V c).after 7 t) from by
      unfold Dat.leavesExact; rw [liveAt2_7 t], after2_7]
  rw [show (dat2 V c).leavesExact 8 t = owns (c : Thread nD τ) (ms2_8 t) fullShare ((dat2 V c).after 8 t) from by
      unfold Dat.leavesExact; rw [liveAt2_8 t], after2_8]
  rw [show (dat2 V c).leavesExact 9 t = owns (c : Thread nD τ) (ms2_9 t) fullShare ((dat2 V c).after 9 t) from by
      unfold Dat.leavesExact; rw [liveAt2_9 t], after2_9]
  rw [show (dat2 V c).leavesExact 10 t = owns (c : Thread nD τ) (ms2_10 t) fullShare ((dat2 V c).after 10 t) from by
      unfold Dat.leavesExact; rw [liveAt2_10 t], after2_10]
  by_cases h0 : t.val % 8 = 0
  · have z : t.val = 0 := by omega
    rw [Dat.leavesExact_idle (dat2 V c) 11 t (idleAt2_11_A t (fun h => by have := (hcond2_0 t).mp h; omega)) (noFlush2_11_A t (fun h => by have := (hcond2_0 t).mp h; omega))]
    iintro ⟨⟨⟨HR0, HR1, HR2, HR3, HR4, HR5, HR6, HR7, HR8, HR9, HR10, HR11, HR12, HR13, HR14, HR15, HR16, ⟨%dS, %hd, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (win_runA (grid2.coords t) c _ _ _ _ _ _ _ _ _ _ _ _ _ _ _ _ _ _ _ _ _ _ _ _ _ _ ((hcond2_1 t).mpr h0) (fun h => by have := (hcond2_0 t).mp h; omega) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _ (accB V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexists _; iexact HS
    iintro ⟨H0, H1, H2, H3, H4, H5, H6, H7, H8, H9, H10, H11, HS⟩
    isplitl [HR0 HR1 HR2 HR3 HR4 HR5 HR6 HR7 HR8 HR9 HR10 HR11 HR12 HR13 HR14 HR15 HR16 HS Hg]
    · isplitr [Hg]; swap; · iexact Hg
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      iexists _; isplitr; swap; · iexact HS
      ipureintro; intro _; rw [hs]; rw [z]; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  by_cases h7 : t.val % 8 = 7
  · rw [show (dat2 V c).leavesExact 11 t = owns (c : Thread nD τ) (ms2_11 t) fullShare ((dat2 V c).after 11 t) from by
      unfold Dat.leavesExact; rw [liveAt2_11_B t ((hcond2_0 t).mpr h7)], after2_11]
    iintro ⟨⟨⟨HR0, HR1, HR2, HR3, HR4, HR5, HR6, HR7, HR8, HR9, HR10, HR11, HR12, HR13, HR14, HR15, HR16, ⟨%dS, %hd, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have e : dS = accB V c t.val := hd (fun h => by rw [h] at h0; exact h0 rfl)
    subst e
    iapply (win_runC (grid2.coords t) c _ _ _ _ _ _ _ _ _ _ _ _ _ _ _ _ _ _ _ _ _ _ _ _ _ _ (fun h => h0 ((hcond2_1 t).mp h)) ((hcond2_0 t).mpr h7) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (winFin (iblk2 V c 9 t) (iblk2 V c 10 t) (accB V c (t.val + 1))) (accB V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS]; · iexact HS
    iintro ⟨H0, H1, H2, H3, H4, H5, H6, H7, H8, H9, H10, H11, HS⟩
    isplitl [HR0 HR1 HR2 HR3 HR4 HR5 HR6 HR7 HR8 HR9 HR10 HR11 HR12 HR13 HR14 HR15 HR16 HS Hg]
    · isplitr [Hg]; swap; · iexact Hg
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      iexists _; isplitr; swap; · iexact HS
      ipureintro; intro _; rw [hs]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    rw [hs]; iexact H11
  · rw [Dat.leavesExact_idle (dat2 V c) 11 t (idleAt2_11_A t (fun h => h7 ((hcond2_0 t).mp h))) (noFlush2_11_A t (fun h => h7 ((hcond2_0 t).mp h)))]
    iintro ⟨⟨⟨HR0, HR1, HR2, HR3, HR4, HR5, HR6, HR7, HR8, HR9, HR10, HR11, HR12, HR13, HR14, HR15, HR16, ⟨%dS, %hd, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have e : dS = accB V c t.val := hd (fun h => by rw [h] at h0; exact h0 rfl)
    subst e
    iapply (win_runB (grid2.coords t) c _ _ _ _ _ _ _ _ _ _ _ _ _ _ _ _ _ _ _ _ _ _ _ _ _ _ (fun h => h0 ((hcond2_1 t).mp h)) (fun h => h7 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _ (accB V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, H11, HS⟩
    isplitl [HR0 HR1 HR2 HR3 HR4 HR5 HR6 HR7 HR8 HR9 HR10 HR11 HR12 HR13 HR14 HR15 HR16 HS Hg]
    · isplitr [Hg]; swap; · iexact Hg
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      iexists _; isplitr; swap; · iexact HS
      ipureintro; intro _; rw [hs]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11

theorem defs₀_row2 (t : Fin cfg2.N) :
    defs₀ (F := F) .tc cfg2.body (cfg2.bodyArgs t (cfg2.slots t)) = bodyAt2 t := by
  unfold defs₀; rw [Defs.onTc_tc]

/-- The body runs at every grid point, and leaves what was said. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Gen

end
-- ==== Proof.Ideal.Launch.lean ====
module

public import proofs.«01_k».proof.Proof.Ideal.Emb
public import proofs.«01_k».proof.Proof.Ideal.Rec
public import proofs.«01_k».proof.Proof.Ideal.Win

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel's arguments. -/
abbrev argRefs : List (Ref sig .tc) := [main_arg0, main_arg1, main_arg2, main_arg3, main_arg4, main_arg5, main_arg6, main_arg7, main_arg8, main_arg9, main_arg10, main_arg11, main_arg12, main_arg13]

theorem hostOps0_fresh : (hostOps0 : List (HloOp τ sig (Elt F))).Forall fun op => op.fresh = ∅ := by
  simp only [List.Forall]; repeat' constructor
abbrev hostOps0_W : List (Ref sig .tc) := [main_call0_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_call0_v2, main_call0_v3, main_call0_v4, main_call0_v5, main_call0_c, main_call0_v6, main_call0_v7, main_call0_c_0, main_call0_c_1, main_call0_call0_v0, main_call0_call0_v1, main_call0_call0_v2, main_call0_call0_v3, main_call0_call0_v4, main_call0_v8, main_call0_v9, main_call0_v10, main_call0_v11, main_call0_v12, main_call0_v13, main_call0_cst, main_call0_v14, main_call0_c_2, main_call0_v15, main_call0_c_3, main_call0_v16, main_call0_v17, main_call0_v18, main_call0_c_4, main_call0_v19, main_call0_c_5, main_call0_v20, main_call0_v21, main_call0_v22, main_call0_v23, main_call0_v24, main_call0_v25, main_call0_v26, main_call0_v27, main_call0_v28, main_call0_v29, main_call0_v30, main_call0_v31, main_call0_v32, main_call0_v33, main_call0_v34, main_call0_cst_6, main_call0_v35, main_call0_v36, main_call0_c_7, main_call0_v37, main_call0_c_8, main_call0_v38, main_call0_v39, main_call0_v40, main_call0_v41, main_call0_v42, main_call0_v43, main_call0_v44, main_call0_v45, main_call0_v46, main_call0_v47, main_call0_v48, main_call0_v49, main_call0_v50, main_call0_v51, main_call0_v52, main_call0_v53]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_call0_v55, main_call0_v56, main_call0_v57]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- What the buffers hold at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- What they hold before the first call. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- What they hold after it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- What they hold before the second call. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- What they hold after it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- What they hold before the third call. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
/-- What they hold at the end. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)
theorem W6_main_arg10 (c : Dev nD) : W6 m ρ c (Proc.devRef .tc main_arg10) = m ((c : Thread nD τ).loc main_arg10) :=
  W6_args m ρ c main_arg10 (by decide)
theorem W6_main_arg11 (c : Dev nD) : W6 m ρ c (Proc.devRef .tc main_arg11) = m ((c : Thread nD τ).loc main_arg11) :=
  W6_args m ρ c main_arg11 (by decide)
theorem W6_main_arg12 (c : Dev nD) : W6 m ρ c (Proc.devRef .tc main_arg12) = m ((c : Thread nD τ).loc main_arg12) :=
  W6_args m ρ c main_arg12 (by decide)
theorem W6_main_arg13 (c : Dev nD) : W6 m ρ c (Proc.devRef .tc main_arg13) = m ((c : Thread nD τ).loc main_arg13) :=
  W6_args m ρ c main_arg13 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = PhiS (V5 m ρ) c 0 from rfl]
    refine BIBase.Entails.trans ?_ (PhiS_in (V5 m ρ) c); unfold Pipeline.ΦA
    iintro ⟨Hp, -, Hr⟩
    isplitl [Hr]; · iexact Hr
    iexact Hp
  hout c := by
    rw [Pipeline.ownSems0_none, show (pdats m ρ 2 c).Φ (Fin.last _) = PhiS (V5 m ρ) c cfg2.N from rfl]
    refine (PhiS_out (V5 m ρ) c _).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the three calls with the host code between them. -/
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- What every buffer that outlives the launches holds at the end. -/
theorem run : θ_run defs (onTc (τ := τ) (main (F := F))) ⟨m, fun _ => 0, ρ⟩ (fun r => (∀ c : Dev nD,
      ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

set_option backward.isDefEq.respectTransparency.types false in
/-- The kernel terminates without a fault, its arguments are unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ hr => ⟨(fun c =>
      ⟨(hr.1 c _ (mem_uc main_arg0 (by decide))).trans (W6_main_arg0 m ρ c),
       (hr.1 c _ (mem_uc main_arg1 (by decide))).trans (W6_main_arg1 m ρ c),
       (hr.1 c _ (mem_uc main_arg2 (by decide))).trans (W6_main_arg2 m ρ c),
       (hr.1 c _ (mem_uc main_arg3 (by decide))).trans (W6_main_arg3 m ρ c),
       (hr.1 c _ (mem_uc main_arg4 (by decide))).trans (W6_main_arg4 m ρ c),
       (hr.1 c _ (mem_uc main_arg5 (by decide))).trans (W6_main_arg5 m ρ c),
       (hr.1 c _ (mem_uc main_arg6 (by decide))).trans (W6_main_arg6 m ρ c),
       (hr.1 c _ (mem_uc main_arg7 (by decide))).trans (W6_main_arg7 m ρ c),
       (hr.1 c _ (mem_uc main_arg8 (by decide))).trans (W6_main_arg8 m ρ c),
       (hr.1 c _ (mem_uc main_arg9 (by decide))).trans (W6_main_arg9 m ρ c),
       (hr.1 c _ (mem_uc main_arg10 (by decide))).trans (W6_main_arg10 m ρ c),
       (hr.1 c _ (mem_uc main_arg11 (by decide))).trans (W6_main_arg11 m ρ c),
       (hr.1 c _ (mem_uc main_arg12 (by decide))).trans (W6_main_arg12 m ρ c),
       (hr.1 c _ (mem_uc main_arg13 (by decide))).trans (W6_main_arg13 m ρ c)⟩), hr.2⟩) (run m ρ)

/-- The same without the counters. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h => h.1) (frame m ρ)

end Cert.KernelIdeal.Gen

end
-- ==== Proof.Reference.Frame.lean ====
module

public import proofs.«01_k».proof.Proof.Gen.ReferenceIdeal.Run
public import Idealize.ShloMosaic.Lib.Quiescent

/-! The reference: what no operation of it writes is kept to the end, among these its arguments. -/

@[expose] public section

set_option maxRecDepth 4000

noncomputable section

namespace Cert.ReferenceIdeal.Value

open Idealize.ShloMosaic Idealize.ShloMosaic.TcCoe Idealize.ShloMosaic.StableHlo Idealize.SL.Sem
open Cert.ReferenceIdeal.Gen

variable {F : FTy → Type} [FloatOps F]

/-- What each operation after the loop writes, in order. -/
abbrev tailW : List (Ref sig .tc) := [main_v19, main_v20, main_v21, main_v22, main_c_9, main_v23, main_c_10, main_v24, main_v25, main_v26, main_c_11, main_v27, main_v28, main_c_12, main_v29, main_v30, main_v31, main_c_13, main_v32, main_v33, main_c_14, main_v34, main_v35, main_v36, main_v37, main_v38, main_v39, main_v40, main_v41, main_v42, main_v43, main_v44, main_v45]
/-- The list is complete. -/
theorem tail_writes : (hostOps0_1 : List (HloOp τ sig (Elt F))).Forall fun op => op.writes ⊆ (tailW.map (Proc.devRef (τ := τ) .tc)).toFinset :=
  forall_writes_sub_of_map rfl

/-- What one trip of the loop writes, its condition included. -/
abbrev loopW : List (Ref sig .tc) := condOps_W ++ while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W ++ while0Ops0_11_W ++ while0Ops0_12_W ++ while0Ops0_13_W ++ while0Ops0_14_W

/-- What a trip does not write it keeps. -/
theorem trip_keeps (r : Ref sig .tc) (h : r ∉ loopW) (V : Valuation τ sig (Elt F)) :
    afterL bodyI (after condOps V) (Proc.devRef .tc r) = V (Proc.devRef .tc r) := by
  simp only [loopW, List.mem_append, not_or, and_assoc] at h
  obtain ⟨hc, h0, h1, h2, h3, h4, h5, h6, h7, h8, h9, h10, h11, h12, h13, h14⟩ := h
  simp only [afterL_cons, afterL_nil]
  rw [after_of_writes_sub while0Ops0_14 _ while0Ops0_14_writes h14, after_of_writes_sub while0Ops0_13 _ while0Ops0_13_writes h13, after_of_writes_sub while0Ops0_12 _ while0Ops0_12_writes h12, after_of_writes_sub while0Ops0_11 _ while0Ops0_11_writes h11, after_of_writes_sub while0Ops0_10 _ while0Ops0_10_writes h10, after_of_writes_sub while0Ops0_9 _ while0Ops0_9_writes h9, after_of_writes_sub while0Ops0_8 _ while0Ops0_8_writes h8, after_of_writes_sub while0Ops0_7 _ while0Ops0_7_writes h7, after_of_writes_sub while0Ops0_6 _ while0Ops0_6_writes h6, after_of_writes_sub while0Ops0_5 _ while0Ops0_5_writes h5, after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0,
    after_of_writes_sub condOps _ condOps_writes hc]

variable (m : (ℓ : Loc nD τ sig) → Buf (Elt F) ℓ) (ρ : Dev nD → PrngReg)

/-- What no trip writes is, before every trip, as it was before the first. -/
theorem atK_keeps (c : Dev nD) (r : Ref sig .tc) (h : r ∉ loopW) :
    ∀ k, atK m k c (Proc.devRef .tc r) = entryContents preI m c (Proc.devRef .tc r)
  | 0 => rfl
  | k + 1 => (trip_keeps r h _).trans (atK_keeps c r h k)

/-- What is not written at all is at the end as it was at launch. -/
theorem final_keeps (c : Dev nD) (r : Ref sig .tc) (h0 : r ∉ hostOps0_W) (h : r ∉ loopW) (h1 : r ∉ tailW) :
    finalContents condOps preI bodyI postI 512 m c (Proc.devRef .tc r) = m ((c.tc : Thread nD τ).loc r) := by
  have hc : r ∉ condOps_W := fun hr => h (by simp only [loopW, List.mem_append]; tauto)
  unfold finalContents
  simp only [afterL_cons, afterL_nil]
  rw [after_of_writes_sub hostOps0_1 _ tail_writes h1, after_of_writes_sub condOps _ condOps_writes hc]
  refine (atK_keeps m c r h 512).trans ?_
  simp only [entryContents, afterL_cons, afterL_nil]
  exact after_of_writes_sub hostOps0 _ hostOps0_writes h0

/-- The reference's arguments. -/
abbrev argRefs : List (Ref sig .tc) := [main_arg0, main_arg1, main_arg2, main_arg3, main_arg4, main_arg5, main_arg6, main_arg7, main_arg8, main_arg9, main_arg10, main_arg11, main_arg12, main_arg13]
/-- No argument is written before the loop. -/
theorem args_hostOps0 : ∀ a ∈ argRefs, a ∉ hostOps0_W := ListAll.forall_mem_of_all_decide (by decide +kernel)
/-- None is written in the loop. -/
theorem args_loop : ∀ a ∈ argRefs, a ∉ loopW := ListAll.forall_mem_of_all_decide (by decide +kernel)
/-- None is written after it. -/
theorem args_tail : ∀ a ∈ argRefs, a ∉ tailW := ListAll.forall_mem_of_all_decide (by decide +kernel)
/-- The arguments live outside every scope. -/
theorem args_unscoped : ∀ a ∈ argRefs, (Proc.devRef .tc a : DevRef τ sig).isScoped = false :=
  ListAll.forall_mem_of_all_decide (by decide +kernel)

/-- The reference terminates without a fault, its arguments are unchanged and every counter reads zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => by
    have key : ∀ (c : Dev nD), ∀ a ∈ argRefs, r.2.mem ((c.tc : Thread nD τ).loc a) = m ((c.tc : Thread nD τ).loc a) := fun c a ha =>
      (h c a (args_unscoped a ha)).trans (final_keeps m c a (args_hostOps0 a ha) (args_loop a ha) (args_tail a ha))
    refine ⟨fun c => ⟨key c _ (by decide +kernel), key c _ (by decide +kernel), key c _ (by decide +kernel), key c _ (by decide +kernel), key c _ (by decide +kernel), key c _ (by decide +kernel), key c _ (by decide +kernel), key c _ (by decide +kernel), key c _ (by decide +kernel), key c _ (by decide +kernel), key c _ (by decide +kernel), key c _ (by decide +kernel), key c _ (by decide +kernel), key c _ (by decide +kernel)⟩, sem_eq_zero_of_no_sems (by decide) _⟩) (run_fold m ρ)

end Cert.ReferenceIdeal.Value

end
-- ==== Proof.Value.Spec.lean ====
module

public import Idealize.ShloMosaic.PureOps.Ideal

/-! The mathematics, of one patient: what one visit does to the state, and what the window of ten visits gives. -/

@[expose] public section

noncomputable section

namespace Cert.Spec

open Idealize.ShloMosaic

/-- The window's result at unit `o`: the theme of the ten scaled hidden states `s`, times their convolution. -/
def window (s : Fin 10 → Fin 384 → EReal) (wc : Fin 10 → Fin 384 → Fin 384 → EReal) (sw : Fin 384 → Fin 64 → EReal)
    (sb : Fin 64 → EReal) (rw : Fin 64 → Fin 384 → EReal) (rb cb : Fin 384 → EReal) (o : Fin 384) : EReal :=
  Ideal.logistic (∑ j, max (∑ e, (∑ k, s k e) * ((1 / 10 : ℝ) : EReal) * sw e j + sb j) 0 * rw j o + rb o)
    * (∑ k, ∑ e, s k e * wc k e o + cb o)

end Cert.Spec

end
-- ==== Proof.Value.Model.lean ====
module

public import Idealize.ShloMosaic.PureOps
public import Idealize.ShloMosaic.Lib.Pointwise
public import proofs.«01_k».proof.Proof.Value.Spec

@[expose] public section

noncomputable section

namespace Cert.Spec

open Idealize.ShloMosaic

/-- The softmax of a row of reals. -/
def soft {n : ℕ} (v : Fin n → ℝ) (k : Fin n) : ℝ := Real.exp (v k) / ∑ m, Real.exp (v m)

/-- The logistic function. -/
def sig (x : ℝ) : ℝ := (1 + Real.exp (-x))⁻¹

/-- The recurrence's weights, as reals. -/
structure Par where
  /-- the input's weights, the last column the interval's -/
  kW : Fin 1542 → Fin 129 → ℝ
  /-- their bias -/
  kb : Fin 1542 → ℝ
  /-- the hidden state's weights, the last column the interval's -/
  rW : Fin 1542 → Fin 385 → ℝ
  /-- their bias -/
  rb : Fin 1542 → ℝ

/-- The state of one patient: cell, hidden state and the last ten distances. -/
structure St where
  /-- the cell -/
  c : Fin 384 → ℝ
  /-- the hidden state -/
  h : Fin 384 → ℝ
  /-- the distances, oldest first -/
  d : Fin 10 → ℝ

/-- All that is added to a gate besides the two products. -/
def Par.bias (P : Par) (j : Fin 1542) : ℝ := P.kb j + P.kW j 128 + P.rb j + P.rW j 384

/-- A gate before its nonlinearity. -/
def Par.pre (P : Par) (x : Fin 128 → ℝ) (h : Fin 384 → ℝ) (j : Fin 1542) : ℝ :=
  (∑ d : Fin 128, x d * P.kW j ⟨d.val, by omega⟩ + ∑ e : Fin 384, h e * P.rW j ⟨e.val, by omega⟩) + P.bias j

variable (z : Fin 1542 → ℝ)

/-- The first master gate: the running sum of a softmax. -/
def fm (l : Fin 3) : ℝ := ∑ m : Fin 3, if m ≤ l then soft (fun a : Fin 3 => z ⟨a.val, by omega⟩) m else 0

/-- The second master gate: the running sum from the end. -/
def im (l : Fin 3) : ℝ := ∑ m : Fin 3, if l ≤ m then soft (fun a : Fin 3 => z ⟨3 + a.val, by omega⟩) m else 0

/-- The level of a unit. -/
def lev (e : Fin 384) : Fin 3 := ⟨e.val / 128, by omega⟩

/-- One cell's new content. -/
def cell (f i fg ig ci c : ℝ) : ℝ := f * i * (fg * c + ig * ci) + (f - f * i) * c + (i - f * i) * ci

/-- The new cell. -/
def newC (c : Fin 384 → ℝ) (e : Fin 384) : ℝ :=
  cell (fm z (lev e)) (im z (lev e)) (sig (z ⟨6 + e.val, by omega⟩)) (sig (z ⟨390 + e.val, by omega⟩)) (Real.tanh (z ⟨1158 + e.val, by omega⟩)) (c e)

/-- The new hidden state. -/
def newH (c : Fin 384 → ℝ) (e : Fin 384) : ℝ := sig (z ⟨774 + e.val, by omega⟩) * Real.tanh (newC z c e)

/-- The new distance. -/
def newD : ℝ := 1 - (∑ l, fm z l) / 3

/-- One step of the recurrence. -/
def Par.step (P : Par) (x : Fin 128 → ℝ) (s : St) : St where
  c := newC (P.pre x s.h) s.c
  h := newH (P.pre x s.h) s.c
  d := fun k => if h : k.val < 9 then s.d ⟨1 + k.val, by omega⟩ else newD (P.pre x s.h)

/-- The state after `n` visits. -/
def Par.state (P : Par) (xs : ℕ → Fin 128 → ℝ) : ℕ → St
  | 0 => ⟨fun _ => 0, fun _ => 0, fun _ => 0⟩
  | n + 1 => P.step (xs n) (P.state xs n)

/-- The running sums of the distances. -/
def cums (d : Fin 10 → ℝ) (k : Fin 10) : ℝ := ∑ j : Fin 10, if j ≤ k then d j else 0

/-- The window's weights. -/
def dis (s : St) (k : Fin 10) : ℝ := soft (cums s.d) k

/-- The hidden state that window place `k` holds after `n` visits; nothing before the first. -/
def Par.hist (P : Par) (xs : ℕ → Fin 128 → ℝ) (n : ℕ) (k : Fin 10) (e : Fin 384) : ℝ :=
  if 10 ≤ n + k.val then (P.state xs (n + k.val - 9)).h e else 0

/-! The printed forms, at reals. -/

/-- A sum of reals is a real. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of finitely many reals, at least one, is a real. -/
theorem fold_real {ι : Type*} (s : Finset ι) (hs : s.Nonempty) (f : ι → EReal) (h : ∀ i ∈ s, ∃ r : ℝ, f i = (r : EReal)) (b : EReal) (hb : b = ⊥) :
    ∃ r : ℝ, s.fold max b f = (r : EReal) := by
  subst hb
  have h1 : s.fold max ⊥ f < ⊤ := by
    rw [Finset.fold_max_lt]
    exact ⟨bot_lt_top, fun i hi => by obtain ⟨r, hr⟩ := h i hi; rw [hr]; exact EReal.coe_lt_top r⟩
  have h2 : ⊥ < s.fold max ⊥ f := by
    rw [Finset.lt_fold_max]
    obtain ⟨i, hi⟩ := hs
    exact Or.inr ⟨i, hi, by obtain ⟨r, hr⟩ := h i hi; rw [hr]; exact EReal.bot_lt_coe r⟩
  exact ⟨_, (EReal.coe_toReal h1.ne h2.ne').symm⟩

/-- A softmax does not see what is taken off all its entries. -/
theorem soft_shift {n : ℕ} (v : Fin n → ℝ) (r : ℝ) (k : Fin n) : Real.exp (v k - r) / ∑ m, Real.exp (v m - r) = soft v k := by
  unfold soft
  simp only [Real.exp_sub]
  rw [← Finset.sum_div, div_div_div_cancel_right₀ (Real.exp_pos r).ne']

/-- The sum of a softmax's entries is not zero. -/
theorem exps_ne {n : ℕ} (v : Fin n → ℝ) (k : Fin n) (r : ℝ) : (∑ m, Real.exp (v m - r)) ≠ 0 :=
  (Finset.sum_pos (fun m _ => Real.exp_pos _) ⟨k, Finset.mem_univ _⟩).ne'

/-- The sum of the printed exponentials. -/
theorem exps_coe {n : ℕ} (v : Fin n → ℝ) (r : ℝ) : ∑ m, Ideal.exp ((v m : EReal) - (r : EReal)) = ((∑ m, Real.exp (v m - r) : ℝ) : EReal) := by
  rw [← sum_coe]
  exact Finset.sum_congr rfl fun m _ => by rw [← EReal.coe_sub, Ideal.exp_coe]

/-- The printed softmax is the softmax, whatever real is taken off first. -/
theorem soft_coe {n : ℕ} (v : Fin n → ℝ) (M : EReal) (hM : ∃ r : ℝ, M = (r : EReal)) (k : Fin n) :
    Ideal.div (Ideal.exp ((v k : EReal) - M)) (∑ m, Ideal.exp ((v m : EReal) - M)) = ((soft v k : ℝ) : EReal) := by
  obtain ⟨r, rfl⟩ := hM
  rw [exps_coe, Ideal.div_coe (exps_ne v k r), ← EReal.coe_sub, Ideal.exp_coe, ← EReal.coe_mul, ← soft_shift v r k, mul_one_div]

/-- A softmax over entries that are reals, its largest entry taken off first. -/
theorem soft_max {n : ℕ} (g : Fin n → EReal) (v : Fin n → ℝ) (h : ∀ a, g a = ((v a : ℝ) : EReal)) (b : EReal) (hb : b = ⊥) (k : Fin n) :
    Ideal.div (Ideal.exp (g k - Finset.univ.fold max b g)) (∑ a, Ideal.exp (g a - Finset.univ.fold max b g)) = ((soft v k : ℝ) : EReal) := by
  have hM := fold_real Finset.univ ⟨k, Finset.mem_univ _⟩ g (fun i _ => ⟨v i, h i⟩) b hb
  obtain rfl : g = fun a => ((v a : ℝ) : EReal) := funext h
  exact soft_coe v _ hM k

/-- The kernel's form of a cell's new content. -/
theorem cell_coe (f i zf zi zc c : ℝ) :
    (c : EReal) * ((f : EReal) * (i : EReal) * (Ideal.logistic (zf : EReal) - 1) + (f : EReal))
        + Ideal.tanh (zc : EReal) * ((f : EReal) * (i : EReal) * (Ideal.logistic (zi : EReal) - 1) + (i : EReal))
      = ((cell f i (sig zf) (sig zi) (Real.tanh zc) c : ℝ) : EReal) := by
  rw [Ideal.logistic_coe, Ideal.logistic_coe, Ideal.tanh_coe, ← EReal.coe_one]
  simp only [← EReal.coe_sub, ← EReal.coe_mul, ← EReal.coe_add]
  unfold cell sig
  congr 1
  ring

/-- The reference's form of it. -/
theorem cell_coe' (f i zf zi zc c : ℝ) :
    (f : EReal) * (i : EReal) * (Ideal.div 1 (1 + Ideal.exp (-(zf : EReal))) * (c : EReal) + Ideal.div 1 (1 + Ideal.exp (-(zi : EReal))) * Ideal.tanh (zc : EReal))
        + ((f : EReal) - (f : EReal) * (i : EReal)) * (c : EReal) + ((i : EReal) - (f : EReal) * (i : EReal)) * Ideal.tanh (zc : EReal)
      = ((cell f i (sig zf) (sig zi) (Real.tanh zc) c : ℝ) : EReal) := by
  have e : ∀ x : EReal, Ideal.div 1 (1 + Ideal.exp (-x)) = Ideal.logistic x := fun _ => rfl
  rw [e, e, Ideal.logistic_coe, Ideal.logistic_coe, Ideal.tanh_coe]
  simp only [← EReal.coe_sub, ← EReal.coe_mul, ← EReal.coe_add]
  rfl

/-- The output gate's form. -/
theorem hid_coe (zo c : ℝ) : Ideal.logistic (zo : EReal) * Ideal.tanh (c : EReal) = ((sig zo * Real.tanh c : ℝ) : EReal) := by
  rw [Ideal.logistic_coe, Ideal.tanh_coe, ← EReal.coe_mul]; rfl

/-- The printed lowest value. -/
theorem lowest : Ideal.ofBits .f32 0xFF800000#32 = ⊥ := by
  simp [Ideal.ofBits, Ideal.ieee]

end Cert.Spec
end
-- ==== Proof.Value.Logit.lean ====
module

public import proofs.«01_k».proof.Proof.Value.Model
public import proofs.«01_k».proof.Proof.Value.Spec

@[expose] public section

noncomputable section

namespace Cert.Spec

open Idealize.ShloMosaic

/-- The visits' embeddings, real: the sum of the table's rows that the visit's codes name; nothing after the last visit. -/
def visits (codes : Fin 16 → Fin 512 → Fin 2048 → BitVec 32) (E : Fin 2048 → Fin 128 → ℝ) (b : Fin 16) (t : ℕ) (d : Fin 128) : ℝ :=
  if h : t < 512 then ∑ v, (if codes b ⟨t, h⟩ v = 1#32 then 1 else 0) * E v d else 0

/-- How many visits of a patient have an embedding that is not zero. -/
def seen (xs : ℕ → Fin 128 → ℝ) : ℕ := (Finset.univ.filter fun t : Fin 512 => ∃ d, xs t.val d ≠ 0).card

/-- No more visits are seen than there are. -/
theorem seen_le (xs : ℕ → Fin 128 → ℝ) : seen xs ≤ 512 := (Finset.card_le_univ _).trans (by simp)

/-- The weights after the recurrence; they may be anything. -/
structure Head where
  /-- to the scale's hidden layer -/
  sw : Fin 64 → Fin 384 → EReal
  /-- its bias -/
  sb : Fin 64 → EReal
  /-- from the scale's hidden layer -/
  rw : Fin 384 → Fin 64 → EReal
  /-- its bias -/
  rb : Fin 384 → EReal
  /-- the window's weights: channel out, channel in, place -/
  cw : Fin 384 → Fin 384 → Fin 10 → EReal
  /-- their bias -/
  cb : Fin 384 → EReal
  /-- to the results -/
  fw : Fin 128 → Fin 384 → EReal
  /-- their bias -/
  fb : Fin 128 → EReal

/-- The scaled and convolved window after `n` visits. -/
def Head.win (H : Head) (P : Par) (xs : ℕ → Fin 128 → ℝ) (n : ℕ) (e : Fin 384) : EReal :=
  window (fun k e => ((P.hist xs n k e : ℝ) : EReal) * ((dis (P.state xs n) k : ℝ) : EReal)) (fun k e o => H.cw o e k) (fun e j => H.sw j e) H.sb (fun j o => H.rw o j) H.rb H.cb e

/-- One result: the window and the hidden state after `n` visits through the last layer. -/
def Head.logit (H : Head) (P : Par) (xs : ℕ → Fin 128 → ℝ) (n : ℕ) (o : Fin 128) : EReal :=
  ∑ e, (H.win P xs n e + (((P.state xs n).h e : ℝ) : EReal)) * H.fw o e + H.fb o

end Cert.Spec
-- ==== Proof.Value.HostVal.lean ====
module

public import proofs.«01_k».proof.Proof.Value.Model
public import proofs.«01_k».proof.Proof.Ideal.Launch
public import Idealize.ShloMosaic.Lib.StableHlo.ReadAt
public import Idealize.ShloMosaic.Lib.Routing.OpsOne

@[expose] public section

set_option maxRecDepth 16384

noncomputable section

namespace Cert.KernelIdeal.Gen

open Idealize.ShloMosaic Idealize.ShloMosaic.Routing

/-- A block written into a table at a literal corner `(o, 0)`: inside the block the block's entry, elsewhere what was there. -/
theorem setBlock {R C A B : ℕ} (d : ScatterDims (shape2 R C) (shape1 2) (shape2 A B)) (hsd : d.scatterDimsToOperandDims = [0, 1]) (hivd : d.indexVectorDim = 0)
    (hw0 : ∀ a b, d.window (ix2 a b) 0 = a.val) (hw1 : ∀ a b, d.window (ix2 a b) 1 = b.val)
    (x : (shape2 R C).Idx → EReal) (idx : IVec (shape1 2) 32) (upd : (shape2 A B).Idx → EReal) (o : ℕ)
    (h0 : (idx (ix1 (0 : Fin 2))).toInt = o) (h1 : (idx (ix1 (1 : Fin 2))).toInt = 0) (r : Fin R) (c : Fin C) :
    Host.scatter d (fun _ b => b) x idx upd (ix2 r c)
      = if h : (o ≤ r.val ∧ r.val - o < A) ∧ c.val < B then upd (ix2 ⟨r.val - o, h.1.2⟩ ⟨c.val, h.2⟩) else x (ix2 r c) := by
  have lands : ∀ k : (shape2 A B).Idx, d.resultIdx? k idx = some (ix2 r c) ↔ o + (k 0).val = r.val ∧ (k 1).val = c.val := by
    intro k
    obtain ⟨a, b, rfl⟩ : ∃ (a : Fin A) (b : Fin B), k = ix2 a b := ⟨k 0, k 1, eq_ix2 k⟩
    refine (resultIdx?_ix2 d (ix2 a b) idx r c).trans ?_
    rw [start_pair d hsd hivd, start_pair d hsd hivd, hw0, hw1]
    show (idx (ix1 (0 : Fin 2))).toInt + (a.val : Int) = (r.val : Int) ∧ (idx (ix1 (1 : Fin 2))).toInt + (b.val : Int) = (c.val : Int) ↔ o + a.val = r.val ∧ b.val = c.val
    rw [h0, h1]
    omega
  by_cases h : (o ≤ r.val ∧ r.val - o < A) ∧ c.val < B
  · rw [dif_pos h]
    refine scatter_set_hit d x idx upd _ _ (fun k hk => ?_) (ix2 ⟨r.val - o, h.1.2⟩ ⟨c.val, h.2⟩) ((lands _).2 ⟨?_, rfl⟩)
    · obtain ⟨q0, q1⟩ := (lands k).1 hk
      rw [eq_ix2 k]
      exact congrArg upd (congrArg₂ ix2 (Fin.ext (by show (k 0).val = r.val - o; omega)) (Fin.ext q1))
    · show o + (r.val - o) = r.val
      omega
  · rw [dif_neg h]
    refine scatter_set_miss d x idx upd _ fun k hk => h ?_
    obtain ⟨q0, q1⟩ := (lands k).1 hk
    have := (k 0).isLt
    have := (k 1).isLt
    have e0 : (shape2 A B).size 0 = A := rfl
    have e1 : (shape2 A B).size 1 = B := rfl
    omega

/-- A row written at the front of the one row of a table. -/
theorem setRow (x : Vec Ideal S1x128 .f32) (idx : IVec S2 32) (upd : Vec Ideal S6 .f32)
    (h0 : (idx (ix1 (0 : Fin 2))).toInt = 0) (h1 : (idx (ix1 (1 : Fin 2))).toInt = 0) (c : Fin 6) :
    Host.scatter scatter_S1x128_S2_S6_0_0_01_0 (fun _ b => b) x idx upd (ix2 (0 : Fin 1) (⟨c.val, by omega⟩ : Fin 128)) = upd (ix1 c) := by
  have lands : ∀ k : S6.Idx, scatter_S1x128_S2_S6_0_0_01_0.resultIdx? k idx = some (ix2 (0 : Fin 1) (⟨c.val, by omega⟩ : Fin 128)) ↔ (k 0).val = c.val := by
    intro k
    obtain ⟨a, rfl⟩ : ∃ a : Fin 6, k = ix1 a := ⟨k 0, eq_ix1 k⟩
    have hw0 : scatter_S1x128_S2_S6_0_0_01_0.window (ix1 a) 0 = 0 := rfl
    have hw1 : scatter_S1x128_S2_S6_0_0_01_0.window (ix1 a) 1 = a.val := rfl
    refine (resultIdx?_ix2 (R := 1) (C := 128) scatter_S1x128_S2_S6_0_0_01_0 (ix1 a) idx 0 ⟨c.val, by omega⟩).trans ?_
    rw [start_pair (R := 1) (C := 128) scatter_S1x128_S2_S6_0_0_01_0 rfl rfl, start_pair (R := 1) (C := 128) scatter_S1x128_S2_S6_0_0_01_0 rfl rfl, hw0, hw1]
    show (idx (ix1 (0 : Fin 2))).toInt + ((0 : ℕ) : Int) = ((0 : ℕ) : Int) ∧ (idx (ix1 (1 : Fin 2))).toInt + (a.val : Int) = (c.val : Int) ↔ a.val = c.val
    rw [h0, h1]
    omega
  refine scatter_set_hit _ x idx upd _ _ (fun k hk => ?_) (ix1 c) ((lands _).2 rfl)
  rw [eq_ix1 k]
  exact congrArg upd (congrArg ix1 (Fin.ext ((lands k).1 hk)))

/-- The corner of a block, from its two words. -/
theorem corner (x y : IVec S1 32) : concatenate S2 0 [⟨S1, x⟩, ⟨S1, y⟩] concatenates_S1_S1_S2_d0 (ix1 (0 : Fin 2)) = x (ix1 0)
    ∧ concatenate S2 0 [⟨S1, x⟩, ⟨S1, y⟩] concatenates_S1_S1_S2_d0 (ix1 (1 : Fin 2)) = y (ix1 0) := by
  constructor
  · pointwise
  · pointwise

variable (U : Valuation τ sig (Elt Ideal))

/-- The table that goes into the first call is the argument's: the cast is the identity. -/
theorem v0_val (v : Fin 2048) (d : Fin 128) : StableHlo.after hostOps0 U (Proc.devRef .tc main_call0_v0) (ix2 v d) = U (Proc.devRef .tc main_arg1) (ix2 v d) := by
  after_reads_at

/-- The embeddings, visit first. -/
theorem v2_val (t : Fin 512) (b : Fin 16) (d : Fin 128) :
    StableHlo.after hostOps1 U (Proc.devRef .tc main_call0_v2) (ix3 t b d) = U (Proc.devRef .tc main_call0_v1_0) (ix3 b t d) := by
  after_reads_at

/-- The gates' weights, the rows that meet the visit. -/
theorem v53_val_x (d : Fin 128) (j : Fin 1536) :
    StableHlo.after hostOps1 U (Proc.devRef .tc main_call0_v53) (ix2 (⟨d.val, by omega⟩ : Fin 512) j) = U (Proc.devRef .tc main_arg2) (ix2 ⟨6 + j.val, by omega⟩ ⟨d.val, by omega⟩) := by
  after_reads_at
  after_reads_at

/-- The gates' weights, the rows that meet the hidden state. -/
theorem v53_val_h (e : Fin 384) (j : Fin 1536) :
    StableHlo.after hostOps1 U (Proc.devRef .tc main_call0_v53) (ix2 (⟨128 + e.val, by omega⟩ : Fin 512) j) = U (Proc.devRef .tc main_arg4) (ix2 ⟨6 + j.val, by omega⟩ ⟨e.val, by omega⟩) := by
  after_reads_at
  after_reads_at

/-- The arguments the model's parameters are read from. -/
structure UOk (P : Spec.Par) : Prop where
  kW : ∀ j d, U (Proc.devRef .tc main_arg2) (ix2 j d) = ((P.kW j d : ℝ) : EReal)
  kb : ∀ j, U (Proc.devRef .tc main_arg3) (ix1 j) = ((P.kb j : ℝ) : EReal)
  rW : ∀ j e, U (Proc.devRef .tc main_arg4) (ix2 j e) = ((P.rW j e : ℝ) : EReal)
  rb : ∀ j, U (Proc.devRef .tc main_arg5) (ix1 j) = ((P.rb j : ℝ) : EReal)

variable {U} {P : Spec.Par} (hU : UOk U P)
include hU

/-- The gates' biases. -/
theorem v42_val (j : Fin 1536) : StableHlo.after hostOps1 U (Proc.devRef .tc main_call0_v42) (ix2 (0 : Fin 1) j) = ((P.bias ⟨6 + j.val, by omega⟩ : ℝ) : EReal) := by
  after_reads_at
  rw [hU.kb, hU.kW, hU.rb, hU.rW]
  simp only [← EReal.coe_add]
  rfl

/-- The master gates' biases, in the first six columns of the padded row. -/
theorem v40_val (j : Fin 6) : StableHlo.after hostOps1 U (Proc.devRef .tc main_call0_v40) (ix2 (0 : Fin 1) (⟨j.val, by omega⟩ : Fin 128)) = ((P.bias ⟨j.val, by omega⟩ : ℝ) : EReal) := by
  after_reads_at
  rw [setRow _ _ _ ?_ ?_ j]
  · pointwise
    rw [hU.kb, hU.kW, hU.rb, hU.rW]
    simp only [← EReal.coe_add]
    rfl
  · rw [(corner _ _).1]
    after_reads_at
    rfl
  · rw [(corner _ _).2]
    after_reads_at
    rfl

omit hU
variable (U)

/-- The master gates' weights, in the first six columns of the padded table. -/
theorem v52_val (r : Fin 512) (j : Fin 6) : StableHlo.after hostOps1 U (Proc.devRef .tc main_call0_v52) (ix2 r (⟨j.val, by omega⟩ : Fin 128))
    = if h : r.val < 128 then U (Proc.devRef .tc main_arg2) (ix2 ⟨j.val, by omega⟩ ⟨r.val, by omega⟩) else U (Proc.devRef .tc main_arg4) (ix2 ⟨j.val, by omega⟩ ⟨r.val - 128, by omega⟩) := by
  after_reads_at
  rw [setBlock (R := 512) (C := 128) (A := 384) (B := 6) _ rfl rfl (fun _ _ => rfl) (fun _ _ => rfl) _ _ _ 128 ?_ ?_]
  · by_cases h : r.val < 128
    · rw [dif_neg (by omega), dif_pos h]
      rw [setBlock (R := 512) (C := 128) (A := 128) (B := 6) _ rfl rfl (fun _ _ => rfl) (fun _ _ => rfl) _ _ _ 0 ?_ ?_]
      · rw [dif_pos (by simp only []; omega)]
        pointwise
      · rw [(corner _ _).1]
        after_reads_at
        rfl
      · rw [(corner _ _).2]
        after_reads_at
        rfl
    · rw [dif_pos (by simp only []; omega), dif_neg h]
      pointwise
  · rw [(corner _ _).1]
    after_reads_at
    rfl
  · rw [(corner _ _).2]
    after_reads_at
    rfl

/-- The scale's first bias, as a row. -/
theorem v46_val (j : Fin 64) : StableHlo.after hostOps1 U (Proc.devRef .tc main_call0_v46) (ix2 (0 : Fin 1) j) = U (Proc.devRef .tc main_arg7) (ix1 j) := by
  after_reads_at
/-- The scale's second bias, as a row. -/
theorem v48_val (j : Fin 384) : StableHlo.after hostOps1 U (Proc.devRef .tc main_call0_v48) (ix2 (0 : Fin 1) j) = U (Proc.devRef .tc main_arg9) (ix1 j) := by
  after_reads_at
/-- The convolution's bias, as a row. -/
theorem v49_val (j : Fin 384) : StableHlo.after hostOps1 U (Proc.devRef .tc main_call0_v49) (ix2 (0 : Fin 1) j) = U (Proc.devRef .tc main_arg11) (ix1 j) := by
  after_reads_at
/-- The final layer's weights, transposed. -/
theorem v50_val (e : Fin 384) (o : Fin 128) : StableHlo.after hostOps1 U (Proc.devRef .tc main_call0_v50) (ix2 e o) = U (Proc.devRef .tc main_arg12) (ix2 o e) := by
  after_reads_at
/-- The final layer's bias, as a row. -/
theorem v51_val (o : Fin 128) : StableHlo.after hostOps1 U (Proc.devRef .tc main_call0_v51) (ix2 (0 : Fin 1) o) = U (Proc.devRef .tc main_arg13) (ix1 o) := by
  after_reads_at
/-- The convolution's weights, one place of the window below the other. -/
theorem v44_val (k : Fin 10) (e o : Fin 384) : StableHlo.after hostOps1 U (Proc.devRef .tc main_call0_v44) (ix2 (⟨384 * k.val + e.val, by omega⟩ : Fin 3840) o) = U (Proc.devRef .tc main_arg10) (ix3 o e k) := by
  after_reads_at
/-- The scale's first weights, transposed. -/
theorem v45_val (e : Fin 384) (j : Fin 64) : StableHlo.after hostOps1 U (Proc.devRef .tc main_call0_v45) (ix2 e j) = U (Proc.devRef .tc main_arg6) (ix2 j e) := by
  after_reads_at
/-- The scale's second weights, transposed. -/
theorem v47_val (j : Fin 64) (e : Fin 384) : StableHlo.after hostOps1 U (Proc.devRef .tc main_call0_v47) (ix2 j e) = U (Proc.devRef .tc main_arg8) (ix2 e j) := by
  after_reads_at
/-- The convolution's weights after the cast. -/
theorem v55_val (r : Fin 3840) (o : Fin 384) : StableHlo.after hostOps2 U (Proc.devRef .tc main_call0_v55) (ix2 r o) = U (Proc.devRef .tc main_call0_v44) (ix2 r o) := by
  after_reads_at
/-- The scale's first weights after the cast. -/
theorem v56_val (r : Fin 384) (o : Fin 64) : StableHlo.after hostOps2 U (Proc.devRef .tc main_call0_v56) (ix2 r o) = U (Proc.devRef .tc main_call0_v45) (ix2 r o) := by
  after_reads_at
/-- The scale's second weights after the cast. -/
theorem v57_val (r : Fin 64) (o : Fin 384) : StableHlo.after hostOps2 U (Proc.devRef .tc main_call0_v57) (ix2 r o) = U (Proc.devRef .tc main_call0_v47) (ix2 r o) := by
  after_reads_at

/-- The words: the largest of the count less one and nothing, no more than the last visit. -/
theorem v9_val (b : Fin 16) (n : ℕ) (h1 : 1 ≤ n) (h2 : n ≤ 512) (h : U (Proc.devRef .tc main_call0_v1_1) (ix3 b 0 0) = ((n : ℝ) : EReal)) :
    StableHlo.after hostOps1 U (Proc.devRef .tc main_call0_v9) (ix2 b 0) = BitVec.ofNat 32 (n - 1) := by
  after_reads_at
  rw [h]
  have e : (FloatOps.fptosi (F := Ideal) (φ := .f32) 32 ((n : ℝ) : EReal) : BitVec 32) = BitVec.ofNat 32 n := by
    show Ideal.fptosi 32 _ = _
    rw [Ideal.fptosi, Ideal.toIntClamped_coe, if_pos (Nat.cast_nonneg n), Int.floor_natCast]
    rw [min_eq_right (by norm_num; omega), max_eq_right (by norm_num), BitVec.ofInt_natCast]
  rw [e]
  interval_cases n <;> rfl

end Cert.KernelIdeal.Gen
-- ==== Proof.Value.WinVal.lean ====
module

public import proofs.«01_k».proof.Proof.Ideal.Win
public import proofs.«01_k».proof.Proof.Value.Spec
public import Idealize.ShloMosaic.Lib.Pointwise
public import Idealize.ShloMosaic.Lib.Pipeline.ValueKit.Tiles

@[expose] public section

set_option maxRecDepth 16384

noncomputable section

namespace Cert.KernelIdeal.Gen

open Idealize.ShloMosaic Idealize.ShloMosaic.TcCoe Idealize.ShloMosaic.Tactic

/-- The window call has eight grid points. -/
theorem coords2_lt (i : grid2.Coords) : (i 0).val < 8 := (i 0).isLt

/-- The visit that row `a` of point `i` is. -/
def visit (i : grid2.Coords) (a : Fin 64) : Fin 512 := ⟨64 * (i 0).val + a.val, by have := coords2_lt i; omega⟩

/-- The row of the padded hidden states, `k` on from the first of the window of row `a`. -/
def hrow (i : grid2.Coords) (a : Fin 64) (k : ℕ) (hk : k ≤ 9) : Fin 528 := ⟨64 * (i 0).val + a.val + k + 7, by have := coords2_lt i; omega⟩

/-- A sum over ten places, written out. -/
theorem sum_univ_ten' {M : Type} [AddCommMonoid M] (f : Fin 10 → M) :
    ∑ k, f k = f 0 + f 1 + f 2 + f 3 + f 4 + f 5 + f 6 + f 7 + f 8 + f 9 := by
  rw [Fin.sum_univ_castSucc, Fin.sum_univ_castSucc, Fin.sum_univ_eight]; rfl

/-- A block of 64 rows read at a row. -/
theorem ld_rows {n p e : ℕ} {el : EltTy} (x : Vec Ideal ⟨3, ![n, p, e]⟩ el) (q : ℕ) (off : Fin 3 → ℕ) (r z : ℕ) (h : off = ![r, 0, z])
    (inb : ∀ a, off a + (![64, p, q] : Fin 3 → ℕ) a ≤ (⟨3, ![n, p, e]⟩ : Shape).size a) (a : Fin 64) (b : Fin p) (c : Fin q) (ha : r + a.val < n) (hc : z + c.val < e) :
    View.ld x (Rect.unit (s := ⟨3, ![n, p, e]⟩) off ![64, p, q] inb) (ix3 a b c) = x (ix3 ⟨r + a.val, ha⟩ b ⟨z + c.val, hc⟩) := by
  subst h
  refine View.ld_unit_apply_of _ _ _ _ _ _ ?_
  intro k; fin_cases k
  · rfl
  · exact (Nat.zero_add _).symm
  · rfl

/-- An entry of the hidden states that a grid point reads at a place of the window. -/
theorem winH_apply (i : grid2.Coords) (r : Fin 10) (x : Vec Ideal S528x16x384 .bf16) (a : Fin 64) (b : Fin 16) (e : Fin 384) :
    winH i x r (ix3 a b e) = x (ix3 (hrow i a r.val (by omega)) b e) := by
  refine (ld_rows x 384 _ _ _ (k2_off1_eq i r) _ a b e ?_ (by omega)).trans ?_
  · have := coords2_lt i; omega
  · congr 2
    · exact Fin.ext (by simp only [hrow]; omega)
    · exact Fin.ext (by simp)

/-- The weights of one window slot, read at a row. -/
theorem ld_slot (i : grid2.Coords) (x1 : Vec Ideal S512x16x128 .f32) (a : Fin 64) (b : Fin 16) (off : Fin 3 → ℕ) (z : ℕ) (hz : z < 128)
    (h : off = ![64 * (i 0).val, 0, z]) (inb : ∀ a, off a + S64x16x1.size a ≤ S512x16x128.size a) :
    View.ld x1 (Rect.unit (s := S512x16x128) off S64x16x1.size inb) (ix3 a b 0) = x1 (ix3 (visit i a) b ⟨z, hz⟩) :=
  ld_rows x1 1 off _ z h inb a b 0 (visit i a).isLt hz

set_option maxHeartbeats 4000000 in
/-- One row of a point: the window of the visit, and the visit's own hidden state. -/
theorem winRows_apply (i : grid2.Coords) (x0 : Vec Ideal S528x16x384 .bf16) (x1 : Vec Ideal S512x16x128 .f32) (x3 : Vec Ideal S3840x384 .bf16) (x4 : Vec Ideal S384x64 .bf16) (x5 : Vec Ideal S1x64 .f32) (x6 : Vec Ideal S64x384 .bf16) (x7 x8 : Vec Ideal S1x384 .f32) (a : Fin 64) (b : Fin 16) (o : Fin 384) :
    winRows i x0 x1 x3 x4 x5 x6 x7 x8 (ix3 a b o)
      = Spec.window (fun k e => x0 (ix3 (hrow i a k.val (by omega)) b e) * x1 (ix3 (visit i a) b ⟨k.val, by omega⟩))
          (fun k e o => x3 (ix2 ⟨384 * k.val + e.val, by omega⟩ o)) (fun e j => x4 (ix2 e j)) (fun j => x5 (ix2 0 j))
          (fun j o => x6 (ix2 j o)) (fun o => x7 (ix2 0 o)) (fun o => x8 (ix2 0 o)) o
        + x0 (ix3 (hrow i a 9 (le_refl _)) b o) := by
  have last : x0 (ix3 (hrow i a 9 (le_refl _)) b o) = View.ld x0 (Rect.unit (s := S528x16x384) (k2_off12 i) S64x16x384.size (k2_off12_inb i)) (ix3 a b o) :=
    ((ld_rows x0 384 _ _ _ (k2_off12_eq i) _ a b o (by have := coords2_lt i; omega) (by omega)).trans
      (by congr 2 <;> exact Fin.ext (by simp only [hrow]; omega))).symm
  unfold winRows
  rw [last]
  generalize View.ld x0 (Rect.unit (s := S528x16x384) (k2_off12 i) S64x16x384.size (k2_off12_inb i)) = hc
  pointwise [winC1, winC2, winC3, winC4, winC5, winS1, winS2, winS3, winS4, winS5, winP1, winP2, winP3, winP4, winP5, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, winW0, winW1, winW2, winW3, winW4, winW5, winW6, winW7, winW8, winW9]
  unfold winD0 winD1 winD2 winD3 winD4 winD5 winD6 winD7 winD8 winD9
  simp only [winH_apply, ld_slot i x1 a b (k2_off2 i) 0 (by decide) (k2_off2_eq i), ld_slot i x1 a b (k2_off3 i) 1 (by decide) (k2_off3_eq i), ld_slot i x1 a b (k2_off4 i) 2 (by decide) (k2_off4_eq i), ld_slot i x1 a b (k2_off5 i) 3 (by decide) (k2_off5_eq i), ld_slot i x1 a b (k2_off6 i) 4 (by decide) (k2_off6_eq i), ld_slot i x1 a b (k2_off7 i) 5 (by decide) (k2_off7_eq i), ld_slot i x1 a b (k2_off8 i) 6 (by decide) (k2_off8_eq i), ld_slot i x1 a b (k2_off9 i) 7 (by decide) (k2_off9_eq i), ld_slot i x1 a b (k2_off10 i) 8 (by decide) (k2_off10_eq i), ld_slot i x1 a b (k2_off11 i) 9 (by decide) (k2_off11_eq i)]
  unfold Spec.window
  simp only [sum_univ_ten']
  rw [IdealRules.named_const.ideal_named_scalar (κ := κ) (name := "tenth") (φ := .f32) _ _ rfl]
  simp only [Fin.val_zero, Nat.mul_zero, Nat.zero_add]
  rfl

end Cert.KernelIdeal.Gen

end
-- ==== Proof.Value.Blocks.lean ====
module

public import proofs.«01_k».proof.Proof.Ideal.Launch
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)

variable {F : FTy → Type} [FloatOps F] [Named F]
variable (V : (c : Dev nD) → (b : Ref sig .tc) → Buf (Elt F) ((c : Thread nD τ).loc b))

/-- No input of the third launch moves with the grid. -/
theorem idx2 (t : Fin cfg2.N) : (∀ a, win2_0.index t a = 0) ∧ (∀ a, win2_1.index t a = 0) ∧ (∀ a, win2_2.index t a = 0)
    ∧ (∀ a, win2_3.index t a = 0) ∧ (∀ a, win2_4.index t a = 0) ∧ (∀ a, win2_5.index t a = 0) ∧ (∀ a, win2_6.index t a = 0)
    ∧ (∀ a, win2_7.index t a = 0) ∧ (∀ a, win2_8.index t a = 0) ∧ (∀ a, win2_9.index t a = 0) ∧ (∀ a, win2_10.index t a = 0)
    ∧ (∀ a, win2_11.index t a = 0) :=
  (by decide +kernel : ∀ t : Fin cfg2.N, (∀ a, win2_0.index t a = 0) ∧ (∀ a, win2_1.index t a = 0) ∧ (∀ a, win2_2.index t a = 0)
    ∧ (∀ a, win2_3.index t a = 0) ∧ (∀ a, win2_4.index t a = 0) ∧ (∀ a, win2_5.index t a = 0) ∧ (∀ a, win2_6.index t a = 0)
    ∧ (∀ a, win2_7.index t a = 0) ∧ (∀ a, win2_8.index t a = 0) ∧ (∀ a, win2_9.index t a = 0) ∧ (∀ a, win2_10.index t a = 0)
    ∧ (∀ a, win2_11.index t a = 0)) t

set_option maxHeartbeats 2000000 in
/-- Each input of the third launch is read whole at every point. -/
theorem read2 (c : Dev nD) (t : Fin cfg2.N) :
    (iblk2 V c 0 t : Vec F S528x16x384 .bf16) = V c main_call0_v54_0 ∧ (iblk2 V c 1 t : Vec F S512x16x128 .f32) = V c main_call0_v54_1
    ∧ (iblk2 V c 2 t : IVec S16x1 32) = V c main_call0_v9 ∧ (iblk2 V c 3 t : Vec F S3840x384 .bf16) = V c main_call0_v55
    ∧ (iblk2 V c 4 t : Vec F S384x64 .bf16) = V c main_call0_v56 ∧ (iblk2 V c 5 t : Vec F S1x64 .f32) = V c main_call0_v46
    ∧ (iblk2 V c 6 t : Vec F S64x384 .bf16) = V c main_call0_v57 ∧ (iblk2 V c 7 t : Vec F S1x384 .f32) = V c main_call0_v48
    ∧ (iblk2 V c 8 t : Vec F S1x384 .f32) = V c main_call0_v49 ∧ (iblk2 V c 9 t : Vec F S384x128 .f32) = V c main_call0_v50
    ∧ (iblk2 V c 10 t : Vec F S1x128 .f32) = V c main_call0_v51 := by
  obtain ⟨h0, h1, h2, h3, h4, h5, h6, h7, h8, h9, h10, -⟩ := idx2 t
  refine ⟨?_, ?_, ?_, ?_, ?_, ?_, ?_, ?_, ?_, ?_, ?_⟩ <;> funext y
  · blk_ext [iblk2, h0]
  · blk_ext [iblk2, h1]
  · blk_ext [iblk2, h2]
  · blk_ext [iblk2, h3]
  · blk_ext [iblk2, h4]
  · blk_ext [iblk2, h5]
  · blk_ext [iblk2, h6]
  · blk_ext [iblk2, h7]
  · blk_ext [iblk2, h8]
  · blk_ext [iblk2, h9]
  · blk_ext [iblk2, h10]

/-- What the third launch leaves in its result. -/
theorem arr2_11 (c : Dev nD) : ((dat2 V c).arrAt 11 cfg2.N : Vec F S16x128 .f32)
    = winFin (V c main_call0_v50) (V c main_call0_v51) (accB V c 8) := by
  obtain ⟨-, -, -, -, -, -, -, -, -, h9, h10⟩ := read2 V c t2_7
  have e := after2_11 V c t2_7
  rw [h9, h10] at e
  have h11 := (idx2 t2_7).2.2.2.2.2.2.2.2.2.2.2
  refine (dat2 V c).arrAt_eq_of_after_last 11 t2_7 (by decide +kernel) _ fun j => ?_
  blk_simp [h11]
  rw [e]
  rfl

end Cert.KernelIdeal.Gen

end
-- ==== Proof.Value.WinSum.lean ====
module

public import proofs.«01_k».proof.Proof.Value.WinVal
public import proofs.«01_k».proof.Proof.Value.Blocks

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)

/-- The number of the visit that a row of a point carries. -/
theorem winIdx_apply (i : grid2.Coords) (x : Fin 64) (b : Fin 16) : winIdx i (ix3 x b 0) = BitVec.ofNat 32 (visit i x).val := by
  have h := coords2_lt i
  pointwise [winIdx, k2_pay30]
  apply BitVec.eq_of_toNat_eq
  simp [IntOp.addi, Scalar.muli, IntOp.muli, visit]
  omega

/-- A test of equality, made a number. -/
theorem mask_apply (x y : BitVec 32) : FloatOps.sitofp (F := Ideal) .f32 (BitVec.setWidth 32 (IntOp.cmpi .eq x y)) = if x = y then (1 : EReal) else 0 := by
  have e1 : FloatOps.sitofp (F := Ideal) .f32 1#32 = (((1#32).toInt : ℝ) : EReal) := rfl
  have e0 : FloatOps.sitofp (F := Ideal) .f32 0#32 = (((0#32).toInt : ℝ) : EReal) := rfl
  by_cases h : x = y
  · subst h; simp [IntOp.cmpi, e1]
  · have hb : (x == y) = false := by simpa using h
    simp [IntOp.cmpi, h, hb, e0]

/-- One point: the accumulator gains the rows of its visits that are the one asked for. -/
theorem winStep_apply (i : grid2.Coords) (x0 : Vec Ideal S528x16x384 .bf16) (x1 : Vec Ideal S512x16x128 .f32) (x2 : IVec S16x1 32) (x3 : Vec Ideal S3840x384 .bf16) (x4 : Vec Ideal S384x64 .bf16) (x5 : Vec Ideal S1x64 .f32) (x6 : Vec Ideal S64x384 .bf16) (x7 x8 : Vec Ideal S1x384 .f32) (acc : Vec Ideal S16x384 .f32) (b : Fin 16) (e : Fin 384) :
    winStep i x0 x1 x2 x3 x4 x5 x6 x7 x8 acc (ix2 b e) = acc (ix2 b e) + ∑ x : Fin 64, winRows i x0 x1 x3 x4 x5 x6 x7 x8 (ix3 x b e) * if BitVec.ofNat 32 (visit i x).val = x2 (ix2 b 0) then (1 : EReal) else 0 := by
  pointwise [winStep, k2_pay1]
  simp only [winIdx_apply, mask_apply]

/-- What the last point stores, from the accumulator. -/
theorem winFin_apply (x9 : Vec Ideal S384x128 .f32) (x10 : Vec Ideal S1x128 .f32) (acc : Vec Ideal S16x384 .f32) (b : Fin 16) (o : Fin 128) :
    winFin x9 x10 acc (ix2 b o) = ∑ e : Fin 384, acc (ix2 b e) * x9 (ix2 e o) + x10 (ix2 0 o) := by
  pointwise [winFin, k2_pay2]

/-- The accumulator starts at nothing. -/
theorem zero_apply (b : Fin 16) (e : Fin 384) : k2_pay3 (F := Ideal) (ix2 b e) = (0 : EReal) := by
  pointwise [k2_pay3]

/-- The row of visit `t`: its window, and its own hidden state. -/
def rowAt (x0 : Vec Ideal S528x16x384 .bf16) (x1 : Vec Ideal S512x16x128 .f32) (x3 : Vec Ideal S3840x384 .bf16) (x4 : Vec Ideal S384x64 .bf16) (x5 : Vec Ideal S1x64 .f32) (x6 : Vec Ideal S64x384 .bf16) (x7 x8 : Vec Ideal S1x384 .f32) (t : Fin 512) (b : Fin 16) (o : Fin 384) : EReal :=
  Spec.window (fun k e => x0 (ix3 ⟨t.val + k.val + 7, by omega⟩ b e) * x1 (ix3 t b ⟨k.val, by omega⟩))
      (fun k e o => x3 (ix2 ⟨384 * k.val + e.val, by omega⟩ o)) (fun e j => x4 (ix2 e j)) (fun j => x5 (ix2 0 j))
      (fun j o => x6 (ix2 j o)) (fun o => x7 (ix2 0 o)) (fun o => x8 (ix2 0 o)) o
    + x0 (ix3 ⟨t.val + 16, by omega⟩ b o)

variable (V : (c : Dev nD) → (b : Ref sig .tc) → Buf (Elt Ideal) ((c : Thread nD τ).loc b))

/-- The row of visit `t` over the arrays that the launch finds. -/
def rowV (c : Dev nD) (t : Fin 512) (b : Fin 16) (o : Fin 384) : EReal :=
  rowAt (V c main_call0_v54_0) (V c main_call0_v54_1) (V c main_call0_v55) (V c main_call0_v56) (V c main_call0_v46) (V c main_call0_v57) (V c main_call0_v48) (V c main_call0_v49) t b o

/-- One visit's share of the accumulator. -/
def share (c : Dev nD) (b : Fin 16) (e : Fin 384) (n : ℕ) : EReal :=
  if h : n < 512 then rowV V c ⟨n, h⟩ b e * if BitVec.ofNat 32 n = (V c main_call0_v9 : IVec S16x1 32) (ix2 b 0) then (1 : EReal) else 0 else 0

/-- The point's coordinate is its number. -/
theorem coords2_val (t : Fin cfg2.N) : ((grid2.coords t) 0).val = t.val :=
  (by decide +kernel : ∀ t : Fin cfg2.N, ((grid2.coords t) 0).val = t.val) t

/-- The accumulator before point `n` holds the shares of the visits before it. -/
theorem accB_eq (c : Dev nD) (b : Fin 16) (e : Fin 384) : ∀ n, n ≤ 8 → accB V c n (ix2 b e) = ∑ k ∈ Finset.range (64 * n), share V c b e k := by
  intro n
  induction n with
  | zero => intro _; rw [Nat.mul_zero, Finset.sum_range_zero]; exact zero_apply b e
  | succ n ih =>
    intro hn
    have hg : n < cfg2.N := by have : cfg2.N = 8 := N_2; omega
    have hs := accB_succ V c ⟨n, hg⟩
    obtain ⟨h0, h1, h2, h3, h4, h5, h6, h7, h8, -⟩ := read2 V c (⟨n, hg⟩ : Fin cfg2.N)
    rw [h0, h1, h2, h3, h4, h5, h6, h7, h8] at hs
    have hs' : accB V c (n + 1) (ix2 b e) = _ := congrFun hs (ix2 b e)
    rw [hs', winStep_apply, ih (by omega), show 64 * (n + 1) = 64 * n + 64 by ring, Finset.sum_range_add, ← Fin.sum_univ_eq_sum_range (fun x => share V c b e (64 * n + x))]
    congr 1
    refine Finset.sum_congr rfl fun x _ => ?_
    have hc := coords2_val ⟨n, hg⟩
    have hx : 64 * n + x.val < 512 := by omega
    have hv : visit (grid2.coords ⟨n, hg⟩) x = ⟨64 * n + x.val, hx⟩ := Fin.ext (by simp only [visit, hc])
    rw [winRows_apply]
    unfold share
    rw [dif_pos hx, hv]
    unfold rowV rowAt
    have hr : ∀ k (hk : k ≤ 9), hrow (grid2.coords ⟨n, hg⟩) x k hk = ⟨64 * n + x.val + k + 7, by omega⟩ := fun k hk => Fin.ext (by simp only [hrow, hc])
    simp only [hr]

/-- Of all the shares only the one of the visit asked for is there. -/
theorem sum_share (c : Dev nD) (b : Fin 16) (e : Fin 384) (l : Fin 512) (hl : (V c main_call0_v9 : IVec S16x1 32) (ix2 b 0) = BitVec.ofNat 32 l.val) :
    ∑ k ∈ Finset.range 512, share V c b e k = rowV V c l b e := by
  rw [Finset.sum_eq_single l.val]
  · unfold share
    rw [dif_pos l.isLt, hl, if_pos rfl, mul_one]
  · intro k hk hne
    have hk' := Finset.mem_range.mp hk
    unfold share
    rw [dif_pos hk', hl, if_neg, mul_zero]
    intro h
    have := congrArg BitVec.toNat h
    simp at this
    omega
  · intro h; exact absurd (Finset.mem_range.mpr l.isLt) h

/-- What the third launch leaves in its result, at an index. -/
theorem arr2_apply (c : Dev nD) (b : Fin 16) (o : Fin 128) (l : Fin 512) (hl : (V c main_call0_v9 : IVec S16x1 32) (ix2 b 0) = BitVec.ofNat 32 l.val) :
    ((dat2 V c).arrAt 11 cfg2.N : Vec Ideal S16x128 .f32) (ix2 b o)
      = ∑ e : Fin 384, rowV V c l b e * (V c main_call0_v50 : Vec Ideal S384x128 .f32) (ix2 e o) + (V c main_call0_v51 : Vec Ideal S1x128 .f32) (ix2 0 o) := by
  rw [arr2_11, winFin_apply]
  congr 1
  refine Finset.sum_congr rfl fun e _ => ?_
  rw [accB_eq V c b e 8 le_rfl, sum_share V c b e l hl]

end Cert.KernelIdeal.Gen

end
-- ==== Proof.Value.EmbVal.lean ====
module

public import proofs.«01_k».proof.Proof.Value.Model
public import proofs.«01_k».proof.Proof.Value.WinSum
public import proofs.«01_k».proof.Proof.Ideal.Emb
public import Idealize.ShloMosaic.Lib.Pointwise
public import Idealize.ShloMosaic.Lib.Pipeline.ValueKit

@[expose] public section

set_option maxRecDepth 16384

noncomputable section

namespace Cert.Spec

open Idealize.ShloMosaic

/-- One visit's summed embedding. -/
def emb (codes : Fin 2048 → BitVec 32) (table : Fin 2048 → EReal) : EReal := ∑ v, (if codes v = 1#32 then 1 else 0) * table v

/-- How many visits have an embedding that is not zero. -/
def count (y : Fin 512 → Fin 128 → EReal) : ℕ := (Finset.univ.filter fun t => ∃ d, y t d ≠ 0).card

/-- The largest magnitude of a row is positive when the row is not zero. -/
theorem pos_max_iff (f : Fin 128 → EReal) (b : EReal) (hb : b = ⊥) : 0 < Finset.univ.fold max b (fun d => FloatOps.absf (F := Ideal) (φ := .f32) (f d)) ↔ ∃ d, f d ≠ 0 := by
  subst hb
  rw [Finset.lt_fold_max]
  constructor
  · rintro (h | ⟨d, -, h⟩)
    · exact absurd h (by simp)
    · refine ⟨d, fun h0 => ?_⟩
      rw [h0, Ideal.absf_def] at h
      simp at h
  · rintro ⟨d, h⟩
    refine Or.inr ⟨d, Finset.mem_univ _, ?_⟩
    rw [Ideal.absf_def]
    rcases lt_or_gt_of_ne h with h | h
    · exact lt_max_of_lt_right (by rw [EReal.lt_neg_comm]; simpa using h)
    · exact lt_max_of_lt_left h

end Cert.Spec

namespace Cert.KernelIdeal.Gen

open Idealize.ShloMosaic Idealize.ShloMosaic.TcCoe Idealize.ShloMosaic.Tactic
open Idealize.ShloMosaic.Pipeline (Dat Cfg Window BodyObligation cellOf)
open Cert.Spec

/-- Offsets that are all zero. -/
theorem zero3 : (![0, 0, 0] : Fin 3 → ℕ) = fun _ => 0 := by funext a; fin_cases a <;> rfl

variable (x0 : Vec Ideal S1x512x2048 .i32) (x1 : Vec Ideal S2048x128 .bf16)

/-- An entry of what the embedding body stores: the sum of the codes' rows. -/
theorem pay2_val (t : Fin 512) (d : Fin 128) : k0_pay2 (F := Ideal) x0 x1 (ix3 0 t d) = emb (fun v => x0 (ix3 0 t v)) (fun v => x1 (ix2 v d)) := by
  pointwise [k0_pay2, k0_pay1]
  exact Finset.sum_congr rfl fun v _ => by rw [mask_apply]

/-- What it stores as a count, the same at every place: how many visits have a largest absolute entry above zero. -/
theorem pay3_val (i : Fin 8) (j : Fin 128) :
    k0_pay3 (F := Ideal) x0 x1 (ix3 0 i j) = ((count fun t d => emb (fun v => x0 (ix3 0 t v)) (fun v => x1 (ix2 v d)) : ℕ) : EReal) := by
  have h (t : Fin 512) : (FloatOps.sitofp (F := Ideal) .f32 (BitVec.setWidth 32 (BitVec.ofBool (decide (0 < Finset.fold max (Ideal.ofBits FTy.f32 4286578688#32)
      (fun d : Fin 128 => FloatOps.absf (F := Ideal) (φ := .f32) (∑ v : Fin 2048, FloatOps.sitofp (F := Ideal) .f32 (BitVec.setWidth 32 (IntOp.cmpi .eq (x0 (ix3 0 t v)) 1#32)) * x1 (ix2 v d))) Finset.univ)))) : EReal)
      = if ∃ d, emb (fun v => x0 (ix3 0 t v)) (fun v => x1 (ix2 v d)) ≠ 0 then 1 else 0 := by
    have e := pos_max_iff (fun d => emb (fun v => x0 (ix3 0 t v)) (fun v => x1 (ix2 v d))) _ Cert.Spec.lowest
    simp only [mask_apply]
    by_cases hp : ∃ d, emb (fun v => x0 (ix3 0 t v)) (fun v => x1 (ix2 v d)) ≠ 0
    · rw [if_pos hp, decide_eq_true (by exact e.2 hp)]
      simp [FloatOps.sitofp]
    · rw [if_neg hp, decide_eq_false (by exact fun hh => hp (e.1 hh))]
      simp [FloatOps.sitofp]
  pointwise [k0_pay3, k0_pay1]
  refine (Finset.sum_congr rfl fun t _ => (Fin.sum_univ_one _).trans (h t)).trans ?_
  rw [Finset.sum_ite, Finset.sum_const_zero, add_zero, Finset.sum_const, nsmul_one]
  rfl

/-- The same of the whole block of embeddings. -/
theorem out0_2_val (t : Fin 512) (d : Fin 128) : out0_2 x0 x1 (ix3 0 t d) = emb (fun v => x0 (ix3 0 t v)) (fun v => x1 (ix2 v d)) := by
  unfold out0_2
  rw [View.canon_cons_unit_zero zero3, View.ld_unit_zero zero3, View.ld_unit_zero zero2]
  exact pay2_val x0 x1 t d

/-- The same of the whole block of counts. -/
theorem out0_3_val (i : Fin 8) (j : Fin 128) :
    out0_3 x0 x1 (ix3 0 i j) = ((count fun t d => emb (fun v => x0 (ix3 0 t v)) (fun v => x1 (ix2 v d)) : ℕ) : EReal) := by
  unfold out0_3
  rw [View.canon_cons_unit_zero zero3, View.ld_unit_zero zero3, View.ld_unit_zero zero2]
  exact pay3_val x0 x1 i j

variable (V : (c : Dev nD) → (b : Ref sig .tc) → Buf (Elt Ideal) ((c : Thread nD τ).loc b))

/-- Which block each window shows at a grid point: the patient's own, and the whole table. -/
theorem idx0 (t : Fin cfg0.N) : win0_0.index t = ![t.val, 0, 0] ∧ (∀ a, win0_1.index t a = 0) ∧ win0_2.index t = ![t.val, 0, 0] ∧ win0_3.index t = ![t.val, 0, 0] :=
  (by decide +kernel : ∀ t : Fin cfg0.N, win0_0.index t = ![t.val, 0, 0] ∧ (∀ a, win0_1.index t a = 0) ∧ win0_2.index t = ![t.val, 0, 0] ∧ win0_3.index t = ![t.val, 0, 0]) t

/-- The codes that a grid point reads are its patient's. -/
theorem read0_0 (c : Dev nD) (t : Fin cfg0.N) (i : Fin 512) (v : Fin 2048) :
    (iblk0 V c 0 t : Vec Ideal S1x512x2048 .i32) (ix3 0 i v) = (V c main_arg0 : IVec S16x512x2048 32) (ix3 ⟨t.val, t.isLt⟩ i v) := by
  have h := (idx0 t).1
  blk_ext [iblk0, h]

/-- The table that a grid point reads is the whole of it. -/
theorem read0_1 (c : Dev nD) (t : Fin cfg0.N) : (iblk0 V c 1 t : Vec Ideal S2048x128 .bf16) = V c main_call0_v0 := by
  have h := (idx0 t).2.1
  funext y
  blk_ext [iblk0, h]

/-- A patient's visits' embeddings. -/
def embOf (c : Dev nD) (b : Fin 16) (t : Fin 512) (d : Fin 128) : EReal :=
  emb (fun v => (V c main_arg0 : IVec S16x512x2048 32) (ix3 b t v)) (fun v => (V c main_call0_v0 : Vec Ideal S2048x128 .bf16) (ix2 v d))

set_option maxHeartbeats 1000000 in
theorem arr0_2 (c : Dev nD) : ((dat0 V c).arrAt 2 cfg0.N : Vec Ideal S16x512x128 .bf16) = fun y => embOf V c (y 0) (y 1) (y 2) := by
  refine (dat0 V c).arrAt_eq_of_covers 2 _ (by decide +kernel) fun t hf y => ?_
  have h := (idx0 t).2.2.1
  have e : ∀ (i : Fin 512) (d : Fin 128), (win0_2.blk t).view.emb (ix3 0 i d) = (ix3 ⟨t.val, t.isLt⟩ i d : S16x512x128.Idx) := by
    intro i d
    funext a
    fin_cases a <;> refine Fin.ext ?_ <;> blk_simp [h] <;> rfl
  blk_simp [h]
  rw [after0_2]
  obtain ⟨i, s, d, rfl⟩ : ∃ i s d, y = (ix3 i s d : S1x512x128.Idx) := ⟨y 0, y 1, y 2, by funext a; fin_cases a <;> rfl⟩
  obtain rfl : i = 0 := Subsingleton.elim _ _
  rw [e, out0_2_val, read0_1]
  simp only [read0_0]
  rfl

set_option maxHeartbeats 1000000 in
theorem arr0_3 (c : Dev nD) : ((dat0 V c).arrAt 3 cfg0.N : Vec Ideal S16x8x128 .f32) = fun y => ((count (embOf V c (y 0)) : ℕ) : EReal) := by
  refine (dat0 V c).arrAt_eq_of_covers 3 _ (by decide +kernel) fun t hf y => ?_
  have h := (idx0 t).2.2.2
  have e : ∀ (i : Fin 8) (d : Fin 128), (win0_3.blk t).view.emb (ix3 0 i d) = (ix3 ⟨t.val, t.isLt⟩ i d : S16x8x128.Idx) := by
    intro i d
    funext a
    fin_cases a <;> refine Fin.ext ?_ <;> blk_simp [h] <;> rfl
  blk_simp [h]
  rw [after0_3]
  obtain ⟨i, s, d, rfl⟩ : ∃ i s d, y = (ix3 i s d : S1x8x128.Idx) := ⟨y 0, y 1, y 2, by funext a; fin_cases a <;> rfl⟩
  obtain rfl : i = 0 := Subsingleton.elim _ _
  rw [e, out0_3_val, read0_1]
  simp only [read0_0]
  rfl

end Cert.KernelIdeal.Gen
end
-- ==== Proof.Value.RecVal.lean ====
module

public import proofs.«01_k».proof.Proof.Value.Model
public import proofs.«01_k».proof.Proof.Value.Blocks
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Cert.Spec

/-- The packed weights hold the real weights. -/
structure WOk (w : RecW Ideal) (P : Par) : Prop where
  /-- masters, the input's rows -/
  mx : ∀ (d : Fin 128) (j : Fin 6), w.wm (ix2 ⟨d.val, by omega⟩ ⟨j.val, by omega⟩) = ((P.kW ⟨j.val, by omega⟩ ⟨d.val, by omega⟩ : ℝ) : EReal)
  /-- masters, the hidden state's rows -/
  mh : ∀ (e : Fin 384) (j : Fin 6), w.wm (ix2 ⟨128 + e.val, by omega⟩ ⟨j.val, by omega⟩) = ((P.rW ⟨j.val, by omega⟩ ⟨e.val, by omega⟩ : ℝ) : EReal)
  /-- gates, the input's rows -/
  gx : ∀ (d : Fin 128) (j : Fin 1536), w.wg (ix2 ⟨d.val, by omega⟩ j) = ((P.kW ⟨6 + j.val, by omega⟩ ⟨d.val, by omega⟩ : ℝ) : EReal)
  /-- gates, the hidden state's rows -/
  gh : ∀ (e : Fin 384) (j : Fin 1536), w.wg (ix2 ⟨128 + e.val, by omega⟩ j) = ((P.rW ⟨6 + j.val, by omega⟩ ⟨e.val, by omega⟩ : ℝ) : EReal)
  /-- the masters' bias -/
  bm : ∀ j : Fin 6, w.bm (ix2 0 ⟨j.val, by omega⟩) = ((P.bias ⟨j.val, by omega⟩ : ℝ) : EReal)
  /-- the gates' bias -/
  bg : ∀ j : Fin 1536, w.bg (ix2 0 j) = ((P.bias ⟨6 + j.val, by omega⟩ : ℝ) : EReal)

/-- A row of the state holds a patient's real state. -/
structure SOk (s : RecSt Ideal) (b : Fin 16) (S : St) : Prop where
  /-- cell -/
  c : ∀ e, s.c (ix2 b e) = ((S.c e : ℝ) : EReal)
  /-- hidden state -/
  h : ∀ e, s.h (ix2 b e) = ((S.h e : ℝ) : EReal)
  /-- distances -/
  d : ∀ k : Fin 10, s.d (ix2 b ⟨k.val, by omega⟩) = ((S.d k : ℝ) : EReal)

variable {w : RecW Ideal} {P : Par} (hw : WOk w P) {x : Vec Ideal S1x16x128 .bf16} {s : RecSt Ideal} {b : Fin 16} {S : St} (hs : SOk s b S)
  {r : Fin 128 → ℝ} (hx : ∀ d, x (ix3 0 b d) = ((r d : ℝ) : EReal))

/-- The joined row against a column of joined weights. -/
theorem joined (f : Fin 512 → EReal) (g : Fin 512 → EReal) (r : Fin 128 → ℝ) (h : Fin 384 → ℝ) (u : Fin 128 → ℝ) (v : Fin 384 → ℝ)
    (f1 : ∀ d : Fin 128, f ⟨d.val, by omega⟩ = ((r d : ℝ) : EReal)) (f2 : ∀ e : Fin 384, f ⟨128 + e.val, by omega⟩ = ((h e : ℝ) : EReal))
    (g1 : ∀ d : Fin 128, g ⟨d.val, by omega⟩ = ((u d : ℝ) : EReal)) (g2 : ∀ e : Fin 384, g ⟨128 + e.val, by omega⟩ = ((v e : ℝ) : EReal)) :
    ∑ k, f k * g k = ((∑ d, r d * u d + ∑ e, h e * v e : ℝ) : EReal) := by
  rw [EReal.coe_add, ← sum_coe, ← sum_coe]
  refine (Fin.sum_univ_add (a := 128) (b := 384) (fun k => f k * g k)).trans ?_
  congr 1
  · exact Finset.sum_congr rfl fun d _ => by rw [EReal.coe_mul, ← f1, ← g1]; rfl
  · exact Finset.sum_congr rfl fun e _ => by rw [EReal.coe_mul, ← f2, ← g2]; rfl

include hx in
/-- The first 128 columns of the joined row are the visit. -/
theorem joined_x (d : Fin 128) : k1_pay14 s.h x (ix2 b ⟨d.val, by omega⟩) = ((r d : ℝ) : EReal) := by
  pointwise [k1_pay14]
  exact hx d

include hs in
/-- The other 384 are the hidden state. -/
theorem joined_h (e : Fin 384) : k1_pay14 s.h x (ix2 b ⟨128 + e.val, by omega⟩) = ((S.h e : ℝ) : EReal) := by
  pointwise [k1_pay14]
  exact hs.h e

include hw hs hx in
/-- The gates in a trip's first step, before their nonlinearity. -/
theorem gateA_val (j : Fin 1536) : gateA w x s (ix2 b j) = ((P.pre r S.h ⟨6 + j.val, by omega⟩ : ℝ) : EReal) := by
  pointwise [gateA, k1_pay16, k1_pay2, k1_pay4]
  rw [joined (fun k => k1_pay14 s.h x (ix2 b k)) (fun k => w.wg (ix2 k j)) r S.h _ _ (joined_x hx) (joined_h hs) (fun d => hw.gx d j) (fun e => hw.gh e j),
    hw.bg, ← EReal.coe_add]
  rfl

include hw hs hx in
/-- The gates in its second step. -/
theorem gateB_val (j : Fin 1536) : gateB w x s (ix2 b j) = ((P.pre r S.h ⟨6 + j.val, by omega⟩ : ℝ) : EReal) := by
  pointwise [gateB, k1_pay50, k1_pay2, k1_pay4]
  rw [show k1_pay48 s.h x = k1_pay14 s.h x from rfl]
  rw [joined (fun k => k1_pay14 s.h x (ix2 b k)) (fun k => w.wg (ix2 k j)) r S.h _ _ (joined_x hx) (joined_h hs) (fun d => hw.gx d j) (fun e => hw.gh e j),
    hw.bg, ← EReal.coe_add]
  rfl

include hw hs hx in
/-- The master gates before their softmax. -/
theorem master (j : Fin 6) : ∑ k, k1_pay14 s.h x (ix2 b k) * w.wm (ix2 k ⟨j.val, by omega⟩) + w.bm (ix2 0 ⟨j.val, by omega⟩)
    = ((P.pre r S.h ⟨j.val, by omega⟩ : ℝ) : EReal) := by
  rw [joined (fun k => k1_pay14 s.h x (ix2 b k)) (fun k => w.wm (ix2 k ⟨j.val, by omega⟩)) r S.h _ _ (joined_x hx) (joined_h hs)
    (fun d => hw.mx d j) (fun e => hw.mh e j), hw.bm, ← EReal.coe_add]
  rfl

include hw hs hx in
/-- The softmax of the first three. -/
theorem first_soft (a : Fin 3) : Ideal.div (Ideal.exp ((∑ k, k1_pay14 s.h x (ix2 b k) * w.wm (ix2 k ⟨a.val, by omega⟩) + w.bm (ix2 0 ⟨a.val, by omega⟩))
      - Finset.univ.fold max (Ideal.ofBits .f32 4286578688#32) (fun a : Fin 3 => ∑ k, k1_pay14 s.h x (ix2 b k) * w.wm (ix2 k ⟨a.val, by omega⟩) + w.bm (ix2 0 ⟨a.val, by omega⟩))))
    (∑ a' : Fin 3, Ideal.exp ((∑ k, k1_pay14 s.h x (ix2 b k) * w.wm (ix2 k ⟨a'.val, by omega⟩) + w.bm (ix2 0 ⟨a'.val, by omega⟩))
      - Finset.univ.fold max (Ideal.ofBits .f32 4286578688#32) (fun a : Fin 3 => ∑ k, k1_pay14 s.h x (ix2 b k) * w.wm (ix2 k ⟨a.val, by omega⟩) + w.bm (ix2 0 ⟨a.val, by omega⟩))))
    = ((soft (fun a : Fin 3 => P.pre r S.h ⟨a.val, by omega⟩) a : ℝ) : EReal) :=
  soft_max (fun a : Fin 3 => ∑ k, k1_pay14 s.h x (ix2 b k) * w.wm (ix2 k ⟨a.val, by omega⟩) + w.bm (ix2 0 ⟨a.val, by omega⟩))
    (fun a : Fin 3 => P.pre r S.h ⟨a.val, by omega⟩) (fun a => master hw hs hx ⟨a.val, by omega⟩) _ lowest a

include hw hs hx in
/-- The softmax of the other three. -/
theorem second_soft (a : Fin 3) : Ideal.div (Ideal.exp ((∑ k, k1_pay14 s.h x (ix2 b k) * w.wm (ix2 k ⟨3 + a.val, by omega⟩) + w.bm (ix2 0 ⟨3 + a.val, by omega⟩))
      - Finset.univ.fold max (Ideal.ofBits .f32 4286578688#32) (fun a : Fin 3 => ∑ k, k1_pay14 s.h x (ix2 b k) * w.wm (ix2 k ⟨3 + a.val, by omega⟩) + w.bm (ix2 0 ⟨3 + a.val, by omega⟩))))
    (∑ a' : Fin 3, Ideal.exp ((∑ k, k1_pay14 s.h x (ix2 b k) * w.wm (ix2 k ⟨3 + a'.val, by omega⟩) + w.bm (ix2 0 ⟨3 + a'.val, by omega⟩))
      - Finset.univ.fold max (Ideal.ofBits .f32 4286578688#32) (fun a : Fin 3 => ∑ k, k1_pay14 s.h x (ix2 b k) * w.wm (ix2 k ⟨3 + a.val, by omega⟩) + w.bm (ix2 0 ⟨3 + a.val, by omega⟩))))
    = ((soft (fun a : Fin 3 => P.pre r S.h ⟨3 + a.val, by omega⟩) a : ℝ) : EReal) :=
  soft_max (fun a : Fin 3 => ∑ k, k1_pay14 s.h x (ix2 b k) * w.wm (ix2 k ⟨3 + a.val, by omega⟩) + w.bm (ix2 0 ⟨3 + a.val, by omega⟩))
    (fun a : Fin 3 => P.pre r S.h ⟨3 + a.val, by omega⟩) (fun a => master hw hs hx ⟨3 + a.val, by omega⟩) _ lowest a

/-- The first master's three values, from the softmax's. -/
theorem fm_vals (z : Fin 1542 → ℝ) : ((soft (fun a : Fin 3 => z ⟨a.val, by omega⟩) 0 : ℝ) : EReal) = ((fm z 0 : ℝ) : EReal)
    ∧ ((soft (fun a : Fin 3 => z ⟨a.val, by omega⟩) 0 : ℝ) : EReal) + ((soft (fun a : Fin 3 => z ⟨a.val, by omega⟩) 1 : ℝ) : EReal) = ((fm z 1 : ℝ) : EReal)
    ∧ ((soft (fun a : Fin 3 => z ⟨a.val, by omega⟩) 0 : ℝ) : EReal) + ((soft (fun a : Fin 3 => z ⟨a.val, by omega⟩) 1 : ℝ) : EReal)
      + ((soft (fun a : Fin 3 => z ⟨a.val, by omega⟩) 2 : ℝ) : EReal) = ((fm z 2 : ℝ) : EReal) := by
  refine ⟨?_, ?_, ?_⟩ <;> simp only [← EReal.coe_add, fm, Fin.sum_univ_three] <;> congr 1 <;>
    simp [show ¬ (2 : Fin 3) ≤ 1 by decide, show (1 : Fin 3) ≤ 2 by decide]

include hw hs hx in
/-- The first master gate in the first step. -/
theorem fA_val : fA0 w x s (ix2 b 0) = ((fm (P.pre r S.h) 0 : ℝ) : EReal) ∧ fA1 w x s (ix2 b 0) = ((fm (P.pre r S.h) 1 : ℝ) : EReal)
    ∧ fA2 w x s (ix2 b 0) = ((fm (P.pre r S.h) 2 : ℝ) : EReal) := by
  obtain ⟨h0, h1, h2⟩ := fm_vals (P.pre r S.h)
  refine ⟨?_, ?_, ?_⟩
  · rw [← h0]
    pointwise [fA0, k1_pay1, k1_pay3, k1_pay15, k1_pay17, k1_pay18]
    exact first_soft hw hs hx 0
  · rw [← h1]
    pointwise [fA1, k1_pay1, k1_pay3, k1_pay15, k1_pay17, k1_pay18, k1_pay19, k1_pay20]
    exact congrArg₂ (· + ·) (first_soft hw hs hx 0) (first_soft hw hs hx 1)
  · rw [← h2]
    pointwise [fA2, k1_pay1, k1_pay3, k1_pay15, k1_pay17, k1_pay18, k1_pay19, k1_pay21]
    exact congrArg₂ (· + ·) (congrArg₂ (· + ·) (first_soft hw hs hx 0) (first_soft hw hs hx 1)) (first_soft hw hs hx 2)

include hw hs hx in
/-- The first master gate in the second step. -/
theorem fB_val : fB0 w x s (ix2 b 0) = ((fm (P.pre r S.h) 0 : ℝ) : EReal) ∧ fB1 w x s (ix2 b 0) = ((fm (P.pre r S.h) 1 : ℝ) : EReal)
    ∧ fB2 w x s (ix2 b 0) = ((fm (P.pre r S.h) 2 : ℝ) : EReal) := by
  obtain ⟨h0, h1, h2⟩ := fm_vals (P.pre r S.h)
  refine ⟨?_, ?_, ?_⟩
  · rw [← h0]
    pointwise [fB0, k1_pay1, k1_pay3, k1_pay49, k1_pay51, k1_pay52]
    exact first_soft hw hs hx 0
  · rw [← h1]
    pointwise [fB1, k1_pay1, k1_pay3, k1_pay49, k1_pay51, k1_pay52, k1_pay53, k1_pay54]
    exact congrArg₂ (· + ·) (first_soft hw hs hx 0) (first_soft hw hs hx 1)
  · rw [← h2]
    pointwise [fB2, k1_pay1, k1_pay3, k1_pay49, k1_pay51, k1_pay52, k1_pay53, k1_pay55]
    exact congrArg₂ (· + ·) (congrArg₂ (· + ·) (first_soft hw hs hx 0) (first_soft hw hs hx 1)) (first_soft hw hs hx 2)

include hw hs hx in
/-- The softmax that the second master gate sums, in the first step. -/
theorem iA_val : iA0 w x s (ix2 b 0) = ((soft (fun a : Fin 3 => P.pre r S.h ⟨3 + a.val, by omega⟩) 0 : ℝ) : EReal)
    ∧ iA1 w x s (ix2 b 0) = ((soft (fun a : Fin 3 => P.pre r S.h ⟨3 + a.val, by omega⟩) 1 : ℝ) : EReal)
    ∧ iA2 w x s (ix2 b 0) = ((soft (fun a : Fin 3 => P.pre r S.h ⟨3 + a.val, by omega⟩) 2 : ℝ) : EReal) := by
  refine ⟨?_, ?_, ?_⟩
  · pointwise [iA0, k1_pay1, k1_pay3, k1_pay15, k1_pay22, k1_pay23]
    exact second_soft hw hs hx 0
  · pointwise [iA1, k1_pay1, k1_pay3, k1_pay15, k1_pay22, k1_pay24]
    exact second_soft hw hs hx 1
  · pointwise [iA2, k1_pay1, k1_pay3, k1_pay15, k1_pay22, k1_pay25]
    exact second_soft hw hs hx 2

include hw hs hx in
/-- The softmax that it sums in the second step. -/
theorem iB_val (j : Fin 3) : iB w x s (ix2 b j) = ((soft (fun a : Fin 3 => P.pre r S.h ⟨3 + a.val, by omega⟩) j : ℝ) : EReal) := by
  pointwise [iB, k1_pay1, k1_pay3, k1_pay49, k1_pay56]
  exact second_soft hw hs hx j

/-- The second master's three values, from the softmax's. -/
theorem im_vals (z : Fin 1542 → ℝ) (p : Fin 3 → EReal) (hp : ∀ a, p a = ((soft (fun a : Fin 3 => z ⟨3 + a.val, by omega⟩) a : ℝ) : EReal)) :
    p 2 + p 1 + p 0 = ((im z 0 : ℝ) : EReal) ∧ p 2 + p 1 = ((im z 1 : ℝ) : EReal) ∧ p 2 = ((im z 2 : ℝ) : EReal) := by
  refine ⟨?_, ?_, ?_⟩ <;> simp only [hp, ← EReal.coe_add, im, Fin.sum_univ_three] <;> congr 1 <;>
    simp [show ¬ (2 : Fin 3) ≤ 1 by decide, show (1 : Fin 3) ≤ 2 by decide] <;> ring

/-- One branch of the new cell. -/
theorem cell_branch {G : Fin 1536 → EReal} {cs : Fin 384 → EReal} {z : Fin 1542 → ℝ} {c : Fin 384 → ℝ}
    (hG : ∀ j : Fin 1536, G j = ((z ⟨6 + j.val, by omega⟩ : ℝ) : EReal)) (hc : ∀ e, cs e = ((c e : ℝ) : EReal)) {F I : EReal} (e : Fin 384)
    (hF : F = ((fm z (lev e) : ℝ) : EReal)) (hI : I = ((im z (lev e) : ℝ) : EReal)) (e' : Fin 384) (he : e'.val = e.val)
    (j0 j1 j2 : Fin 1536) (h0 : j0.val = e.val) (h1 : j1.val = 384 + e.val) (h2 : j2.val = 1152 + e.val) :
    cs e' * (F * I * (Ideal.logistic (G j0) - 1) + F) + Ideal.tanh (G j2) * (F * I * (Ideal.logistic (G j1) - 1) + I) = ((newC z c e : ℝ) : EReal) := by
  obtain rfl := Fin.ext he
  rw [hF, hI, hc, hG, hG, hG, cell_coe]
  simp only [h0, h1, h2, newC, ← Nat.add_assoc]

/-- One branch of the new hidden state. -/
theorem hid_branch {G : Fin 1536 → EReal} {z : Fin 1542 → ℝ} {c : Fin 384 → ℝ} (hG : ∀ j : Fin 1536, G j = ((z ⟨6 + j.val, by omega⟩ : ℝ) : EReal))
    {C : EReal} (e : Fin 384) (hC : C = ((newC z c e : ℝ) : EReal)) (j : Fin 1536) (h : j.val = 768 + e.val) :
    Ideal.logistic (G j) * Ideal.tanh C = ((newH z c e : ℝ) : EReal) := by
  rw [hC, hG, hid_coe]
  simp only [h, newH, ← Nat.add_assoc]

/-- A master's value at a unit's level. -/
theorem at_level (f : Fin 3 → ℝ) (e : Fin 384) (l : Fin 3) (h : e.val / 128 = l.val) {F : EReal} (hF : F = ((f l : ℝ) : EReal)) :
    F = ((f (lev e) : ℝ) : EReal) := by
  rw [hF, show lev e = l from Fin.ext h]

/-- A unit is of one of three levels, said as the joins say it. -/
theorem level_cases (e : Fin 384) : e.val < 128 ∨ (¬ e.val < 128 ∧ e.val - 128 < 128) ∨ (¬ e.val < 128 ∧ ¬ e.val - 128 < 128) := by omega

include hw hs hx in
/-- The cell after the first step. -/
theorem recA_c (e : Fin 384) : (recA w x s).c (ix2 b e) = ((newC (P.pre r S.h) S.c e : ℝ) : EReal) := by
  obtain ⟨f0, f1, f2⟩ := fA_val hw hs hx
  obtain ⟨i0, i1, i2⟩ := iA_val hw hs hx
  obtain ⟨m0, m1, m2⟩ := im_vals (P.pre r S.h) ![iA0 w x s (ix2 b 0), iA1 w x s (ix2 b 0), iA2 w x s (ix2 b 0)]
    (by intro a; fin_cases a; exacts [i0, i1, i2])
  have hG := gateA_val hw hs hx
  pointwise [recA, k1_pay32, k1_pay26, k1_pay29, k1_pay31]
  rcases level_cases e with h | ⟨h, h'⟩ | ⟨h, h'⟩
  · rw [dif_pos h]
    exact cell_branch (G := fun j => gateA w x s (ix2 b j)) hG hs.c e (at_level _ e 0 (by simp; omega) f0) (at_level _ e 0 (by simp; omega) m0) _ rfl _ _ _ rfl rfl rfl
  · rw [dif_neg h, dif_pos h']
    exact cell_branch (G := fun j => gateA w x s (ix2 b j)) hG hs.c e (at_level _ e 1 (by simp; omega) f1) (at_level _ e 1 (by simp; omega) m1) _ (by simp; omega) _ _ _
      (by simp; omega) (by simp; omega) (by simp; omega)
  · rw [dif_neg h, dif_neg h']
    exact cell_branch (G := fun j => gateA w x s (ix2 b j)) hG hs.c e (at_level _ e 2 (by simp; omega) f2) (at_level _ e 2 (by simp; omega) m2) _ (by simp; omega) _ _ _
      (by simp; omega) (by simp; omega) (by simp; omega)

include hw hs hx in
/-- The cell after the second step. -/
theorem recB_c (e : Fin 384) : (recB w x s).c (ix2 b e) = ((newC (P.pre r S.h) S.c e : ℝ) : EReal) := by
  obtain ⟨f0, f1, f2⟩ := fB_val hw hs hx
  obtain ⟨m0, m1, m2⟩ := im_vals (P.pre r S.h) (fun a => iB w x s (ix2 b a)) (iB_val hw hs hx)
  have hG := gateB_val hw hs hx
  pointwise [recB, k1_pay11, k1_pay69, k1_pay58, k1_pay60, k1_pay63, k1_pay65, k1_pay66, k1_pay59, k1_pay57, k1_pay64, k1_pay67, k1_pay68]
  rcases level_cases e with h | ⟨h, h'⟩ | ⟨h, h'⟩
  · rw [dif_pos h]
    exact cell_branch (G := fun j => gateB w x s (ix2 b j)) hG hs.c e (at_level _ e 0 (by simp; omega) f0) (at_level _ e 0 (by simp; omega) m0) _ rfl _ _ _ rfl rfl rfl
  · rw [dif_neg h, dif_pos h']
    exact cell_branch (G := fun j => gateB w x s (ix2 b j)) hG hs.c e (at_level _ e 1 (by simp; omega) f1) (at_level _ e 1 (by simp; omega) m1) _ (by simp; omega) _ _ _
      (by simp; omega) (by simp; omega) (by simp; omega)
  · rw [dif_neg h, dif_neg h']
    exact cell_branch (G := fun j => gateB w x s (ix2 b j)) hG hs.c e (at_level _ e 2 (by simp; omega) f2) (at_level _ e 2 (by simp; omega) m2) _ (by simp; omega) _ _ _
      (by simp; omega) (by simp; omega) (by simp; omega)

include hw hs hx in
/-- The hidden state after the first step. -/
theorem recA_h (e : Fin 384) : (recA w x s).h (ix2 b e) = ((newH (P.pre r S.h) S.c e : ℝ) : EReal) := by
  have hC := recA_c hw hs hx e
  have hG := gateA_val hw hs hx
  pointwise [recA, k1_pay32] at hC
  pointwise [recA, k1_pay33, k1_pay27, k1_pay28, k1_pay30]
  rcases level_cases e with h | ⟨h, h'⟩ | ⟨h, h'⟩
  · rw [dif_pos h] at hC ⊢
    exact hid_branch (G := fun j => gateA w x s (ix2 b j)) hG e hC _ rfl
  · rw [dif_neg h, dif_pos h'] at hC ⊢
    exact hid_branch (G := fun j => gateA w x s (ix2 b j)) hG e hC _ (by simp; omega)
  · rw [dif_neg h, dif_neg h'] at hC ⊢
    exact hid_branch (G := fun j => gateA w x s (ix2 b j)) hG e hC _ (by simp; omega)

include hw hs hx in
/-- The hidden state after the second step. -/
theorem recB_h (e : Fin 384) : (recB w x s).h (ix2 b e) = ((newH (P.pre r S.h) S.c e : ℝ) : EReal) := by
  have hC := recB_c hw hs hx e
  have hG := gateB_val hw hs hx
  pointwise [recB, k1_pay11, k1_pay69] at hC
  pointwise [recB, k1_pay12, k1_pay70, k1_pay61, k1_pay62]
  rcases level_cases e with h | ⟨h, h'⟩ | ⟨h, h'⟩
  · rw [dif_pos h] at hC ⊢
    exact hid_branch (G := fun j => gateB w x s (ix2 b j)) hG e hC _ rfl
  · rw [dif_neg h, dif_pos h'] at hC ⊢
    exact hid_branch (G := fun j => gateB w x s (ix2 b j)) hG e hC _ (by simp; omega)
  · rw [dif_neg h, dif_neg h'] at hC ⊢
    exact hid_branch (G := fun j => gateB w x s (ix2 b j)) hG e hC _ (by simp; omega)

/-- The named third is a third. -/
theorem third : Named.named (F := Ideal) κ "third" (φ := .f32) 1051372203#32 = (((1 / 3 : ℝ) : ℝ) : EReal) := by
  exact IdealRules.named_const.ideal_named_scalar (κ := κ) (name := "third") (φ := .f32) _ _ rfl

/-- The new distance, as printed. -/
theorem dist_coe (z : Fin 1542 → ℝ) {f0 f1 f2 : EReal} (h0 : f0 = ((fm z 0 : ℝ) : EReal)) (h1 : f1 = ((fm z 1 : ℝ) : EReal)) (h2 : f2 = ((fm z 2 : ℝ) : EReal)) :
    1 - (f0 + f1 + f2) * (((1 / 3 : ℝ) : ℝ) : EReal) = ((newD z : ℝ) : EReal) := by
  rw [h0, h1, h2, ← EReal.coe_one]
  simp only [← EReal.coe_sub, ← EReal.coe_mul, ← EReal.coe_add, newD, Fin.sum_univ_three]
  congr 1
  ring

include hw hs hx in
/-- The distances after the first step. -/
theorem recA_d (k : Fin 10) : (recA w x s).d (ix2 b ⟨k.val, by omega⟩) = (((P.step r S).d k : ℝ) : EReal) := by
  obtain ⟨f0, f1, f2⟩ := fA_val hw hs hx
  have h3 := dist_coe (P.pre r S.h) f0 f1 f2
  rw [← third] at h3
  pointwise [recA, k1_pay34]
  unfold Par.step
  dsimp only
  by_cases h : k.val < 9
  · rw [dif_pos h, dif_pos h]
    exact hs.d ⟨1 + k.val, by omega⟩
  · obtain rfl : k = 9 := by omega
    rw [dif_neg h, dif_pos (by decide), dif_neg h]
    exact h3

include hw hs hx in
/-- The distances after the second step. -/
theorem recB_d (k : Fin 10) : (recB w x s).d (ix2 b ⟨k.val, by omega⟩) = (((P.step r S).d k : ℝ) : EReal) := by
  obtain ⟨f0, f1, f2⟩ := fB_val hw hs hx
  have h3 := dist_coe (P.pre r S.h) f0 f1 f2
  rw [← third] at h3
  pointwise [recB, k1_pay13, k1_pay71]
  unfold Par.step
  dsimp only
  by_cases h : k.val < 9
  · rw [dif_pos h, dif_pos h]
    exact hs.d ⟨1 + k.val, by omega⟩
  · obtain rfl : k = 9 := by omega
    rw [dif_neg h, dif_pos (by decide), dif_neg h]
    exact h3

include hw hs hx in
/-- The first step of a trip is a step of the recurrence. -/
theorem recA_ok : SOk (recA w x s) b (P.step r S) := ⟨recA_c hw hs hx, recA_h hw hs hx, recA_d hw hs hx⟩

include hw hs hx in
/-- The second step of a trip is a step of the recurrence. -/
theorem recB_ok : SOk (recB w x s) b (P.step r S) := ⟨recB_c hw hs hx, recB_h hw hs hx, recB_d hw hs hx⟩

/-- The largest of two reals is a real. -/
theorem max_real {u v : EReal} (hu : ∃ r : ℝ, u = (r : EReal)) (hv : ∃ r : ℝ, v = (r : EReal)) : ∃ r : ℝ, max u v = (r : EReal) := by
  rcases max_choice u v with h | h <;> rw [h] <;> assumption

/-- The ten weights as printed: each exponential times one over the sum of all ten. -/
theorem ten_soft (q : Fin 10 → EReal) (v : Fin 10 → ℝ) (h : ∀ k, q k = ((v k : ℝ) : EReal)) (k : Fin 10) :
    (fun M : EReal => Ideal.exp (q k - M) * Ideal.div 1 (Ideal.exp (q 0 - M) + Ideal.exp (q 1 - M) + Ideal.exp (q 2 - M) + Ideal.exp (q 3 - M) + Ideal.exp (q 4 - M)
        + Ideal.exp (q 5 - M) + Ideal.exp (q 6 - M) + Ideal.exp (q 7 - M) + Ideal.exp (q 8 - M) + Ideal.exp (q 9 - M)))
      (max (max (max (max (max (max (max (max (max (q 0) (q 1)) (q 2)) (q 3)) (q 4)) (q 5)) (q 6)) (q 7)) (q 8)) (q 9)) = ((soft v k : ℝ) : EReal) := by
  have hr : ∀ k, ∃ r : ℝ, q k = (r : EReal) := fun k => ⟨v k, h k⟩
  obtain ⟨M, hM⟩ := max_real (max_real (max_real (max_real (max_real (max_real (max_real (max_real (max_real (hr 0) (hr 1)) (hr 2)) (hr 3)) (hr 4)) (hr 5)) (hr 6)) (hr 7)) (hr 8)) (hr 9)
  rw [hM]
  dsimp only
  have e : Ideal.exp (q 0 - M) + Ideal.exp (q 1 - M) + Ideal.exp (q 2 - M) + Ideal.exp (q 3 - M) + Ideal.exp (q 4 - M)
        + Ideal.exp (q 5 - M) + Ideal.exp (q 6 - M) + Ideal.exp (q 7 - M) + Ideal.exp (q 8 - M) + Ideal.exp (q 9 - M)
      = ((∑ m, Real.exp (v m - M) : ℝ) : EReal) := by
    rw [← exps_coe]
    simp only [Fin.sum_univ_succ, ← h, Fin.sum_univ_zero, add_zero]
    simp only [← add_assoc]
    rfl
  rw [e, Ideal.div_coe (exps_ne v k M), h, ← EReal.coe_sub, Ideal.exp_coe, ← EReal.coe_one, ← EReal.coe_mul, ← EReal.coe_mul, ← soft_shift v M k]
  congr 1
  ring

/-- Running sums, one term at a time. -/
theorem cums_zero (d : Fin 10 → ℝ) : cums d 0 = d 0 := by
  unfold cums
  rw [Finset.sum_eq_single 0 (fun j _ hj => if_neg fun h => hj (le_antisymm h (Fin.zero_le j))) (fun h => absurd (Finset.mem_univ _) h)]
  simp

/-- The next running sum. -/
theorem cums_succ (d : Fin 10 → ℝ) (k : ℕ) (h : k + 1 < 10) : cums d ⟨k + 1, h⟩ = cums d ⟨k, by omega⟩ + d ⟨k + 1, h⟩ := by
  unfold cums
  have e : ∀ j : Fin 10, (if j ≤ (⟨k + 1, h⟩ : Fin 10) then d j else 0)
      = (if j ≤ (⟨k, by omega⟩ : Fin 10) then d j else 0) + (if j = (⟨k + 1, h⟩ : Fin 10) then d j else 0) := by
    intro j
    simp only [Fin.le_def, Fin.ext_iff]
    by_cases h1 : j.val ≤ k
    · rw [if_pos (by omega), if_pos h1, if_neg (by omega), add_zero]
    · by_cases h2 : j.val = k + 1
      · rw [if_pos (by omega), if_neg h1, if_pos h2, zero_add]
      · rw [if_neg (by omega), if_neg h1, if_neg h2, add_zero]
  rw [Finset.sum_congr rfl fun j _ => e j, Finset.sum_add_distrib, Finset.sum_ite_eq' Finset.univ _ d, if_pos (Finset.mem_univ _)]

/-- The running sums of entries that are reals. -/
theorem runs (q D : Fin 10 → EReal) (d : Fin 10 → ℝ) (hD : ∀ k, D k = ((d k : ℝ) : EReal)) (h0 : q 0 = D 0)
    (hs : ∀ (k : ℕ) (h : k + 1 < 10), q ⟨k + 1, h⟩ = q ⟨k, by omega⟩ + D ⟨k + 1, h⟩) : ∀ k, q k = ((cums d k : ℝ) : EReal) := by
  rintro ⟨k, hk⟩
  induction k with
  | zero => exact h0.trans ((hD 0).trans (congrArg _ (cums_zero d).symm))
  | succ k ih => rw [hs k hk, ih, hD, cums_succ, EReal.coe_add]

/-- Entry `k` of a row, summed from the first on. -/
def runSum (D : Fin 10 → EReal) : ℕ → EReal
  | 0 => D 0
  | k + 1 => runSum D k + if h : k + 1 < 10 then D ⟨k + 1, h⟩ else 0

/-- It is the running sum. -/
theorem runSum_val (D : Fin 10 → EReal) (d : Fin 10 → ℝ) (hD : ∀ k, D k = ((d k : ℝ) : EReal)) (k : Fin 10) : runSum D k.val = ((cums d k : ℝ) : EReal) :=
  runs (fun k => runSum D k.val) D d hD rfl (fun k h => by show runSum D k + _ = _; rw [dif_pos h]) k

/-- The first step's running sums, as printed. -/
def sumsA (w : RecW Ideal) (x : Vec Ideal S1x16x128 .bf16) (s : RecSt Ideal) (b : Fin 16) : Fin 10 → EReal :=
  ![k1_pay35 s.d (fA0 w x s) (fA1 w x s) (fA2 w x s) (ix2 b 0), k1_pay36 s.d (fA0 w x s) (fA1 w x s) (fA2 w x s) (ix2 b 0),
    k1_pay37 s.d (fA0 w x s) (fA1 w x s) (fA2 w x s) (ix2 b 0), k1_pay38 s.d (fA0 w x s) (fA1 w x s) (fA2 w x s) (ix2 b 0),
    k1_pay39 s.d (fA0 w x s) (fA1 w x s) (fA2 w x s) (ix2 b 0), k1_pay40 s.d (fA0 w x s) (fA1 w x s) (fA2 w x s) (ix2 b 0),
    k1_pay41 s.d (fA0 w x s) (fA1 w x s) (fA2 w x s) (ix2 b 0), k1_pay42 s.d (fA0 w x s) (fA1 w x s) (fA2 w x s) (ix2 b 0),
    k1_pay43 s.d (fA0 w x s) (fA1 w x s) (fA2 w x s) (ix2 b 0),
    k1_pay43 s.d (fA0 w x s) (fA1 w x s) (fA2 w x s) (ix2 b 0) + (recA w x s).d (ix2 b 9)]

/-- The second step's. -/
def sumsB (w : RecW Ideal) (x : Vec Ideal S1x16x128 .bf16) (s : RecSt Ideal) (b : Fin 16) : Fin 10 → EReal :=
  ![k1_pay72 s.d (fB0 w x s) (fB1 w x s) (fB2 w x s) (ix2 b 0), k1_pay73 s.d (fB0 w x s) (fB1 w x s) (fB2 w x s) (ix2 b 0),
    k1_pay74 s.d (fB0 w x s) (fB1 w x s) (fB2 w x s) (ix2 b 0), k1_pay75 s.d (fB0 w x s) (fB1 w x s) (fB2 w x s) (ix2 b 0),
    k1_pay76 s.d (fB0 w x s) (fB1 w x s) (fB2 w x s) (ix2 b 0), k1_pay77 s.d (fB0 w x s) (fB1 w x s) (fB2 w x s) (ix2 b 0),
    k1_pay78 s.d (fB0 w x s) (fB1 w x s) (fB2 w x s) (ix2 b 0),
    k1_pay78 s.d (fB0 w x s) (fB1 w x s) (fB2 w x s) (ix2 b 0) + k1_pay79 s.d (fB0 w x s) (fB1 w x s) (fB2 w x s) (ix2 b 0),
    k1_pay78 s.d (fB0 w x s) (fB1 w x s) (fB2 w x s) (ix2 b 0) + k1_pay79 s.d (fB0 w x s) (fB1 w x s) (fB2 w x s) (ix2 b 0)
      + k1_pay71 s.d (fB0 w x s) (fB1 w x s) (fB2 w x s) (ix2 b 8),
    k1_pay78 s.d (fB0 w x s) (fB1 w x s) (fB2 w x s) (ix2 b 0) + k1_pay79 s.d (fB0 w x s) (fB1 w x s) (fB2 w x s) (ix2 b 0)
      + k1_pay71 s.d (fB0 w x s) (fB1 w x s) (fB2 w x s) (ix2 b 8) + k1_pay71 s.d (fB0 w x s) (fB1 w x s) (fB2 w x s) (ix2 b 9)]

include hw hs hx in
/-- Their running sums after the first step. -/
theorem sumsA_val (k : Fin 10) : sumsA w x s b k = ((cums (P.step r S).d k : ℝ) : EReal) := by
  refine runs (sumsA w x s b) (fun k => (recA w x s).d (ix2 b ⟨k.val, by omega⟩)) _ (recA_d hw hs hx) ?_ ?_ k
  · show k1_pay35 s.d (fA0 w x s) (fA1 w x s) (fA2 w x s) (ix2 b 0) = _
    pointwise [k1_pay35]
    rfl
  · intro k h
    have hk : k < 9 := by omega
    interval_cases k
    · show k1_pay36 s.d (fA0 w x s) (fA1 w x s) (fA2 w x s) (ix2 b 0) = _
      pointwise [k1_pay36]
      rfl
    · show k1_pay37 s.d (fA0 w x s) (fA1 w x s) (fA2 w x s) (ix2 b 0) = _
      pointwise [k1_pay37]
      rfl
    · show k1_pay38 s.d (fA0 w x s) (fA1 w x s) (fA2 w x s) (ix2 b 0) = _
      pointwise [k1_pay38]
      rfl
    · show k1_pay39 s.d (fA0 w x s) (fA1 w x s) (fA2 w x s) (ix2 b 0) = _
      pointwise [k1_pay39]
      rfl
    · show k1_pay40 s.d (fA0 w x s) (fA1 w x s) (fA2 w x s) (ix2 b 0) = _
      pointwise [k1_pay40]
      rfl
    · show k1_pay41 s.d (fA0 w x s) (fA1 w x s) (fA2 w x s) (ix2 b 0) = _
      pointwise [k1_pay41]
      rfl
    · show k1_pay42 s.d (fA0 w x s) (fA1 w x s) (fA2 w x s) (ix2 b 0) = _
      pointwise [k1_pay42]
      rfl
    · show k1_pay43 s.d (fA0 w x s) (fA1 w x s) (fA2 w x s) (ix2 b 0) = _
      pointwise [k1_pay43]
      rfl
    · rfl

include hw hs hx in
/-- Their running sums after the second step. -/
theorem sumsB_val (k : Fin 10) : sumsB w x s b k = ((cums (P.step r S).d k : ℝ) : EReal) := by
  have h13 : ∀ j, (recB w x s).d (ix2 b j) = k1_pay71 s.d (fB0 w x s) (fB1 w x s) (fB2 w x s) (ix2 b j) := by
    intro j
    pointwise [recB, k1_pay13]
  refine runs (sumsB w x s b) (fun k => k1_pay71 s.d (fB0 w x s) (fB1 w x s) (fB2 w x s) (ix2 b ⟨k.val, by omega⟩)) _
    (fun k => (h13 _).symm.trans (recB_d hw hs hx k)) ?_ ?_ k
  · show k1_pay72 s.d (fB0 w x s) (fB1 w x s) (fB2 w x s) (ix2 b 0) = _
    pointwise [k1_pay72]
  · intro k h
    have hk : k < 9 := by omega
    interval_cases k
    · show k1_pay73 s.d (fB0 w x s) (fB1 w x s) (fB2 w x s) (ix2 b 0) = _
      pointwise [k1_pay73]
      rfl
    · show k1_pay74 s.d (fB0 w x s) (fB1 w x s) (fB2 w x s) (ix2 b 0) = _
      pointwise [k1_pay74]
      rfl
    · show k1_pay75 s.d (fB0 w x s) (fB1 w x s) (fB2 w x s) (ix2 b 0) = _
      pointwise [k1_pay75]
      rfl
    · show k1_pay76 s.d (fB0 w x s) (fB1 w x s) (fB2 w x s) (ix2 b 0) = _
      pointwise [k1_pay76]
      rfl
    · show k1_pay77 s.d (fB0 w x s) (fB1 w x s) (fB2 w x s) (ix2 b 0) = _
      pointwise [k1_pay77]
      rfl
    · show k1_pay78 s.d (fB0 w x s) (fB1 w x s) (fB2 w x s) (ix2 b 0) = _
      pointwise [k1_pay78]
      rfl
    · show k1_pay78 s.d (fB0 w x s) (fB1 w x s) (fB2 w x s) (ix2 b 0) + k1_pay79 s.d (fB0 w x s) (fB1 w x s) (fB2 w x s) (ix2 b 0) = _
      pointwise [k1_pay79]
      rfl
    · rfl
    · rfl

include hw hs hx in
/-- The weights the first step stores. -/
theorem disA_val (k : Fin 10) : disA w x s (ix2 b ⟨k.val, by omega⟩) = ((dis (P.step r S) k : ℝ) : EReal) := by
  have ht := ten_soft _ _ (sumsA_val hw hs hx) k
  refine Eq.trans ?_ ht
  clear ht
  fin_cases k <;> pointwise [disA, k1_pay44] <;> rfl

include hw hs hx in
/-- The weights the second step stores. -/
theorem disB_val (k : Fin 10) : disB w x s (ix2 b ⟨k.val, by omega⟩) = ((dis (P.step r S) k : ℝ) : EReal) := by
  have ht := ten_soft _ _ (sumsB_val hw hs hx) k
  refine Eq.trans ?_ ht
  clear ht
  fin_cases k <;> pointwise [disB, k1_pay80] <;> rfl

/-- What the second step stores is its hidden state. -/
theorem hidB_val (e : Fin 384) : hidB w x s (ix2 b e) = (recB w x s).h (ix2 b e) := by
  pointwise [hidB, k1_pay81, recB, k1_pay12]

end Cert.KernelIdeal.Gen
end
-- ==== Proof.Value.RecOut.lean ====
module

public import proofs.«01_k».proof.Proof.Value.RecVal
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)
open Cert.Spec

variable {w : RecW Ideal} {P : Par} (hw : WOk w P) {X : Vec Ideal S512x16x128 .bf16} {xs : Fin 16 → ℕ → Fin 128 → ℝ}
  (hX : ∀ t b d, X (ix3 t b d) = ((xs b t.val d : ℝ) : EReal))

/-- The recurrence starts from the model's first state. -/
theorem zero_ok (b : Fin 16) (xs : ℕ → Fin 128 → ℝ) : SOk recZero b (P.state xs 0) := by
  refine ⟨fun e => ?_, fun e => ?_, fun k => ?_⟩
  · pointwise [recZero, k1_pay5]
    rfl
  · pointwise [recZero, k1_pay6]
    rfl
  · pointwise [recZero, k1_pay7]
    rfl

/-- There are 256 trips. -/
theorem trip_lt (k : Fin k1_t1_loop.trips) : k.val < 256 := Nat.lt_of_lt_of_le k.isLt k1_t1_abs.2.1

/-- A row read out of the input. -/
theorem ld_row (X : Vec Ideal S512x16x128 .bf16) (off : Fin 3 → ℕ) (inb) (t : Fin 512) (h : off = ![t.val, 0, 0]) (b : Fin 16) (d : Fin 128) :
    View.ld X (Rect.unit (s := S512x16x128) off S1x16x128.size inb) (ix3 0 b d) = X (ix3 t b d) := by
  subst h
  refine View.ld_unit_apply_of X _ _ _ _ (ix3 t b d) fun a => ?_
  fin_cases a <;> simp

/-- A place of a row written to the hidden states. -/
theorem emb_hrow (off : Fin 3 → ℕ) (inb) (t : Fin 528) (h : off = ![t.val, 0, 0]) (b : Fin 16) (e : Fin 384) :
    (Rect.unit (s := S528x16x384) off S1x16x384.size inb).emb (ix3 0 b e) = ix3 t b e := by
  subst h
  funext a
  refine Fin.ext ((Rect.idx_unit_val _ _ inb _ a).trans ?_)
  fin_cases a <;> simp

/-- A place of a row written to the window weights. -/
theorem emb_drow (off : Fin 3 → ℕ) (inb) (t : Fin 512) (h : off = ![t.val, 0, 0]) (b : Fin 16) (e : Fin 128) :
    (Rect.unit (s := S512x16x128) off S1x16x128.size inb).emb (ix3 0 b e) = ix3 t b e := by
  subst h
  funext a
  refine Fin.ext ((Rect.idx_unit_val _ _ inb _ a).trans ?_)
  fin_cases a <;> simp

include hX in
/-- The visit that a trip's first step reads. -/
theorem xA_val (k : Fin k1_t1_loop.trips) (b : Fin 16) (d : Fin 128) : xA X k (ix3 0 b d) = ((xs b (2 * k.val) d : ℝ) : EReal) := by
  have hk : k.val < 256 := Nat.lt_of_lt_of_le k.isLt k1_t1_abs.2.1
  exact (ld_row X _ _ ⟨2 * k.val, by omega⟩ (k1_off1_eq k) b d).trans (hX _ b d)

include hX in
/-- The visit that its second step reads. -/
theorem xB_val (k : Fin k1_t1_loop.trips) (b : Fin 16) (d : Fin 128) : xB X k (ix3 0 b d) = ((xs b (2 * k.val + 1) d : ℝ) : EReal) := by
  have hk : k.val < 256 := Nat.lt_of_lt_of_le k.isLt k1_t1_abs.2.1
  exact (ld_row X _ _ ⟨2 * k.val + 1, by omega⟩ (k1_off3_eq k) b d).trans (hX _ b d)

include hw hX in
/-- A trip takes the state two visits further. -/
theorem trip_ok (b : Fin 16) (k : Fin k1_t1_loop.trips) {s : RecSt Ideal} (h : SOk s b (P.state (xs b) (2 * k.val))) :
    SOk (recA w (xA X k) (ldSt s)) b (P.state (xs b) (2 * k.val + 1)) ∧ SOk (recTrip w s X k) b (P.state (xs b) (2 * k.val + 2)) := by
  have h1 : SOk (recA w (xA X k) (ldSt s)) b (P.state (xs b) (2 * k.val + 1)) := by
    rw [ldSt_eq]
    exact recA_ok hw h (xA_val hX k b)
  exact ⟨h1, recB_ok hw h1 (xB_val hX k b)⟩

include hw hX in
/-- Before trip `n` the buffers hold the state after `2n` visits. -/
theorem recSt_ok (b : Fin 16) : ∀ n : ℕ, n ≤ k1_t1_loop.trips → SOk (recSt w recZero X n) b (P.state (xs b) (2 * n))
  | 0, _ => zero_ok b (xs b)
  | n + 1, h => by
    have e := recSt_succ w recZero X ⟨n, h⟩
    dsimp only at e
    rw [e]
    exact (trip_ok hw hX b ⟨n, h⟩ (recSt_ok b n (by omega))).2

/-- A piece is some trip's. -/
theorem of_allPieces {A : Type} (w : RecW Ideal) (s : RecSt Ideal) (X : Vec Ideal S512x16x128 .bf16) (f : RecSt Ideal → Fin k1_t1_loop.trips → List A) (p : A) :
    ∀ n : ℕ, p ∈ allPieces w s X f n → ∃ k : Fin k1_t1_loop.trips, p ∈ f (recSt w s X k.val) k
  | 0, h => absurd h List.not_mem_nil
  | n + 1, h => by
    unfold allPieces at h
    split at h
    · next hn =>
      rcases List.mem_append.1 h with h | h
      · exact ⟨⟨n, hn⟩, h⟩
      · exact of_allPieces w s X f p n h
    · exact of_allPieces w s X f p n h

/-- What the hidden states' buffer holds: sixteen rows of nothing, then one row a visit. -/
def hGoal (P : Par) (xs : Fin 16 → ℕ → Fin 128 → ℝ) (y : S528x16x384.Idx) : EReal :=
  if (y 0).val < 16 then 0 else (((P.state (xs (y 1)) ((y 0).val - 15)).h (y 2) : ℝ) : EReal)

include hw hX in
/-- The rows that all trips store make up the array of hidden states. -/
theorem hPieces_val (y : S528x16x384.Idx) : View.canon (hPieces w X) y = hGoal P xs y := by
  refine View.canon_apply_of_pieces (hGoal P xs) (hPieces w X) ?_ y (hPieces_cover w X y)
  intro p hp
  rcases List.mem_append.1 hp with hp | hp
  · obtain ⟨k, hp⟩ := of_allPieces _ _ _ _ _ _ hp
    have hk : k.val < 256 := Nat.lt_of_lt_of_le k.isLt k1_t1_abs.2.1
    have hst (b : Fin 16) := trip_ok hw hX b k (recSt_ok hw hX b k.val k.isLt.le)
    rcases List.mem_cons.1 hp with rfl | hp
    · intro x
      obtain ⟨i, b, e, rfl⟩ : ∃ i b e, x = (ix3 i b e : S1x16x384.Idx) := ⟨x 0, x 1, x 2, by funext a; fin_cases a <;> rfl⟩
      obtain rfl : i = 0 := Subsingleton.elim _ _
      rw [emb_hrow _ _ ⟨2 * k.val + 17, by omega⟩ (k1_off4_eq k)]
      refine Eq.trans ?_ ((hst b).2.h e |>.trans ?_)
      · pointwise [k1_pay9]
        exact hidB_val e
      · unfold hGoal
        rw [if_neg (by show ¬ 2 * k.val + 17 < 16; omega)]
        rfl
    · obtain rfl := List.mem_singleton.1 hp
      intro x
      obtain ⟨i, b, e, rfl⟩ : ∃ i b e, x = (ix3 i b e : S1x16x384.Idx) := ⟨x 0, x 1, x 2, by funext a; fin_cases a <;> rfl⟩
      obtain rfl : i = 0 := Subsingleton.elim _ _
      rw [emb_hrow _ _ ⟨2 * k.val + 16, by omega⟩ (k1_off2_eq k)]
      refine Eq.trans ?_ ((hst b).1.h e |>.trans ?_)
      · pointwise [k1_pay46, k1_pay45]
      · unfold hGoal
        rw [if_neg (by show ¬ 2 * k.val + 16 < 16; omega)]
        rfl
  · obtain rfl := List.mem_singleton.1 hp
    intro x
    obtain ⟨i, b, e, rfl⟩ : ∃ i b e, x = (ix3 i b e : S16x16x384.Idx) := ⟨x 0, x 1, x 2, by funext a; fin_cases a <;> rfl⟩
    have h0 : (((Rect.unit (s := S528x16x384) ![0, 0, 0] S16x16x384.size inb_S528x16x384_S16x16x384_0_0_0).emb (ix3 i b e)) 0).val = i.val :=
      (Rect.idx_unit_val _ _ inb_S528x16x384_S16x16x384_0_0_0 _ 0).trans (by simp)
    unfold hGoal
    rw [if_pos (by rw [h0]; exact i.isLt)]
    pointwise [k1_pay8]

/-- What row `2n` or `2n + 1` of the window weights' buffer holds. -/
def dRow (w : RecW Ideal) (X : Vec Ideal S512x16x128 .bf16) (n : ℕ) (even : Prop) [Decidable even] (b : Fin 16) (d : Fin 128) : EReal :=
  if hk : n < k1_t1_loop.trips then
    if even then disA w (xA X ⟨n, hk⟩) (ldSt (recSt w recZero X n)) (ix2 b d)
    else disB w (xB X ⟨n, hk⟩) (recA w (xA X ⟨n, hk⟩) (ldSt (recSt w recZero X n))) (ix2 b d)
  else 0

/-- What the window weights' buffer holds, trip by trip. -/
def dGoal (w : RecW Ideal) (X : Vec Ideal S512x16x128 .bf16) (y : S512x16x128.Idx) : EReal :=
  dRow w X ((y 0).val / 2) ((y 0).val % 2 = 0) (y 1) (y 2)

/-- What an even row of the window's weights is to hold. -/
theorem dGoal_even (k : Fin k1_t1_loop.trips) (b : Fin 16) (d : Fin 128) (h : 2 * k.val < 512) :
    dGoal w X (ix3 ⟨2 * k.val, h⟩ b d) = disA w (xA X k) (ldSt (recSt w recZero X k.val)) (ix2 b d) := by
  show dRow w X ((2 * k.val) / 2) ((2 * k.val) % 2 = 0) b d = _
  rw [show (2 * k.val) / 2 = k.val by omega]
  unfold dRow
  rw [dif_pos k.isLt, if_pos (by omega)]

/-- What an odd row is to hold. -/
theorem dGoal_odd (k : Fin k1_t1_loop.trips) (b : Fin 16) (d : Fin 128) (h : 2 * k.val + 1 < 512) :
    dGoal w X (ix3 ⟨2 * k.val + 1, h⟩ b d) = disB w (xB X k) (recA w (xA X k) (ldSt (recSt w recZero X k.val))) (ix2 b d) := by
  show dRow w X ((2 * k.val + 1) / 2) ((2 * k.val + 1) % 2 = 0) b d = _
  rw [show (2 * k.val + 1) / 2 = k.val by omega]
  unfold dRow
  rw [dif_pos k.isLt, if_neg (by omega)]

/-- The rows that all trips store make up the array of the window's weights. -/
theorem dPieces_val (y : S512x16x128.Idx) : View.canon (dPieces w X) y = dGoal w X y := by
  refine View.canon_apply_of_pieces (dGoal w X) (dPieces w X) ?_ y (dPieces_cover w X y)
  intro p hp
  obtain ⟨k, hp⟩ := of_allPieces _ _ _ _ _ _ hp
  have hk : k.val < 256 := Nat.lt_of_lt_of_le k.isLt k1_t1_abs.2.1
  rcases List.mem_cons.1 hp with rfl | hp
  · intro x
    obtain ⟨i, b, e, rfl⟩ : ∃ i b e, x = (ix3 i b e : S1x16x128.Idx) := ⟨x 0, x 1, x 2, by funext a; fin_cases a <;> rfl⟩
    obtain rfl : i = 0 := Subsingleton.elim _ _
    rw [emb_drow _ _ ⟨2 * k.val + 1, by omega⟩ (k1_off3_eq k), dGoal_odd]
    pointwise [k1_pay10]
  · obtain rfl := List.mem_singleton.1 hp
    intro x
    obtain ⟨i, b, e, rfl⟩ : ∃ i b e, x = (ix3 i b e : S1x16x128.Idx) := ⟨x 0, x 1, x 2, by funext a; fin_cases a <;> rfl⟩
    obtain rfl : i = 0 := Subsingleton.elim _ _
    rw [emb_drow _ _ ⟨2 * k.val, by omega⟩ (k1_off1_eq k), dGoal_even]
    pointwise [k1_pay47]

include hw hX in
/-- The window weights of visit `t`. -/
theorem dPieces_dis (t : Fin 512) (b : Fin 16) (j : Fin 10) :
    View.canon (dPieces w X) (ix3 t b ⟨j.val, by omega⟩) = ((dis (P.state (xs b) (t.val + 1)) j : ℝ) : EReal) := by
  rw [dPieces_val]
  obtain ⟨t, ht⟩ := t
  have hk : t / 2 < k1_t1_loop.trips := by rw [trips_eq]; omega
  rcases Nat.mod_two_eq_zero_or_one t with h | h
  · obtain ⟨k, rfl⟩ : ∃ k : Fin k1_t1_loop.trips, t = 2 * k.val := ⟨⟨t / 2, hk⟩, by show t = 2 * (t / 2); omega⟩
    rw [dGoal_even, ldSt_eq]
    exact disA_val hw (recSt_ok hw hX b k.val k.isLt.le) (xA_val hX k b) j
  · obtain ⟨k, rfl⟩ : ∃ k : Fin k1_t1_loop.trips, t = 2 * k.val + 1 := ⟨⟨t / 2, hk⟩, by show t = 2 * (t / 2) + 1; omega⟩
    rw [dGoal_odd]
    exact disB_val hw (trip_ok hw hX b k (recSt_ok hw hX b k.val k.isLt.le)).1 (xB_val hX k b) j

end Cert.KernelIdeal.Gen
end
-- ==== Proof.Value.RecArr.lean ====
module

public import proofs.«01_k».proof.Proof.Value.RecOut
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)
open Cert.Spec

variable (V : (c : Dev nD) → (b : Ref sig .tc) → Buf (Elt Ideal) ((c : Thread nD τ).loc b))

/-- Every window of the recurrence shows its whole array. -/
theorem idx1 (t : Fin cfg1.N) : (∀ a, win1_0.index t a = 0) ∧ (∀ a, win1_1.index t a = 0) ∧ (∀ a, win1_2.index t a = 0)
    ∧ (∀ a, win1_3.index t a = 0) ∧ (∀ a, win1_4.index t a = 0) ∧ (∀ a, win1_5.index t a = 0) ∧ (∀ a, win1_6.index t a = 0) :=
  (by decide +kernel : ∀ t : Fin cfg1.N, (∀ a, win1_0.index t a = 0) ∧ (∀ a, win1_1.index t a = 0) ∧ (∀ a, win1_2.index t a = 0)
    ∧ (∀ a, win1_3.index t a = 0) ∧ (∀ a, win1_4.index t a = 0) ∧ (∀ a, win1_5.index t a = 0) ∧ (∀ a, win1_6.index t a = 0)) t

set_option maxHeartbeats 1000000 in
/-- Each input of the second launch is read whole. -/
theorem read1 (c : Dev nD) (t : Fin cfg1.N) :
    (iblk1 V c 0 t : Vec Ideal S512x16x128 .bf16) = V c main_call0_v2 ∧ (iblk1 V c 1 t : Vec Ideal S512x128 .bf16) = V c main_call0_v52
    ∧ (iblk1 V c 2 t : Vec Ideal S512x1536 .bf16) = V c main_call0_v53 ∧ (iblk1 V c 3 t : Vec Ideal S1x128 .f32) = V c main_call0_v40
    ∧ (iblk1 V c 4 t : Vec Ideal S1x1536 .f32) = V c main_call0_v42 := by
  obtain ⟨h0, h1, h2, h3, h4, -⟩ := idx1 t
  refine ⟨?_, ?_, ?_, ?_, ?_⟩ <;> funext y
  · blk_ext [iblk1, h0]
  · blk_ext [iblk1, h1]
  · blk_ext [iblk1, h2]
  · blk_ext [iblk1, h3]
  · blk_ext [iblk1, h4]

/-- The weights the second launch reads. -/
def wOf (c : Dev nD) : RecW Ideal := ⟨V c main_call0_v52, V c main_call0_v53, V c main_call0_v40, V c main_call0_v42⟩

/-- The weights that the recurrence reads are its arguments. -/
theorem recW_eq (x1 : Vec Ideal S512x128 .bf16) (x2 : Vec Ideal S512x1536 .bf16) (x3 : Vec Ideal S1x128 .f32) (x4 : Vec Ideal S1x1536 .f32) :
    recW x1 x2 x3 x4 = ⟨x1, x2, x3, x4⟩ := by
  unfold recW
  rw [View.ld_unit_zero zero2, View.ld_unit_zero zero2, View.ld_unit_zero zero2, View.ld_unit_zero zero2]

set_option maxHeartbeats 2000000 in
theorem arr1_5 (c : Dev nD) : ((dat1 V c).arrAt 5 cfg1.N : Vec Ideal S528x16x384 .bf16) = View.canon (hPieces (wOf V c) (V c main_call0_v2)) := by
  obtain ⟨h0, h1, h2, h3, h4⟩ := read1 V c t1_0
  obtain ⟨-, -, -, -, -, h5, h6⟩ := idx1 t1_0
  refine (dat1 V c).arrAt_eq_of_after_last 5 t1_0 (by decide +kernel) _ fun j => ?_
  blk_simp [h5]
  rw [after1_5]
  unfold hOut
  rw [h0, h1, h2, h3, h4, recW_eq]
  rfl

set_option maxHeartbeats 2000000 in
theorem arr1_6 (c : Dev nD) : ((dat1 V c).arrAt 6 cfg1.N : Vec Ideal S512x16x128 .f32) = View.canon (dPieces (wOf V c) (V c main_call0_v2)) := by
  obtain ⟨h0, h1, h2, h3, h4⟩ := read1 V c t1_0
  obtain ⟨-, -, -, -, -, h5, h6⟩ := idx1 t1_0
  refine (dat1 V c).arrAt_eq_of_after_last 6 t1_0 (by decide +kernel) _ fun j => ?_
  blk_simp [h6]
  rw [after1_6]
  unfold dOut
  rw [h0, h1, h2, h3, h4, recW_eq]
  rfl

end Cert.KernelIdeal.Gen
end
-- ==== Proof.Value.Kern.lean ====
module

public import proofs.«01_k».proof.Proof.Value.Logit
public import proofs.«01_k».proof.Proof.Value.HostVal
public import proofs.«01_k».proof.Proof.Value.EmbVal
public import proofs.«01_k».proof.Proof.Value.RecArr
public import proofs.«01_k».proof.Proof.Value.WinSum

@[expose] public section

set_option maxRecDepth 16384

noncomputable section

namespace Cert.KernelIdeal.Gen

open Idealize.ShloMosaic Idealize.ShloMosaic.TcCoe Cert.Spec

variable (m : (ℓ : Loc nD τ sig) → Buf (Elt Ideal) ℓ) (ρ : Dev nD → PrngReg) (c : Dev nD)

/-- The arguments that the model reads. -/
structure ArgsOk (P : Par) (E : Fin 2048 → Fin 128 → ℝ) : Prop where
  emb : ∀ v d, (m ((c : Thread nD τ).loc main_arg1) : Vec Ideal S2048x128 .f32) (ix2 v d) = ((E v d : ℝ) : EReal)
  kW : ∀ j d, (m ((c : Thread nD τ).loc main_arg2) : Vec Ideal S1542x129 .f32) (ix2 j d) = ((P.kW j d : ℝ) : EReal)
  kb : ∀ j, (m ((c : Thread nD τ).loc main_arg3) : Vec Ideal S1542 .f32) (ix1 j) = ((P.kb j : ℝ) : EReal)
  rW : ∀ j e, (m ((c : Thread nD τ).loc main_arg4) : Vec Ideal S1542x385 .f32) (ix2 j e) = ((P.rW j e : ℝ) : EReal)
  rb : ∀ j, (m ((c : Thread nD τ).loc main_arg5) : Vec Ideal S1542 .f32) (ix1 j) = ((P.rb j : ℝ) : EReal)

/-- The codes. -/
def codes (b : Fin 16) (t : Fin 512) (v : Fin 2048) : BitVec 32 := (m ((c : Thread nD τ).loc main_arg0) : IVec S16x512x2048 32) (ix3 b t v)

/-- The weights after the recurrence. -/
def head : Head where
  sw j e := (m ((c : Thread nD τ).loc main_arg6) : Vec Ideal S64x384 .f32) (ix2 j e)
  sb j := (m ((c : Thread nD τ).loc main_arg7) : Vec Ideal S64 .f32) (ix1 j)
  rw o j := (m ((c : Thread nD τ).loc main_arg8) : Vec Ideal S384x64 .f32) (ix2 o j)
  rb o := (m ((c : Thread nD τ).loc main_arg9) : Vec Ideal S384 .f32) (ix1 o)
  cw o e k := (m ((c : Thread nD τ).loc main_arg10) : Vec Ideal S384x384x10 .f32) (ix3 o e k)
  cb o := (m ((c : Thread nD τ).loc main_arg11) : Vec Ideal S384 .f32) (ix1 o)
  fw o e := (m ((c : Thread nD τ).loc main_arg12) : Vec Ideal S128x384 .f32) (ix2 o e)
  fb o := (m ((c : Thread nD τ).loc main_arg13) : Vec Ideal S128 .f32) (ix1 o)

variable {m c} {P : Par} {E : Fin 2048 → Fin 128 → ℝ} (hA : ArgsOk m c P E)
include hA

/-- The embeddings that the first call computes are the model's visits. -/
theorem emb_ok (b : Fin 16) (t : Fin 512) (d : Fin 128) : embOf (V1 m ρ) c b t d = ((visits (codes m c) E b t.val d : ℝ) : EReal) := by
  have h0 : (V1 m ρ c main_arg0 : IVec S16x512x2048 32) = (m ((c : Thread nD τ).loc main_arg0) : IVec S16x512x2048 32) := W1_args m ρ c main_arg0 (by decide)
  unfold embOf visits emb
  rw [dif_pos t.isLt, ← sum_coe, h0]
  refine Finset.sum_congr rfl fun v _ => ?_
  have h1 : (V1 m ρ c main_call0_v0 : Vec Ideal S2048x128 .bf16) (ix2 v d) = ((E v d : ℝ) : EReal) := by
    refine (v0_val (W0 m ρ c) v d).trans ?_
    rw [W0_args m ρ c main_arg1 (by decide)]
    exact hA.emb v d
  show (if codes m c b t v = 1#32 then (1 : EReal) else 0) * (V1 m ρ c main_call0_v0 : Vec Ideal S2048x128 .bf16) (ix2 v d) = _
  rw [h1, EReal.coe_mul]
  congr 1
  by_cases h : codes m c b t v = 1#32
  · rw [if_pos h, if_pos h]; simp
  · rw [if_neg h, if_neg h]; simp

/-- What it counts is how many visits are seen. -/
theorem count_ok (b : Fin 16) : Spec.count (embOf (V1 m ρ) c b) = seen (visits (codes m c) E b) := by
  unfold Spec.count seen
  congr 1
  refine Finset.filter_congr fun t _ => exists_congr fun d => ?_
  rw [emb_ok ρ hA]
  exact not_congr EReal.coe_eq_zero

/-- What the recurrence gets is the visits. -/
theorem x_ok (t : Fin 512) (b : Fin 16) (d : Fin 128) : (V3 m ρ c main_call0_v2 : Vec Ideal S512x16x128 .bf16) (ix3 t b d) = ((visits (codes m c) E b t.val d : ℝ) : EReal) := by
  refine (v2_val (W2 m ρ c) t b d).trans ?_
  have h := (W2_arr m ρ c 2).trans (arr0_2 (V1 m ρ) c)
  exact (congrFun h (ix3 b t d)).trans (emb_ok ρ hA b t d)

/-- The weights that the recurrence gets are the model's. -/
theorem u_ok : UOk (W2 m ρ c) P where
  kW j d := (congrFun (W2_args m ρ c main_arg2 (by decide)) _).trans (hA.kW j d)
  kb j := (congrFun (W2_args m ρ c main_arg3 (by decide)) _).trans (hA.kb j)
  rW j e := (congrFun (W2_args m ρ c main_arg4 (by decide)) _).trans (hA.rW j e)
  rb j := (congrFun (W2_args m ρ c main_arg5 (by decide)) _).trans (hA.rb j)

omit hA in
theorem w_ok_of {U : Valuation τ sig (Elt Ideal)} (hU : UOk U P) (w : RecW Ideal) (h1 : w.wm = StableHlo.after hostOps1 U (Proc.devRef .tc main_call0_v52))
    (h2 : w.wg = StableHlo.after hostOps1 U (Proc.devRef .tc main_call0_v53)) (h3 : w.bm = StableHlo.after hostOps1 U (Proc.devRef .tc main_call0_v40))
    (h4 : w.bg = StableHlo.after hostOps1 U (Proc.devRef .tc main_call0_v42)) : WOk w P where
  mx d j := by
    rw [h1]
    exact (v52_val U _ j).trans ((dif_pos d.isLt).trans (hU.kW _ _))
  mh e j := by
    rw [h1]
    refine (v52_val U _ j).trans ((dif_neg (by simp)).trans ((hU.rW _ _).trans ?_))
    congr 2
    exact Fin.ext (by simp)
  gx d j := by
    rw [h2]
    exact (v53_val_x U d j).trans (hU.kW _ _)
  gh e j := by
    rw [h2]
    exact (v53_val_h U e j).trans (hU.rW _ _)
  bm j := by
    rw [h3]
    exact v40_val hU j
  bg j := by
    rw [h4]
    exact v42_val hU j

set_option maxHeartbeats 2000000 in
theorem w_ok : WOk (wOf (V3 m ρ) c) P := w_ok_of (u_ok ρ hA) _ rfl rfl rfl rfl

/-- The hidden states that the recurrence leaves, behind sixteen rows of zeros. -/
theorem h_ok (y : S528x16x384.Idx) : (V5 m ρ c main_call0_v54_0 : Vec Ideal S528x16x384 .bf16) y = hGoal P (visits (codes m c) E) y := by
  have h := (W5_of m ρ c main_call0_v54_0 (by decide)).trans ((W4_arr m ρ c 5).trans (arr1_5 (V3 m ρ) c))
  exact (congrFun h y).trans (hPieces_val (w_ok ρ hA) (x_ok ρ hA) y)

/-- The window's weights that it leaves. -/
theorem d_ok (t : Fin 512) (b : Fin 16) (j : Fin 10) : (V5 m ρ c main_call0_v54_1 : Vec Ideal S512x16x128 .f32) (ix3 t b ⟨j.val, by omega⟩)
    = ((dis (P.state (visits (codes m c) E b) (t.val + 1)) j : ℝ) : EReal) := by
  have h := (W5_of m ρ c main_call0_v54_1 (by decide)).trans ((W4_arr m ρ c 6).trans (arr1_6 (V3 m ρ) c))
  exact (congrFun h _).trans (dPieces_dis (w_ok ρ hA) (x_ok ρ hA) t b j)

/-- The index of a patient's last visit, as the window call gets it. -/
theorem li_ok (b : Fin 16) (hn : 1 ≤ seen (visits (codes m c) E b)) :
    (V5 m ρ c main_call0_v9 : IVec S16x1 32) (ix2 b 0) = BitVec.ofNat 32 (seen (visits (codes m c) E b) - 1) := by
  have h : V5 m ρ c main_call0_v9 = V3 m ρ c main_call0_v9 := (W5_of m ρ c main_call0_v9 (by decide)).trans (W4_of_ne m ρ c main_call0_v9 (by decide))
  refine (congrFun h _).trans (v9_val (W2 m ρ c) b _ hn (seen_le _) ?_)
  have h3 := (W2_arr m ρ c 3).trans (arr0_3 (V1 m ρ) c)
  refine (congrFun h3 _).trans ?_
  show ((Spec.count (embOf (V1 m ρ) c b) : ℕ) : EReal) = _
  rw [count_ok ρ hA]
  exact (EReal.coe_natCast).symm

omit hA in
/-- A buffer that only the second stretch of operations writes. -/
theorem mid (r : Ref sig .tc) (h2 : r ∉ hostOps2_W) (h1 : ∀ w, Pipeline.arrRef spec1 w ≠ r) : V5 m ρ c r = StableHlo.after hostOps1 (W2 m ρ c) (Proc.devRef .tc r) :=
  (W5_of m ρ c r h2).trans (W4_of_ne m ρ c r h1)

omit hA in
theorem hGoal_at (xs : Fin 16 → ℕ → Fin 128 → ℝ) (a : Fin 528) (b : Fin 16) (e : Fin 384) :
    hGoal P xs (ix3 a b e) = if a.val < 16 then 0 else (((P.state (xs b) (a.val - 15)).h e : ℝ) : EReal) := (rfl)

omit hA in
theorem hist_ok (xs : Fin 16 → ℕ → Fin 128 → ℝ) (b : Fin 16) (n : ℕ) (k : Fin 10) (e : Fin 384) (a : Fin 528) (ha : a.val = n - 1 + k.val + 7) (hn : 1 ≤ n) :
    hGoal P xs (ix3 a b e) = ((P.hist (xs b) n k e : ℝ) : EReal) := by
  rw [hGoal_at]
  unfold Par.hist
  by_cases h : 10 ≤ n + k.val
  · rw [if_neg (by omega), if_pos h]
    exact congrArg (fun q => (((P.state (xs b) q).h e : ℝ) : EReal)) (show a.val - 15 = n + k.val - 9 by omega)
  · rw [if_pos (by omega), if_neg h, EReal.coe_zero]

omit hA in
/-- What the last region leaves, over the arrays it finds. -/
theorem kern_of (V : (c : Dev nD) → (b : Ref sig .tc) → Buf (Elt Ideal) ((c : Thread nD τ).loc b)) (H : Head) (xs : Fin 16 → ℕ → Fin 128 → ℝ) (b : Fin 16) (o : Fin 128) (n : ℕ)
    (hn : 1 ≤ n) (hs : n ≤ 512)
    (hfw : ∀ e, (V c main_call0_v50 : Vec Ideal S384x128 .f32) (ix2 e o) = H.fw o e)
    (hfb : (V c main_call0_v51 : Vec Ideal S1x128 .f32) (ix2 0 o) = H.fb o)
    (hsb : ∀ j, (V c main_call0_v46 : Vec Ideal S1x64 .f32) (ix2 0 j) = H.sb j)
    (hrb : ∀ j, (V c main_call0_v48 : Vec Ideal S1x384 .f32) (ix2 0 j) = H.rb j)
    (hcb : ∀ j, (V c main_call0_v49 : Vec Ideal S1x384 .f32) (ix2 0 j) = H.cb j)
    (hsw : ∀ e j, (V c main_call0_v56 : Vec Ideal S384x64 .bf16) (ix2 e j) = H.sw j e)
    (hrw : ∀ j e, (V c main_call0_v57 : Vec Ideal S64x384 .bf16) (ix2 j e) = H.rw e j)
    (hcw : ∀ (k : Fin 10) (e o : Fin 384), (V c main_call0_v55 : Vec Ideal S3840x384 .bf16) (ix2 ⟨384 * k.val + e.val, by omega⟩ o) = H.cw o e k)
    (hh : ∀ y, (V c main_call0_v54_0 : Vec Ideal S528x16x384 .bf16) y = hGoal P xs y)
    (hd : ∀ (t : Fin 512) (b : Fin 16) (j : Fin 10), (V c main_call0_v54_1 : Vec Ideal S512x16x128 .f32) (ix3 t b ⟨j.val, by omega⟩) = ((dis (P.state (xs b) (t.val + 1)) j : ℝ) : EReal))
    (hl : (V c main_call0_v9 : IVec S16x1 32) (ix2 b 0) = BitVec.ofNat 32 (n - 1)) :
    ((dat2 V c).arrAt 11 cfg2.N : Vec Ideal S16x128 .f32) (ix2 b o) = H.logit P (xs b) n o := by
  refine (arr2_apply V c b o ⟨n - 1, by omega⟩ hl).trans ?_
  unfold Head.logit
  rw [hfb]
  congr 1
  refine Finset.sum_congr rfl fun e _ => ?_
  rw [hfw]
  congr 1
  unfold rowV rowAt Head.win
  simp only [hsb, hrb, hcb, hsw, hrw, hcw, hh, hd]
  have e1 : n - 1 + 1 = n := by omega
  have hh1 : ∀ (k : Fin 10) (e : Fin 384), hGoal P xs (ix3 ⟨n - 1 + k.val + 7, by omega⟩ b e) = ((P.hist (xs b) n k e : ℝ) : EReal) := fun k e => hist_ok xs b n k e _ rfl hn
  have hh2 : hGoal P xs (ix3 ⟨n - 1 + 16, by omega⟩ b e) = (((P.state (xs b) n).h e : ℝ) : EReal) := by
    rw [hGoal_at, if_neg (show ¬ (n - 1 + 16 < 16) by omega)]
    exact congrArg (fun q => (((P.state (xs b) q).h e : ℝ) : EReal)) (show n - 1 + 16 - 15 = n by omega)
  simp only [hh1, hh2, e1]

/-- What the kernel leaves, over its arguments. -/
theorem kern (b : Fin 16) (hn : 1 ≤ seen (visits (codes m c) E b)) (o : Fin 128) :
    (W6 m ρ c (Proc.devRef .tc main_v0) : Vec Ideal S16x128 .f32) (ix2 b o) = (head m c).logit P (visits (codes m c) E b) (seen (visits (codes m c) E b)) o := by
  have a := W2_args m ρ c
  refine (congrFun (W6_arr m ρ c 11) _).trans (kern_of (V5 m ρ) (head m c) (visits (codes m c) E) b o _ hn (seen_le _) (fun e => ?_) ?_ (fun j => ?_) (fun j => ?_) (fun j => ?_)
    (fun e j => ?_) (fun j e => ?_) (fun k e o => ?_) (h_ok ρ hA) (d_ok ρ hA) (li_ok ρ hA b hn))
  · exact (congrFun (mid ρ main_call0_v50 (by decide) (by decide)) _).trans ((v50_val (W2 m ρ c) e o).trans (congrFun (a main_arg12 (by decide)) _))
  · exact (congrFun (mid ρ main_call0_v51 (by decide) (by decide)) _).trans ((v51_val (W2 m ρ c) o).trans (congrFun (a main_arg13 (by decide)) _))
  · exact (congrFun (mid ρ main_call0_v46 (by decide) (by decide)) _).trans ((v46_val (W2 m ρ c) j).trans (congrFun (a main_arg7 (by decide)) _))
  · exact (congrFun (mid ρ main_call0_v48 (by decide) (by decide)) _).trans ((v48_val (W2 m ρ c) j).trans (congrFun (a main_arg9 (by decide)) _))
  · exact (congrFun (mid ρ main_call0_v49 (by decide) (by decide)) _).trans ((v49_val (W2 m ρ c) j).trans (congrFun (a main_arg11 (by decide)) _))
  · exact (v56_val (W4 m ρ c) e j).trans ((congrFun (W4_of_ne m ρ c main_call0_v45 (by decide)) _).trans ((v45_val (W2 m ρ c) e j).trans (congrFun (a main_arg6 (by decide)) _)))
  · exact (v57_val (W4 m ρ c) j e).trans ((congrFun (W4_of_ne m ρ c main_call0_v47 (by decide)) _).trans ((v47_val (W2 m ρ c) j e).trans (congrFun (a main_arg8 (by decide)) _)))
  · exact (v55_val (W4 m ρ c) _ o).trans ((congrFun (W4_of_ne m ρ c main_call0_v44 (by decide)) _).trans ((v44_val (W2 m ρ c) k e o).trans (congrFun (a main_arg10 (by decide)) _)))

end Cert.KernelIdeal.Gen
-- ==== Proof.Value.Cumsum.lean ====
module

public import Idealize.ShloMosaic.Lib.Pointwise

@[expose] public section

noncomputable section

namespace Cert.Spec

open Idealize.ShloMosaic

/-- Adding up the places of a window that reaches one's own place from before is adding up the places up to it. -/
theorem slide_sum {K : ℕ} (f : Fin K → EReal) (j : Fin K) :
    (∑ q : Fin K, if h : K - 1 ≤ j.val + q.val then f ⟨j.val + q.val - (K - 1), by omega⟩ else 0) = ∑ k : Fin K, if k ≤ j then f k else 0 := by
  have e : ∀ q : Fin K, (if h : K - 1 ≤ j.val + q.val then f ⟨j.val + q.val - (K - 1), by omega⟩ else 0)
      = if K - 1 ≤ j.val + q.val then f ⟨j.val + q.val - (K - 1), by omega⟩ else 0 := fun q => by split_ifs <;> rfl
  simp only [e]
  rw [← Finset.sum_filter, ← Finset.sum_filter]
  refine Finset.sum_bij' (fun q _ => (⟨j.val + q.val - (K - 1), by omega⟩ : Fin K)) (fun k hk => (⟨k.val + (K - 1) - j.val, by
      have : k ≤ j := (Finset.mem_filter.mp hk).2
      have : k.val ≤ j.val := this
      omega⟩ : Fin K)) ?_ ?_ ?_ ?_ ?_
  · intro q hq
    have h := (Finset.mem_filter.mp hq).2
    exact Finset.mem_filter.mpr ⟨Finset.mem_univ _, show j.val + q.val - (K - 1) ≤ j.val by omega⟩
  · intro k hk
    have h : k.val ≤ j.val := (Finset.mem_filter.mp hk).2
    exact Finset.mem_filter.mpr ⟨Finset.mem_univ _, show K - 1 ≤ j.val + (k.val + (K - 1) - j.val) by omega⟩
  · intro q hq
    have h := (Finset.mem_filter.mp hq).2
    exact Fin.ext (show j.val + q.val - (K - 1) + (K - 1) - j.val = q.val by omega)
  · intro k hk
    have h : k.val ≤ j.val := (Finset.mem_filter.mp hk).2
    exact Fin.ext (show j.val + (k.val + (K - 1) - j.val) - (K - 1) = k.val by omega)
  · intro q hq
    rfl

/-- A window sum over the places up to one's own is the running sum of the row. -/
theorem window_sum {n K : ℕ} {u : Shape} (x : (⟨2, ![n, K]⟩ : Shape).Idx → EReal) (init : u.Idx → EReal) (lo : ℕ) (hlo : lo = K - 1) (h hu)
    (h0 : init (Shape.Idx.first hu) = 0) (b : Fin n) (j : Fin K) :
    Host.reduceWindowAdd (F := Ideal) (φ := .f32) (s := ⟨2, ![n, K]⟩) (t := ⟨2, ![n, K]⟩) (u := u) ![1, K] ![1, 1] ![0, lo] ![0, 0] x init h hu (ix2 b j)
      = ∑ k : Fin K, if k ≤ j then x (ix2 b k) else 0 := by
  subst hlo
  unfold Host.reduceWindowAdd
  rw [Ideal.hostReduceWindowAdd_def, h0, ← slide_sum]
  unfold Ideal.hostReduceWindowAdd Host.reduceWindow
  refine Eq.trans (congrArg (fun g => List.foldl g (0 : EReal) (List.finRange (⟨2, ![1, K]⟩ : Shape).numel)) ?_) ((sum_idx_eq_foldl (⟨2, ![1, K]⟩ : Shape) (fun w => if hin : ∀ a : Fin 2, (![0, K - 1] : Fin 2 → ℕ) a ≤ ((ix2 b j : (⟨2, ![n, K]⟩ : Shape).Idx) a).val * (![1, 1] : Fin 2 → ℕ) a + (w a).val
      ∧ ((ix2 b j : (⟨2, ![n, K]⟩ : Shape).Idx) a).val * (![1, 1] : Fin 2 → ℕ) a + (w a).val - (![0, K - 1] : Fin 2 → ℕ) a < (![n, K] : Fin 2 → ℕ) a
      then x (fun a => ⟨_, (hin a).2⟩) else 0)).symm.trans ?_)
  · funext r w
    dsimp only [Fin.cast]
    congr 1
    exact dite_congr rfl (fun _ => rfl) (fun _ => rfl)
  rw [sum_idx2, Fin.sum_univ_one]
  refine Finset.sum_congr rfl fun q _ => ?_
  by_cases hq : K - 1 ≤ j.val + q.val
  · rw [dif_pos hq, dif_pos]
    · congr 1
      funext a
      fin_cases a
      · exact Fin.ext (by simp)
      · exact Fin.ext (by simp)
    · intro a
      fin_cases a
      · simp
      · simp; omega
  · rw [dif_neg hq, dif_neg]
    intro hin
    have := (hin 1).1
    simp at this
    omega

end Cert.Spec
end
-- ==== Proof.Value.RefGate.lean ====
module

public import proofs.«01_k».proof.Proof.Value.Logit
public import proofs.«01_k».proof.Proof.Value.Cumsum
public import proofs.«01_k».proof.Proof.Gen.ReferenceIdeal.Run
public import Idealize.ShloMosaic.Lib.DynamicIndex
public import Idealize.ShloMosaic.Lib.WordCmp
public import Idealize.ShloMosaic.Lib.Pointwise
public import Idealize.ShloMosaic.Lib.Tactic.CleanTypes

@[expose] public section

set_option maxRecDepth 16384

noncomputable section

namespace Cert.ReferenceIdeal.Value

open Idealize.ShloMosaic Cert.Spec Cert.ReferenceIdeal.Gen

/-- The trip's number is where its visit starts, in an array of three axes. -/
theorem start3 {V0 : Valuation τ sig (Elt Ideal)} {n : ℕ} (hn : n < 512) (hc : V0 (Proc.devRef .tc main_v18_12) = fun _ => BitVec.ofNat 32 n) (k : Fin 3) :
    (((![V0 (Proc.devRef .tc main_v18_12), constantI S_ 32 0#32, constantI S_ 32 0#32] : Fin 3 → (⟨S_, .i32⟩ : BufTy).Contents (Elt Ideal))) k (Shape.Idx.first h_S_)).toInt = ((![n, 0, 0] : Fin 3 → ℕ) k : Int) := by
  fin_cases k
  · show (V0 (Proc.devRef .tc main_v18_12) (Shape.Idx.first h_S_) : BitVec 32).toInt = (n : Int)
    rw [hc]
    exact toInt_ofNat_of_lt (by omega)
  · rfl
  · rfl
/-- The same in an array of two axes. -/
theorem start2 {V0 : Valuation τ sig (Elt Ideal)} {n : ℕ} (hn : n < 512) (hc : V0 (Proc.devRef .tc main_v18_12) = fun _ => BitVec.ofNat 32 n) (k : Fin 2) :
    (((![V0 (Proc.devRef .tc main_v18_12), constantI S_ 32 0#32] : Fin 2 → (⟨S_, .i32⟩ : BufTy).Contents (Elt Ideal))) k (Shape.Idx.first h_S_)).toInt = ((![n, 0] : Fin 2 → ℕ) k : Int) := by
  fin_cases k
  · show (V0 (Proc.devRef .tc main_v18_12) (Shape.Idx.first h_S_) : BitVec 32).toInt = (n : Int)
    rw [hc]
    exact toInt_ofNat_of_lt (by omega)
  · rfl

/-- The visit lies inside the array. -/
theorem fits3 {n : ℕ} (hn : n < 512) : S512x16x128.Slices ![n, 0, 0] S1x16x128 := by
  refine ⟨rfl, fun a => ?_⟩
  fin_cases a
  · show n + 1 ≤ 512
    omega
  · show 0 + 16 ≤ 16
    omega
  · show 0 + 128 ≤ 128
    omega
/-- The same with two axes. -/
theorem fits2 {n : ℕ} (hn : n < 512) : S512x16.Slices ![n, 0] S1x16 := by
  refine ⟨rfl, fun a => ?_⟩
  fin_cases a
  · show n + 1 ≤ 512
    omega
  · show 0 + 16 ≤ 16
    omega

/-- The interval is one. -/
theorem v48_val {V0 : Valuation τ sig (Elt Ideal)} {n : ℕ} (hn : n < 512) (hc : V0 (Proc.devRef .tc main_v18_12) = fun _ => BitVec.ofNat 32 n) (b : Fin 16) :
    (res_main_while0b_v48 V0 : Vec Ideal S16x1 .f32) (ix2 b 0) = (V0 (Proc.devRef .tc main_v18_1) : Vec Ideal S512x16 .f32) (ix2 ⟨n, hn⟩ b) := by
  unfold res_main_while0b_v48
  clean_types
  rw [Host.dynamicSlice_eq_extractStridedSlice (s := S512x16) S1x16 _ _ ![n, 0] _ (fits2 hn) ?_]
  · pointwise
  · exact start2 hn hc
/-- What the loop carries after `n` visits. -/
structure VOk (V0 : Valuation τ sig (Elt Ideal)) (P : Par) (xs : Fin 16 → ℕ → Fin 128 → ℝ) (n : ℕ) : Prop where
  ctr : V0 (Proc.devRef .tc main_v18_12) = fun _ => BitVec.ofNat 32 n
  x : ∀ t b d, (V0 (Proc.devRef .tc main_v18_0) : Vec Ideal S512x16x128 .f32) (ix3 t b d) = ((xs b t.val d : ℝ) : EReal)
  one : ∀ t b, (V0 (Proc.devRef .tc main_v18_1) : Vec Ideal S512x16 .f32) (ix2 t b) = (1 : EReal)
  kW : ∀ j d, (V0 (Proc.devRef .tc main_v18_2) : Vec Ideal S1542x129 .f32) (ix2 j d) = ((P.kW j d : ℝ) : EReal)
  kb : ∀ j, (V0 (Proc.devRef .tc main_v18_3) : Vec Ideal S1542 .f32) (ix1 j) = ((P.kb j : ℝ) : EReal)
  rW : ∀ j e, (V0 (Proc.devRef .tc main_v18_4) : Vec Ideal S1542x385 .f32) (ix2 j e) = ((P.rW j e : ℝ) : EReal)
  rb : ∀ j, (V0 (Proc.devRef .tc main_v18_5) : Vec Ideal S1542 .f32) (ix1 j) = ((P.rb j : ℝ) : EReal)
  c : ∀ b e, (V0 (Proc.devRef .tc main_v18_13) : Vec Ideal S16x384 .f32) (ix2 b e) = (((P.state (xs b) n).c e : ℝ) : EReal)
  h : ∀ b e, (V0 (Proc.devRef .tc main_v18_14) : Vec Ideal S16x384 .f32) (ix2 b e) = (((P.state (xs b) n).h e : ℝ) : EReal)
  hist : ∀ k b e, (V0 (Proc.devRef .tc main_v18_15) : Vec Ideal S10x16x384 .f32) (ix3 k b e) = ((P.hist (xs b) n k e : ℝ) : EReal)
  d : ∀ k b, (V0 (Proc.devRef .tc main_v18_16) : Vec Ideal S10x16 .f32) (ix2 k b) = (((P.state (xs b) n).d k : ℝ) : EReal)

/-- The gates' inputs at visit `n`. -/
def gate (P : Par) (xs : Fin 16 → ℕ → Fin 128 → ℝ) (n : ℕ) (b : Fin 16) : Fin 1542 → ℝ := P.pre (xs b n) (P.state (xs b) n).h

/-- The gates before their nonlinearity. -/
theorem v61_ok {V0 : Valuation τ sig (Elt Ideal)} {P : Par} {xs : Fin 16 → ℕ → Fin 128 → ℝ} {n : ℕ} (hn : n < 512) (hV : VOk V0 P xs n) (b : Fin 16) (j : Fin 1542) :
    (res_main_while0b_v61 V0 : Vec Ideal S16x1542 .f32) (ix2 b j) = ((gate P xs n b j : ℝ) : EReal) := by
  unfold res_main_while0b_v61
  clean_types
  rw [Host.dynamicSlice_eq_extractStridedSlice (s := S512x16x128) S1x16x128 _ _ ![n, 0, 0] _ (fits3 hn) ?_]
  · pointwise
    simp only [v48_val hn hV.ctr, hV.x, hV.one, hV.kW, hV.kb, hV.rW, hV.rb, hV.h, one_mul, ← EReal.coe_mul, sum_coe, ← EReal.coe_add]
    congr 1
    simp only [Finset.univ_unique, Finset.sum_singleton]
    unfold gate Par.pre Par.bias
    ring
  · exact start3 hn hV.ctr

/-- The largest of a printed maximum over a row of reals is a real. -/
theorem row_max {K : ℕ} (hK : 0 < K) (f : (⟨2, ![16, K]⟩ : Shape).Idx → EReal) (hf : ∀ i, ∃ r : ℝ, f i = (r : EReal)) (drop : (⟨2, ![16, K]⟩ : Shape).Idx → S16.Idx) (b : Fin 16)
    (hd : drop (ix2 b ⟨0, hK⟩) = ix1 b) :
    ∃ r : ℝ, max (Ideal.ofBits FTy.f32 4286578688#32) (Finset.fold max (Ideal.ofBits FTy.f32 4286578688#32) f {i | drop i = ix1 b}) = (r : EReal) := by
  obtain ⟨r, hr⟩ := fold_real ({i | drop i = ix1 b} : Finset _) ⟨ix2 b ⟨0, hK⟩, Finset.mem_filter.2 ⟨Finset.mem_univ _, hd⟩⟩ f (fun i _ => hf i) _ lowest
  refine ⟨r, ?_⟩
  rw [hr]
  have e : Ideal.ofBits FTy.f32 4286578688#32 = ⊥ := lowest
  rw [e]
  simp

/-- A printed softmax over the rows of reals. -/
theorem soft_row {K : ℕ} (x : (⟨2, ![16, K]⟩ : Shape).Idx → EReal) (v : Fin 16 → Fin K → ℝ) (hx : ∀ b, ∃ r : ℝ, ∀ k, x (ix2 b k) = Ideal.exp (((v b k : ℝ) : EReal) - (r : EReal))) (b : Fin 16) (k : Fin K) :
    Ideal.div (x (ix2 b k)) (∑ m, x (ix2 b m)) = ((soft (v b) k : ℝ) : EReal) := by
  obtain ⟨r, hr⟩ := hx b
  simp only [hr]
  exact soft_coe (v b) _ ⟨r, rfl⟩ k

variable {V0 : Valuation τ sig (Elt Ideal)} {Z : Fin 16 → Fin 1542 → ℝ} (hz : ∀ b j, (res_main_while0b_v61 V0 : Vec Ideal S16x1542 .f32) (ix2 b j) = ((Z b j : ℝ) : EReal))
include hz

/-- The exponentials of the first softmax, some real taken off. -/
theorem v69_ok (b : Fin 16) : ∃ r : ℝ, ∀ j : Fin 3, (res_main_while0b_v69 V0 : Vec Ideal S16x3 .f32) (ix2 b j) = Ideal.exp (((Z b ⟨j.val, by omega⟩ : ℝ) : EReal) - (r : EReal)) := by
  obtain ⟨r, hr⟩ := row_max (K := 3) (by omega) (fun x => (res_main_while0b_v61 V0 : Vec Ideal S16x1542 .f32) (ix2 (x 0) ⟨(x 1).val, by have := (x 1).isLt; have e : (⟨2, ![16, 3]⟩ : Shape).size 1 = 3 := rfl; omega⟩))
    (fun i => ⟨_, hz _ _⟩) reducesTo_S16x3_S16_d1.drop b (by funext a; fin_cases a; rfl)
  refine ⟨r, fun j => ?_⟩
  clean_types
  pointwise [res_main_while0b_v69, res_main_while0b_v62]
  rw [hz]
  exact congrArg (fun q => Ideal.exp (_ - q)) hr

/-- The first master gate. -/
theorem v75_ok (b : Fin 16) (j : Fin 3) : (res_main_while0b_v75 V0 : Vec Ideal S16x3x1 .f32) (ix3 b j 0) = ((fm (Z b) j : ℝ) : EReal) := by
  clean_types
  pointwise [res_main_while0b_v75]
  rw [window_sum (n := 16) (K := 3) _ _ 2 rfl _ _ (by pointwise)]
  unfold fm
  rw [← sum_coe]
  refine Finset.sum_congr rfl fun k _ => ?_
  by_cases h : k ≤ j
  · rw [if_pos h, if_pos h]
    pointwise
    exact soft_row (K := 3) _ (fun b a => Z b ⟨a.val, by omega⟩) (v69_ok hz) b k
  · rw [if_neg h, if_neg h, EReal.coe_zero]

/-- The exponentials of the second softmax, from the last entry to the first. -/
theorem v84_ok (b : Fin 16) : ∃ r : ℝ, ∀ j : Fin 3, (res_main_while0b_v84 V0 : Vec Ideal S16x3 .f32) (ix2 b j) = Ideal.exp (((Z b ⟨3 + j.rev.val, by omega⟩ : ℝ) : EReal) - (r : EReal)) := by
  obtain ⟨r, hr⟩ := row_max (K := 3) (by omega) (fun x => (res_main_while0b_v61 V0 : Vec Ideal S16x1542 .f32) (ix2 (x 0) ⟨3 + (Fin.rev (x 1)).val, by have := (Fin.rev (x 1)).isLt; have e : (⟨2, ![16, 3]⟩ : Shape).size 1 = 3 := rfl; omega⟩))
    (fun i => ⟨_, hz _ _⟩) reducesTo_S16x3_S16_d1.drop b (by funext a; fin_cases a; rfl)
  refine ⟨r, fun j => ?_⟩
  clean_types
  pointwise [res_main_while0b_v84, res_main_while0b_v77]
  refine (congrArg Ideal.exp (congrArg₂ (fun a b => a - b) ?_ hr))
  exact hz b _

/-- The second master gate. -/
theorem v91_ok (b : Fin 16) (j : Fin 3) : (res_main_while0b_v91 V0 : Vec Ideal S16x3x1 .f32) (ix3 b j 0) = ((im (Z b) j : ℝ) : EReal) := by
  clean_types
  pointwise [res_main_while0b_v91]
  refine (window_sum (n := 16) (K := 3) _ _ 2 rfl _ _ (by pointwise) b j.rev).trans ?_
  unfold im
  rw [← sum_coe]
  refine Fintype.sum_equiv Fin.revPerm _ _ fun k => ?_
  have hk : (j ≤ Fin.revPerm k) ↔ k ≤ j.rev := by
    rw [Fin.revPerm_apply, Fin.le_rev_iff]
  by_cases h : k ≤ j.rev
  · rw [if_pos h, if_pos (hk.2 h)]
    pointwise
    refine (soft_row (K := 3) _ (fun b a => Z b ⟨3 + a.rev.val, by omega⟩) (v84_ok hz) b k).trans ?_
    congr 1
    unfold soft
    rw [Fin.revPerm_apply]
    congr 1
    exact Fintype.sum_equiv Fin.revPerm _ _ fun k => rfl
  · rw [if_neg h, if_neg (fun q => h (hk.1 q)), EReal.coe_zero]

/-- The new cell, level by level. -/
theorem v131_ok {c : Fin 16 → Fin 384 → ℝ} (hc : ∀ b e, (V0 (Proc.devRef .tc main_v18_13) : Vec Ideal S16x384 .f32) (ix2 b e) = ((c b e : ℝ) : EReal)) (b : Fin 16) (j : Fin 3) (e : Fin 128) :
    (res_main_while0b_v131 V0 : Vec Ideal S16x3x128 .f32) (ix3 b j e) = ((newC (Z b) (c b) ⟨j.val * 128 + e.val, by omega⟩ : ℝ) : EReal) := by
  clean_types
  pointwise [res_main_while0b_v131, res_main_while0b_v118, res_main_while0b_v117, res_main_while0b_v116, res_main_while0b_v93]
  rw [v75_ok hz, v91_ok hz, hz, hz, hz, hc, cell_coe']
  have e0 : lev ⟨j.val * 128 + e.val, by omega⟩ = j := Fin.ext (by show (j.val * 128 + e.val) / 128 = j.val; omega)
  unfold newC
  rw [e0]
  congr 4
  · exact Fin.ext (by show 6 + ((3 + j.val) * 128 + e.val) = 390 + (j.val * 128 + e.val); omega)
  · exact Fin.ext (by show 6 + ((9 + j.val) * 128 + e.val) = 1158 + (j.val * 128 + e.val); omega)

/-- The new hidden state. -/
theorem v135_ok {c : Fin 16 → Fin 384 → ℝ} (hc : ∀ b e, (V0 (Proc.devRef .tc main_v18_13) : Vec Ideal S16x384 .f32) (ix2 b e) = ((c b e : ℝ) : EReal)) (b : Fin 16) (e : Fin 384) :
    (res_main_while0b_v135 V0 : Vec Ideal S16x384 .f32) (ix2 b e) = ((newH (Z b) (c b) e : ℝ) : EReal) := by
  clean_types
  pointwise [res_main_while0b_v135, res_main_while0b_v93]
  rw [v131_ok hz hc, hz]
  refine (hid_coe _ _).trans ?_
  unfold newH
  congr 3
  · exact congrArg (fun q => Z b q) (Fin.ext (by show 6 + ((6 + e.val / 128) * 128 + e.val % 128) = 774 + e.val; omega))
  · exact congrArg (fun q => newC (Z b) (c b) q) (Fin.ext (by show e.val / 128 * 128 + e.val % 128 = e.val; omega))

end Cert.ReferenceIdeal.Value
-- ==== Proof.Value.RefRow.lean ====
module

public import proofs.«01_k».proof.Proof.Value.RefGate

@[expose] public section

set_option maxRecDepth 16384

noncomputable section

namespace Cert.ReferenceIdeal.Value

open Idealize.ShloMosaic Cert.Spec Cert.ReferenceIdeal.Gen

/-- The printed three. -/
theorem three_val : Ideal.ofBits .f32 1077936128#32 = ((3 : ℝ) : EReal) := by
  simp [Ideal.ofBits, Ideal.ieee, -EReal.coe_mul]; norm_num

/-- The printed ten. -/
theorem ten_val : Ideal.ofBits .f32 1092616192#32 = ((10 : ℝ) : EReal) := by
  simp [Ideal.ofBits, Ideal.ieee, -EReal.coe_mul]; norm_num

variable {V0 : Valuation τ sig (Elt Ideal)} {P : Par} {xs : Fin 16 → ℕ → Fin 128 → ℝ} {n : ℕ} (hn : n < 512) (hV : VOk V0 P xs n)
include hn hV

/-- The last ten hidden states. -/
theorem v147_ok (k : Fin 10) (b : Fin 16) (e : Fin 384) : (res_main_while0b_v147 V0 : Vec Ideal S10x16x384 .f32) (ix3 k b e) = ((P.hist (xs b) (n + 1) k e : ℝ) : EReal) := by
  unfold res_main_while0b_v147 res_main_while0b_v144 res_main_while0b_v137
  clean_types
  pointwise
  by_cases h : k.val < 9
  · rw [dif_pos h, hV.hist]
    unfold Par.hist
    rw [show n + (⟨1 + k.val, by omega⟩ : Fin 10).val = n + 1 + k.val from by show n + (1 + k.val) = _; omega]
  · rw [dif_neg h]
    refine (v135_ok (v61_ok hn hV) hV.c b e).trans ?_
    unfold Par.hist
    rw [if_pos (by omega), show n + 1 + k.val - 9 = n + 1 from by omega]
    rfl

/-- The last ten distances. -/
theorem v150_ok (k : Fin 10) (b : Fin 16) : (res_main_while0b_v150 V0 : Vec Ideal S10x16 .f32) (ix2 k b) = (((P.state (xs b) (n + 1)).d k : ℝ) : EReal) := by
  unfold res_main_while0b_v150 res_main_while0b_v137
  clean_types
  pointwise
  show _ = (((P.step (xs b n) (P.state (xs b) n)).d k : ℝ) : EReal)
  by_cases h : k.val < 9
  · refine Eq.trans ?_ (congrArg _ (dif_pos h).symm)
    rw [dif_pos h, hV.d]
  · refine Eq.trans ?_ (congrArg _ (dif_neg h).symm)
    rw [dif_neg h, three_val, Ideal.div_coe (by norm_num)]
    simp only [v75_ok (v61_ok hn hV), sum_coe]
    rw [← EReal.coe_one, ← EReal.coe_mul, ← EReal.coe_sub, mul_one_div]
    rfl

/-- Their running sums. -/
theorem v152_ok (b : Fin 16) (k : Fin 10) : (res_main_while0b_v152 V0 : Vec Ideal S16x10 .f32) (ix2 b k) = ((cums (P.state (xs b) (n + 1)).d k : ℝ) : EReal) := by
  unfold res_main_while0b_v152
  clean_types
  refine (window_sum (n := 16) (K := 10) _ _ 9 rfl _ _ (by pointwise) b k).trans ?_
  unfold cums
  rw [← sum_coe]
  refine Finset.sum_congr rfl fun j _ => ?_
  by_cases h : j ≤ k
  · rw [if_pos h, if_pos h]
    pointwise
    exact v150_ok hn hV j b
  · rw [if_neg h, if_neg h, EReal.coe_zero]

/-- The exponentials of the window's softmax, some real taken off. -/
theorem v159_ok (b : Fin 16) : ∃ r : ℝ, ∀ k : Fin 10, (res_main_while0b_v159 V0 : Vec Ideal S16x10 .f32) (ix2 b k) = Ideal.exp (((cums (P.state (xs b) (n + 1)).d k : ℝ) : EReal) - (r : EReal)) := by
  obtain ⟨r, hr⟩ := fold_real Finset.univ ⟨(0 : Fin 10), Finset.mem_univ _⟩ (fun k : Fin 10 => (res_main_while0b_v152 V0 : Vec Ideal S16x10 .f32) (ix2 b k)) (fun k _ => ⟨_, v152_ok hn hV b k⟩) _ lowest
  refine ⟨r, fun k => ?_⟩
  unfold res_main_while0b_v159
  clean_types
  pointwise
  rw [v152_ok hn hV]
  refine congrArg (fun q => Ideal.exp (_ - q)) ((congrArg _ hr).trans ?_)
  rw [show Ideal.ofBits FTy.f32 4286578688#32 = ⊥ from lowest]
  simp

/-- The weighted hidden states. -/
theorem v167_ok (b : Fin 16) (e : Fin 384) (k : Fin 10) : (res_main_while0b_v167 V0 : Vec Ideal S16x384x10 .f32) (ix3 b e k)
    = ((P.hist (xs b) (n + 1) k e : ℝ) : EReal) * ((dis (P.state (xs b) (n + 1)) k : ℝ) : EReal) := by
  unfold res_main_while0b_v167
  clean_types
  pointwise
  rw [v147_ok hn hV]
  congr 1
  exact soft_row (K := 10) _ (fun b => cums (P.state (xs b) (n + 1)).d) (v159_ok hn hV) b k

omit hn hV in
/-- The loop's row of the second stack, of the ten scaled hidden states. -/
def rowOf (hs : FVec Ideal S16x384x10 .f32) (sw : FVec Ideal S64x384 .f32) (sb : FVec Ideal S64 .f32) (rw : FVec Ideal S384x64 .f32) (rb : FVec Ideal S384 .f32) (cw : FVec Ideal S384x384x10 .f32) (cb : FVec Ideal S384 .f32) : FVec Ideal S16x384 .f32 :=
  (mulf (Host.divf (broadcastInDim S16x384 ![] bcast_S_S16x384 (constant S_ .f32 0x3F800000#32)) (addf (broadcastInDim S16x384 ![] bcast_S_S16x384 (constant S_ .f32 0x3F800000#32)) (Host.exp (Host.negf (addf (Host.dotGeneral dot_S16x64_S64x384_S16x384_1_0_0_1_n_n none (maximumf (addf (Host.dotGeneral dot_S16x384_S384x64_S16x64_1_0_0_1_n_n none (Host.divf (Host.reduceAdd hs (constant S_ .f32 0x00000000#32) reducesTo_S16x384x10_S16x384_d2 h_S_) (broadcastInDim S16x384 ![] bcast_S_S16x384 (constant S_ .f32 0x41200000#32))) (transpose S384x64 [1, 0] sw transposes_S64x384_S384x64_1_0)) (broadcastInDim S16x64 ![0, 1] bcast_S1x64_S16x64_0_1 (broadcastInDim S1x64 ![1] bcast_S64_S1x64_1 sb))) (broadcastInDim S16x64 ![] bcast_S_S16x64 (constant S_ .f32 0x00000000#32))) (transpose S64x384 [1, 0] rw transposes_S384x64_S64x384_1_0)) (broadcastInDim S16x384 ![0, 1] bcast_S1x384_S16x384_0_1 (broadcastInDim S1x384 ![1] bcast_S384_S1x384_1 rb))))))) (addf (Host.dotGeneral dot_S16x384x10_S384x384x10_S16x384_12_12_0_0_n_n none hs cw) (broadcastInDim S16x384 ![0, 1] bcast_S1x384_S16x384_0_1 (broadcastInDim S1x384 ![1] bcast_S384_S1x384_1 cb))))

omit hn hV in
/-- The window's parameters as the loop carries them. -/
structure HOk (V0 : Valuation τ sig (Elt Ideal)) (H : Head) : Prop where
  sw : ∀ j e, (V0 (Proc.devRef .tc main_v18_6) : Vec Ideal S64x384 .f32) (ix2 j e) = H.sw j e
  sb : ∀ j, (V0 (Proc.devRef .tc main_v18_7) : Vec Ideal S64 .f32) (ix1 j) = H.sb j
  rw : ∀ o j, (V0 (Proc.devRef .tc main_v18_8) : Vec Ideal S384x64 .f32) (ix2 o j) = H.rw o j
  rb : ∀ o, (V0 (Proc.devRef .tc main_v18_9) : Vec Ideal S384 .f32) (ix1 o) = H.rb o
  cw : ∀ o e k, (V0 (Proc.devRef .tc main_v18_10) : Vec Ideal S384x384x10 .f32) (ix3 o e k) = H.cw o e k
  cb : ∀ o, (V0 (Proc.devRef .tc main_v18_11) : Vec Ideal S384 .f32) (ix1 o) = H.cb o

omit hn hV in
theorem row_at (hs : FVec Ideal S16x384x10 .f32) (sw : FVec Ideal S64x384 .f32) (sb : FVec Ideal S64 .f32) (rw : FVec Ideal S384x64 .f32) (rb : FVec Ideal S384 .f32) (cw : FVec Ideal S384x384x10 .f32) (cb : FVec Ideal S384 .f32) (b : Fin 16) (o : Fin 384) :
    rowOf hs sw sb rw rb cw cb (ix2 b o) = Spec.window (fun k e => hs (ix3 b e k)) (fun k e o => cw (ix3 o e k)) (fun e j => sw (ix2 j e)) (fun j => sb (ix1 j)) (fun j o => rw (ix2 o j)) (fun o => rb (ix1 o)) (fun o => cb (ix1 o)) o := by
  unfold rowOf
  pointwise
  rw [ten_val]
  simp only [Ideal.div_coe (show (10 : ℝ) ≠ 0 by norm_num)]
  rw [Finset.sum_comm]
  rfl

/-- The window's output is the model's. -/
theorem row_ok {H : Head} (hH : HOk V0 H) (b : Fin 16) (o : Fin 384) : rowOf (res_main_while0b_v167 V0) (V0 (Proc.devRef .tc main_v18_6)) (V0 (Proc.devRef .tc main_v18_7)) (V0 (Proc.devRef .tc main_v18_8))
    (V0 (Proc.devRef .tc main_v18_9)) (V0 (Proc.devRef .tc main_v18_10)) (V0 (Proc.devRef .tc main_v18_11)) (ix2 b o) = H.win P (xs b) (n + 1) o := by
  refine (row_at _ _ _ _ _ _ _ b o).trans ?_
  unfold Head.win
  congr 1
  · funext k e; exact v167_ok hn hV b e k
  · funext k e o; exact hH.cw o e k
  · funext e j; exact hH.sw j e
  · funext j; exact hH.sb j
  · funext j o; exact hH.rw o j
  · funext o; exact hH.rb o
  · funext o; exact hH.cb o

omit hn hV in
theorem step18_row : step_main_v18_18 V0 = Host.dynamicUpdateSlice (V0 (Proc.devRef .tc main_v18_18)) (broadcastInDim S1x16x384 ![1, 2] bcast_S16x384_S1x16x384_1_2
    (rowOf (res_main_while0b_v167 V0) (V0 (Proc.devRef .tc main_v18_6)) (V0 (Proc.devRef .tc main_v18_7)) (V0 (Proc.devRef .tc main_v18_8))
    (V0 (Proc.devRef .tc main_v18_9)) (V0 (Proc.devRef .tc main_v18_10)) (V0 (Proc.devRef .tc main_v18_11)))) (fun k => (((![V0 (Proc.devRef .tc main_v18_12), constantI S_ 32 0#32, constantI S_ 32 0#32] : Fin 3 → (⟨S_, .i32⟩ : BufTy).Contents (Elt Ideal))) k (Shape.Idx.first h_S_)).toInt) updateFits_S512x16x384_S1x16x384 := rfl

end Cert.ReferenceIdeal.Value
-- ==== Proof.Value.RefLoop.lean ====
module

public import proofs.«01_k».proof.Proof.Value.RefRow

@[expose] public section

set_option maxRecDepth 16384

noncomputable section

namespace Cert.ReferenceIdeal.Value

open Idealize.ShloMosaic Cert.Spec Cert.ReferenceIdeal.Gen

/-- A row written to a stack at place `n`: that place holds the row, the others what they held. -/
theorem stack_at {α : Type} (x : S512x16x384.Idx → α) (row : S1x16x384.Idx → α) (st : Fin 3 → ℤ) {n : ℕ} (hn : n < 512) (hst : ∀ k, st k = (((![n, 0, 0] : Fin 3 → ℕ) k : ℕ) : ℤ)) (hu)
    (t : Fin 512) (b : Fin 16) (e : Fin 384) :
    Host.dynamicUpdateSlice x row st hu (ix3 t b e) = if t.val = n then row (ix3 0 b e) else x (ix3 t b e) := by
  have hk : S512x16x384.Slices ![n, 0, 0] S1x16x384 := by
    refine ⟨rfl, fun a => ?_⟩
    fin_cases a
    · show n + 1 ≤ 512
      omega
    · show 0 + 16 ≤ 16
      omega
    · show 0 + 384 ≤ 384
      omega
  rw [Idealize.ShloMosaic.WordCmp.dynamicUpdateSlice_eq_update (s := S512x16x384) x row st hu ![n, 0, 0] hk hst]
  unfold updateSlice
  by_cases h : t.val = n
  · rw [if_pos h, dif_pos]
    · congr 1
      funext a
      fin_cases a
      · exact Fin.ext (by show t.val - n = 0; omega)
      · rfl
      · rfl
    · intro a
      fin_cases a
      · exact ⟨by show n ≤ t.val; omega, by show t.val < n + 1; omega⟩
      · exact ⟨Nat.zero_le _, by show b.val < 0 + 16; omega⟩
      · exact ⟨Nat.zero_le _, by show e.val < 0 + 384; omega⟩
  · rw [if_neg h, dif_neg]
    intro q
    have q0 : n ≤ t.val ∧ t.val < n + 1 := q 0
    omega

/-- What the loop carries after `n` visits, the two stacks among it. -/
structure LOk (V0 : Valuation τ sig (Elt Ideal)) (P : Par) (xs : Fin 16 → ℕ → Fin 128 → ℝ) (H : Head) (n : ℕ) : Prop where
  v : VOk V0 P xs n
  h : HOk V0 H
  hid : ∀ (t : Fin 512) b e, t.val < n → (V0 (Proc.devRef .tc main_v18_17) : Vec Ideal S512x16x384 .f32) (ix3 t b e) = (((P.state (xs b) (t.val + 1)).h e : ℝ) : EReal)
  win : ∀ (t : Fin 512) b e, t.val < n → (V0 (Proc.devRef .tc main_v18_18) : Vec Ideal S512x16x384 .f32) (ix3 t b e) = H.win P (xs b) (t.val + 1) e

variable {V0 : Valuation τ sig (Elt Ideal)} {P : Par} {xs : Fin 16 → ℕ → Fin 128 → ℝ} {H : Head} {n : ℕ}

/-- The model's next cell. -/
theorem next_c (b : Fin 16) : (P.state (xs b) (n + 1)).c = newC (gate P xs n b) (P.state (xs b) n).c := rfl

/-- The model's next hidden state. -/
theorem next_h (b : Fin 16) : (P.state (xs b) (n + 1)).h = newH (gate P xs n b) (P.state (xs b) n).c := rfl

/-- The cell after a trip. -/
theorem step_c (hn : n < 512) (hV : VOk V0 P xs n) (b : Fin 16) (e : Fin 384) : (step_main_v18_13 V0 : Vec Ideal S16x384 .f32) (ix2 b e) = (((P.state (xs b) (n + 1)).c e : ℝ) : EReal) := by
  rw [next_c]
  unfold step_main_v18_13 id
  clean_types
  pointwise
  have q := v131_ok (c := fun b => (P.state (xs b) n).c) (v61_ok hn hV) hV.c b ⟨e.val / 128, by omega⟩ ⟨e.val % 128, by omega⟩
  refine Eq.trans q ?_
  rw [show (⟨(⟨e.val / 128, by omega⟩ : Fin 3).val * 128 + (⟨e.val % 128, by omega⟩ : Fin 128).val, by omega⟩ : Fin 384) = e from Fin.ext (by show e.val / 128 * 128 + e.val % 128 = e.val; omega)]

/-- The hidden state after a trip. -/
theorem step_h (hn : n < 512) (hV : VOk V0 P xs n) (b : Fin 16) (e : Fin 384) : (step_main_v18_14 V0 : Vec Ideal S16x384 .f32) (ix2 b e) = (((P.state (xs b) (n + 1)).h e : ℝ) : EReal) := by
  rw [next_h]
  unfold step_main_v18_14
  exact v135_ok (v61_ok hn hV) hV.c b e

/-- A trip takes the recurrence one visit further. -/
theorem step_v (hn : n < 512) (hV : VOk V0 P xs n) : VOk (STEP V0) P xs (n + 1) where
  ctr := by
    rw [STEP_main_v18_12]
    unfold step_main_v18_12
    rw [hV.ctr]
    funext i
    show BitVec.ofNat 32 n + 1#32 = BitVec.ofNat 32 (n + 1)
    rw [BitVec.ofNat_add]
  x := by rw [STEP_main_v18_0]; exact hV.x
  one := by rw [STEP_main_v18_1]; exact hV.one
  kW := by rw [STEP_main_v18_2]; exact hV.kW
  kb := by rw [STEP_main_v18_3]; exact hV.kb
  rW := by rw [STEP_main_v18_4]; exact hV.rW
  rb := by rw [STEP_main_v18_5]; exact hV.rb
  c := by
    intro b e
    rw [STEP_main_v18_13]
    exact step_c hn hV b e
  h := by
    intro b e
    rw [STEP_main_v18_14]
    exact step_h hn hV b e
  hist := by rw [STEP_main_v18_15]; unfold step_main_v18_15; exact v147_ok hn hV
  d := by rw [STEP_main_v18_16]; unfold step_main_v18_16; exact v150_ok hn hV

/-- A trip takes all that the loop carries one visit further. -/
theorem step_l (hn : n < 512) (hL : LOk V0 P xs H n) : LOk (STEP V0) P xs H (n + 1) where
  v := step_v hn hL.v
  h := {
    sw := by rw [STEP_main_v18_6]; exact hL.h.sw
    sb := by rw [STEP_main_v18_7]; exact hL.h.sb
    rw := by rw [STEP_main_v18_8]; exact hL.h.rw
    rb := by rw [STEP_main_v18_9]; exact hL.h.rb
    cw := by rw [STEP_main_v18_10]; exact hL.h.cw
    cb := by rw [STEP_main_v18_11]; exact hL.h.cb }
  hid := by
    intro t b e ht
    rw [STEP_main_v18_17]
    unfold step_main_v18_17
    clean_types
    refine (stack_at _ _ _ hn (start3 hn hL.v.ctr) _ t b e).trans ?_
    by_cases h : t.val = n
    · rw [if_pos h, h]
      unfold res_main_while0b_v144 res_main_while0b_v137
      pointwise
      rw [next_h]
      exact v135_ok (v61_ok hn hL.v) hL.v.c b e
    · rw [if_neg h]
      exact hL.hid t b e (by omega)
  win := by
    intro t b e ht
    rw [STEP_main_v18_18, step18_row]
    refine (stack_at _ _ _ hn (start3 hn hL.v.ctr) _ t b e).trans ?_
    by_cases h : t.val = n
    · rw [if_pos h, h]
      refine Eq.trans ?_ (row_ok hn hL.v hL.h b e)
      generalize rowOf _ _ _ _ _ _ _ = r
      pointwise
    · rw [if_neg h]
      exact hL.win t b e (by omega)

/-- So after any number of trips. -/
theorem loop_ok (h0 : LOk V0 P xs H 0) : ∀ n, n ≤ 512 → LOk (STEP^[n] V0) P xs H n
  | 0, _ => h0
  | n + 1, hn => by
    rw [Function.iterate_succ_apply']
    exact step_l (by omega) (loop_ok h0 n (by omega))

end Cert.ReferenceIdeal.Value
-- ==== Proof.Value.RefEntry.lean ====
module

public import proofs.«01_k».proof.Proof.Value.RefLoop
public import Idealize.ShloMosaic.Lib.StableHlo.ReadAt
public import Idealize.ShloMosaic.Lib.Routing.OpsOrder

@[expose] public section

set_option maxRecDepth 16384

noncomputable section

namespace Cert.ReferenceIdeal.Value

open Idealize.ShloMosaic Cert.Spec Cert.ReferenceIdeal.Gen

/-- The arguments, read: the codes, the tables as reals, and the weights after the recurrence. -/
structure ROk (V : Valuation τ sig (Elt Ideal)) (cd : Fin 16 → Fin 512 → Fin 2048 → BitVec 32) (E : Fin 2048 → Fin 128 → ℝ) (P : Par) (H : Head) : Prop where
  cd : ∀ b t v, (V (Proc.devRef .tc main_arg0) : IVec S16x512x2048 32) (ix3 b t v) = cd b t v
  emb : ∀ v d, (V (Proc.devRef .tc main_arg1) : Vec Ideal S2048x128 .f32) (ix2 v d) = ((E v d : ℝ) : EReal)
  kW : ∀ j d, (V (Proc.devRef .tc main_arg2) : Vec Ideal S1542x129 .f32) (ix2 j d) = ((P.kW j d : ℝ) : EReal)
  kb : ∀ j, (V (Proc.devRef .tc main_arg3) : Vec Ideal S1542 .f32) (ix1 j) = ((P.kb j : ℝ) : EReal)
  rW : ∀ j e, (V (Proc.devRef .tc main_arg4) : Vec Ideal S1542x385 .f32) (ix2 j e) = ((P.rW j e : ℝ) : EReal)
  rb : ∀ j, (V (Proc.devRef .tc main_arg5) : Vec Ideal S1542 .f32) (ix1 j) = ((P.rb j : ℝ) : EReal)
  sw : ∀ j e, (V (Proc.devRef .tc main_arg6) : Vec Ideal S64x384 .f32) (ix2 j e) = H.sw j e
  sb : ∀ j, (V (Proc.devRef .tc main_arg7) : Vec Ideal S64 .f32) (ix1 j) = H.sb j
  rw : ∀ o j, (V (Proc.devRef .tc main_arg8) : Vec Ideal S384x64 .f32) (ix2 o j) = H.rw o j
  rbb : ∀ o, (V (Proc.devRef .tc main_arg9) : Vec Ideal S384 .f32) (ix1 o) = H.rb o
  cw : ∀ o e k, (V (Proc.devRef .tc main_arg10) : Vec Ideal S384x384x10 .f32) (ix3 o e k) = H.cw o e k
  cb : ∀ o, (V (Proc.devRef .tc main_arg11) : Vec Ideal S384 .f32) (ix1 o) = H.cb o

/-- The bit that some entry is not zero. -/
theorem any_bit {n : ℕ} (f : Fin n → ℝ) [Decidable (∃ d, f d ≠ 0)] :
    Finset.univ.fold IntOp.ori (0#1) (fun d => BitVec.ofBool (decide (((f d : ℝ) : EReal) ≠ 0))) = if ∃ d, f d ≠ 0 then 1#1 else 0#1 := by
  by_cases h : ∃ d, f d ≠ 0
  · rw [if_pos h]
    obtain ⟨d, hd⟩ := h
    refine (Routing.fold_ori _ _).2 ⟨d, Finset.mem_univ _, ?_⟩
    have q : ((f d : ℝ) : EReal) ≠ 0 := fun q => hd (EReal.coe_eq_zero.1 q)
    simp [q]
  · rw [if_neg h]
    refine (BitVec.eq_zero_or_eq_one _).resolve_right fun q => ?_
    obtain ⟨d, -, hd⟩ := (Routing.fold_ori _ _).1 q
    refine h ⟨d, fun e => ?_⟩
    rw [e] at hd
    simp at hd

/-- One code's part of an embedding. -/
theorem part_at (w : BitVec 32) (r : ℝ) : FloatOps.uitofp (F := Ideal) FTy.f32 (IntOp.cmpi CmpIPredicate.eq w 1#32) * ((r : ℝ) : EReal) = (((if w = 1#32 then 1 else 0) * r : ℝ) : EReal) := by
  rw [EReal.coe_mul]
  congr 1
  by_cases h : w = 1#32
  · rw [if_pos h, h]
    show (((1 : ℕ) : ℝ) : EReal) = _
    norm_num
  · rw [if_neg h]
    have e : IntOp.cmpi CmpIPredicate.eq w 1#32 = 0#1 := by
      show BitVec.ofBool (w == 1#32) = 0#1
      rw [beq_eq_false_iff_ne.2 h]; rfl
    rw [e]
    show (((0 : ℕ) : ℝ) : EReal) = _
    norm_num

/-- The patient of a row of the flattened visits. -/
theorem row_no (b : Fin 16) (t : Fin 512) (h) : (⟨(b.val * 512 + t.val) / 512, h⟩ : Fin 16) = b := Fin.ext (by show (b.val * 512 + t.val) / 512 = b.val; omega)
/-- The visit of a row of the flattened visits. -/
theorem col_no (b : Fin 16) (t : Fin 512) (h) : (⟨(b.val * 512 + t.val) % 512, h⟩ : Fin 512) = t := Fin.ext (by show (b.val * 512 + t.val) % 512 = t.val; omega)

/-- A visit is the sum of its codes' rows. -/
theorem visits_at (cd : Fin 16 → Fin 512 → Fin 2048 → BitVec 32) (E : Fin 2048 → Fin 128 → ℝ) (b : Fin 16) (t : Fin 512) (d : Fin 128) :
    ∑ v, (if cd b t v = 1#32 then 1 else 0) * E v d = visits cd E b t.val d := by
  unfold visits
  rw [dif_pos t.isLt]

variable {V : Valuation τ sig (Elt Ideal)} {cd : Fin 16 → Fin 512 → Fin 2048 → BitVec 32} {E : Fin 2048 → Fin 128 → ℝ} {P : Par} {H : Head} (hR : ROk V cd E P H)
include hR

/-- The visits that the reference scans over are the model's. -/
theorem x_at (b : Fin 16) (t : Fin 512) (d : Fin 128) : (StableHlo.after hostOps0 V (Proc.devRef .tc main_v18_0) : Vec Ideal S512x16x128 .f32) (ix3 t b d) = ((visits cd E b t.val d : ℝ) : EReal) := by
  clean_types
  after_reads_at
  unfold id
  pointwise
  simp only [row_no, col_no, hR.cd, hR.emb, part_at, sum_coe, visits_at]

/-- The reference's mask marks the visits that are seen. -/
theorem mask_at (b : Fin 16) (t : Fin 512) : (StableHlo.after hostOps0 V (Proc.devRef .tc main_v8) : IVec S16x512 1) (ix2 b t) = if ∃ d, visits cd E b t.val d ≠ 0 then 1#1 else 0#1 := by
  clean_types
  after_reads_at
  simp only [row_no, col_no, hR.cd, hR.emb, part_at, sum_coe, visits_at]
  exact any_bit _

/-- The loop's entry: no visit yet. -/
theorem entry_ok : LOk (StableHlo.after hostOps0 V) P (visits cd E) H 0 where
  v := {
    ctr := by
      funext i
      after_reads_at
      rfl
    x := fun t b d => x_at hR b t d
    one := by
      intro t b
      clean_types
      after_reads_at
      unfold id
      pointwise
    kW := by
      intro j d
      refine Eq.trans ?_ (hR.kW j d)
      after_reads_at
      rfl
    kb := by
      intro j
      refine Eq.trans ?_ (hR.kb j)
      after_reads_at
      rfl
    rW := by
      intro j e
      refine Eq.trans ?_ (hR.rW j e)
      after_reads_at
      rfl
    rb := by
      intro j
      refine Eq.trans ?_ (hR.rb j)
      after_reads_at
      rfl
    c := by
      intro b e
      refine Eq.trans ?_ EReal.coe_zero.symm
      clean_types
      after_reads_at
      unfold id
      pointwise
    h := by
      intro b e
      refine Eq.trans ?_ EReal.coe_zero.symm
      clean_types
      after_reads_at
      unfold id
      pointwise
    hist := by
      intro k b e
      unfold Par.hist
      rw [if_neg (by omega)]
      refine Eq.trans ?_ EReal.coe_zero.symm
      clean_types
      after_reads_at
      unfold id
      pointwise
    d := by
      intro k b
      refine Eq.trans ?_ EReal.coe_zero.symm
      clean_types
      after_reads_at
      unfold id
      pointwise }
  h := {
    sw := by
      intro j e
      refine Eq.trans ?_ (hR.sw j e)
      after_reads_at
      rfl
    sb := by
      intro j
      refine Eq.trans ?_ (hR.sb j)
      after_reads_at
      rfl
    rw := by
      intro o j
      refine Eq.trans ?_ (hR.rw o j)
      after_reads_at
      rfl
    rb := by
      intro o
      refine Eq.trans ?_ (hR.rbb o)
      after_reads_at
      rfl
    cw := by
      intro o e k
      refine Eq.trans ?_ (hR.cw o e k)
      after_reads_at
      rfl
    cb := by
      intro o
      refine Eq.trans ?_ (hR.cb o)
      after_reads_at
      rfl }
  hid := fun t b e h => absurd h (Nat.not_lt_zero _)
  win := fun t b e h => absurd h (Nat.not_lt_zero _)

end Cert.ReferenceIdeal.Value
-- ==== Proof.Value.RefTail.lean ====
module

public import proofs.«01_k».proof.Proof.Value.RefEntry
public import proofs.«01_k».proof.Proof.Reference.Frame

@[expose] public section

set_option maxRecDepth 16384

noncomputable section

namespace Cert.ReferenceIdeal.Value

open Idealize.ShloMosaic Cert.Spec Cert.ReferenceIdeal.Gen

/-- The pick of one visit's row for each patient: the row the two indices name. -/
theorem pick_at {α : Type} (x : S16x512x384.Idx → α) (idx : IVec S16x2 32) (b : Fin 16) (e : Fin 384) (l : Fin 512)
    (h0 : (idx (ix2 b 0)).toInt.toNat = b.val) (h1 : (idx (ix2 b 1)).toInt.toNat = l.val) :
    Host.gather gather_S16x512x384_S16x2_S16x384_1_01_n_n_01_1_11384 x idx (ix2 b e) = x (ix3 b l e) := by
  unfold Host.gather
  refine congrArg x (funext fun a => Fin.ext ?_)
  generalize hd : gather_S16x512x384_S16x2_S16x384_1_01_n_n_01_1_11384 = d
  show d.start (ix2 b e) idx a + d.batchCoord (ix2 b e) a + d.offCoord (ix2 b e) a = _
  subst hd
  rw [GatherDims.batchCoord_eq_zero _ _ _ (List.not_mem_nil), Nat.add_zero]
  have si : ∀ k, gather_S16x512x384_S16x2_S16x384_1_01_n_n_01_1_11384.siIdx (ix2 b e) k = ix2 b ⟨k.val, k.isLt⟩ := by
    intro k
    funext q
    fin_cases q <;> rfl
  fin_cases a
  · rw [GatherDims.offCoord_eq_zero _ _ _ (by decide)]
    unfold GatherDims.start
    rw [dif_pos (by decide), si]
    show min (idx (ix2 b 0)).toInt.toNat 15 + 0 = b.val
    rw [h0]; omega
  · rw [GatherDims.offCoord_eq_zero _ _ _ (by decide)]
    unfold GatherDims.start
    rw [dif_pos (by decide), si]
    show min (idx (ix2 b 1)).toInt.toNat 511 + 0 = l.val
    rw [h1]; omega
  · unfold GatherDims.start
    rw [dif_neg (by decide), Nat.zero_add]
    rfl

/-- A count by 32-bit words. -/
theorem count_words {ι : Type} [DecidableEq ι] (s : Finset ι) (q : ι → Prop) [DecidablePred q] (f : ι → BitVec 1) (hf : ∀ i, f i = if q i then 1#1 else 0#1) :
    s.fold IntOp.addi (0#32) (fun x => BitVec.setWidth 32 (f x)) = BitVec.ofNat 32 (s.filter q).card := by
  induction s using Finset.induction_on with
  | empty => rfl
  | insert a s ha ih =>
    rw [Finset.fold_insert ha, ih, Finset.filter_insert, hf]
    by_cases h : q a
    · rw [if_pos h, if_pos h, Finset.card_insert_of_notMem (fun k => ha (Finset.mem_filter.1 k).1)]
      show 1#32 + BitVec.ofNat 32 _ = _
      rw [BitVec.ofNat_add, BitVec.add_comm]
    · rw [if_neg h, if_neg h]
      show 0#32 + BitVec.ofNat 32 _ = _
      rw [BitVec.zero_add]

/-- An index that is not negative is taken as it is. -/
theorem wrap_nonneg {k : ℕ} (hk : k < 1000) (w : BitVec 32) :
    Scalar.select (IntOp.cmpi CmpIPredicate.slt (BitVec.ofNat 32 k) 0#32) w (BitVec.ofNat 32 k) = BitVec.ofNat 32 k := by
  have e : IntOp.cmpi CmpIPredicate.slt (BitVec.ofNat 32 k) 0#32 = 0#1 := by
    show BitVec.ofBool ((BitVec.ofNat 32 k).slt 0#32) = 0#1
    rw [show (BitVec.ofNat 32 k).slt 0#32 = false from by
      rw [BitVec.slt, WordCmp.toInt_ofNat_of_lt (by omega)]
      simp]
    rfl
  rw [e]
  rfl

/-- One less than a positive count does not wrap. -/
theorem less_one {k : ℕ} (hk : 1 ≤ k) : IntOp.subi (BitVec.ofNat 32 k) 1#32 = BitVec.ofNat 32 (k - 1) := by
  obtain ⟨j, rfl⟩ := Nat.exists_eq_add_of_le hk
  show BitVec.ofNat 32 (1 + j) - 1#32 = _
  rw [Nat.add_sub_cancel_left, BitVec.ofNat_add, BitVec.add_comm]
  exact BitVec.add_sub_cancel _ _

/-- A small number's word reads as the number. -/
theorem word_nat {k : ℕ} (hk : k < 1000) : (BitVec.ofNat 32 k).toInt.toNat = k := by
  rw [WordCmp.toInt_ofNat_of_lt (by omega)]
  exact Int.toNat_natCast k

variable {U : Valuation τ sig (Elt Ideal)} {P : Par} {xs : Fin 16 → ℕ → Fin 128 → ℝ} {H : Head}

/-- What the operations after the loop read. -/
structure TOk (U : Valuation τ sig (Elt Ideal)) (P : Par) (xs : Fin 16 → ℕ → Fin 128 → ℝ) (H : Head) : Prop where
  mask : ∀ b t, (U (Proc.devRef .tc main_v8) : IVec S16x512 1) (ix2 b t) = if ∃ d, xs b t.val d ≠ 0 then 1#1 else 0#1
  hid : ∀ (t : Fin 512) b e, (U (Proc.devRef .tc main_v18_17) : Vec Ideal S512x16x384 .f32) (ix3 t b e) = (((P.state (xs b) (t.val + 1)).h e : ℝ) : EReal)
  win : ∀ (t : Fin 512) b e, (U (Proc.devRef .tc main_v18_18) : Vec Ideal S512x16x384 .f32) (ix3 t b e) = H.win P (xs b) (t.val + 1) e
  fw : ∀ o e, (U (Proc.devRef .tc main_arg12) : Vec Ideal S128x384 .f32) (ix2 o e) = H.fw o e
  fb : ∀ o, (U (Proc.devRef .tc main_arg13) : Vec Ideal S128 .f32) (ix1 o) = H.fb o

/-- The gather's first index is the patient. -/
theorem row_index (b : Fin 16) : (StableHlo.upto hostOps0_1 U 26 (Proc.devRef .tc main_v37) : IVec S16x1 32) (ix2 b 0) = BitVec.ofNat 32 b.val := by
  clean_types
  after_reads_at
  exact wrap_nonneg (by omega) _

/-- Its second index is the last visit that is seen. -/
theorem visit_index (hT : TOk U P xs H) (b : Fin 16) (hn : 1 ≤ seen (xs b)) : (StableHlo.upto hostOps0_1 U 26 (Proc.devRef .tc main_v38) : IVec S16x1 32) (ix2 b 0) = BitVec.ofNat 32 (seen (xs b) - 1) := by
  have hl := seen_le (xs b)
  have hc := count_words Finset.univ (fun t : Fin 512 => ∃ d, xs b t.val d ≠ 0) _ (hT.mask b)
  clean_types
  after_reads_at
  rw [hc]
  refine (congrArg (fun w => Scalar.select (IntOp.cmpi CmpIPredicate.slt w 0#32) (IntOp.addi w 512#32) w) (less_one hn)).trans ?_
  exact wrap_nonneg (by omega) _

/-- The result is the final layer of the row that is picked. -/
theorem out_at (hT : TOk U P xs H) (b : Fin 16) (hn : 1 ≤ seen (xs b)) (o : Fin 128) :
    (StableHlo.after hostOps0_1 U (Proc.devRef .tc main_v45) : Vec Ideal S16x128 .f32) (ix2 b o) = H.logit P (xs b) (seen (xs b)) o := by
  have hl := seen_le (xs b)
  have hr := row_index (U := U) b
  have hv := visit_index hT b hn
  clean_types
  after_reads_at
  unfold Head.logit
  rw [hT.fb]
  congr 1
  refine Finset.sum_congr rfl fun e _ => ?_
  rw [hT.fw, pick_at _ _ b e ⟨seen (xs b) - 1, by omega⟩]
  · congr 1
    pointwise
    rw [hT.hid, hT.win, Nat.sub_add_cancel hn]
  · refine (congrArg (fun w : BitVec 32 => w.toInt.toNat) (Eq.trans ?_ hr)).trans (word_nat (by omega))
    pointwise
  · refine (congrArg (fun w : BitVec 32 => w.toInt.toNat) (Eq.trans ?_ hv)).trans (word_nat (by omega))
    pointwise

end Cert.ReferenceIdeal.Value
-- ==== Proof.Value.RefOut.lean ====
module

public import proofs.«01_k».proof.Proof.Value.RefTail

/-! The reference's result: what the loop carries after all visits, through the operations after it. -/

@[expose] public section

set_option maxRecDepth 16384

noncomputable section

namespace Cert.ReferenceIdeal.Value

open Idealize.ShloMosaic Idealize.ShloMosaic.TcCoe Idealize.ShloMosaic.StableHlo Cert.Spec Cert.ReferenceIdeal.Gen

variable {m : (ℓ : Loc nD τ sig) → Buf (Elt Ideal) ℓ} {c : Dev nD} {cd : Fin 16 → Fin 512 → Fin 2048 → BitVec 32} {E : Fin 2048 → Fin 128 → ℝ} {P : Par} {H : Head}

/-- After the loop all is there that the tail reads. -/
theorem tail_ok (hR : ROk (launchContents m c) cd E P H)
    (hfw : ∀ o e, (m ((c : Thread nD τ).loc main_arg12) : Vec Ideal S128x384 .f32) (ix2 o e) = H.fw o e)
    (hfb : ∀ o, (m ((c : Thread nD τ).loc main_arg13) : Vec Ideal S128 .f32) (ix1 o) = H.fb o) :
    TOk (after condOps (atK m 512 c)) P (visits cd E) H := by
  have hL := loop_ok (entry_ok hR) 512 le_rfl
  have ha : ∀ j ∈ carriedRefs, after condOps (atK m 512 c) (Proc.devRef .tc j) = (STEP^[512] (after hostOps0 (launchContents m c))) (Proc.devRef .tc j) :=
    fun j hj => (cond_keeps _ j hj).trans (atK_agree m c 512 j hj)
  refine ⟨fun b t => ?_, fun t b e => ?_, fun t b e => ?_, fun o e => ?_, fun o => ?_⟩
  · rw [after_of_writes_sub condOps _ condOps_writes (by decide +kernel), atK_keeps m c main_v8 (by decide +kernel)]
    exact mask_at hR b t
  · rw [ha main_v18_17 (by decide)]
    exact hL.hid t b e t.isLt
  · rw [ha main_v18_18 (by decide)]
    exact hL.win t b e t.isLt
  · rw [after_of_writes_sub condOps _ condOps_writes (by decide +kernel), atK_keeps m c main_arg12 (by decide +kernel)]
    refine Eq.trans ?_ (hfw o e)
    exact congrFun (after_of_writes_sub hostOps0 (launchContents m c) hostOps0_writes (r := main_arg12) (by decide +kernel)) _
  · rw [after_of_writes_sub condOps _ condOps_writes (by decide +kernel), atK_keeps m c main_arg13 (by decide +kernel)]
    refine Eq.trans ?_ (hfb o)
    exact congrFun (after_of_writes_sub hostOps0 (launchContents m c) hostOps0_writes (r := main_arg13) (by decide +kernel)) _

/-- The reference's results, where every patient has a visit that is seen. -/
theorem final_at (hR : ROk (launchContents m c) cd E P H)
    (hfw : ∀ o e, (m ((c : Thread nD τ).loc main_arg12) : Vec Ideal S128x384 .f32) (ix2 o e) = H.fw o e)
    (hfb : ∀ o, (m ((c : Thread nD τ).loc main_arg13) : Vec Ideal S128 .f32) (ix1 o) = H.fb o)
    (b : Fin 16) (hn : 1 ≤ seen (visits cd E b)) (o : Fin 128) :
    (finalContents condOps preI bodyI postI 512 m c (Proc.devRef .tc main_v45) : Vec Ideal S16x128 .f32) (ix2 b o) = H.logit P (visits cd E b) (seen (visits cd E b)) o :=
  out_at (tail_ok hR hfw hfb) b hn o

end Cert.ReferenceIdeal.Value
-- ==== Proof.Value.Pre.lean ====
module

public import proofs.«01_k».proof.Proof.Value.RefOut
public import proofs.«01_k».proof.Pre_finite_and_visited

/-! What the precondition gives: tables of reals, and a visit that is seen for every patient. -/

@[expose] public section

set_option maxRecDepth 16384

noncomputable section

namespace Cert.Pre_finite_and_visited

open Idealize.ShloMosaic Cert.Spec

/-- The precondition's side conditions. -/
instance facts : Facts where
  bcast_S_S16x512x2048 := by decide
  shapeCasts_S16x512x2048_S8192x2048 := by decide
  shapeCasts_S8192x128_S16x512x128 := by decide
  bcast_S_S16x512x128 := by decide
  reducesTo_S16x512x128_S16x512_d2 := by decide
  h_S_ := by decide
  natLt_1_32 := by decide
  reducesTo_S16x512_S16_d1 := by decide
  bcast_S_S16 := by decide
  bcast_S_S2048x128 := by decide
  bcast_S_S1542x129 := by decide
  bcast_S_S1542 := by decide
  bcast_S_S1542x385 := by decide
  dot_S8192x2048_S2048x128_S8192x128_1_0_0_1_n_n_wf := by decide

/-- The printed infinity. -/
theorem top_val : Ideal.ofBits .f32 2139095040#32 = ⊤ := by
  simp [Ideal.ofBits, Ideal.ieee]

/-- What is below the infinity in size is a real. -/
theorem real_of_bit {s : Shape} (w : FVec Ideal s .f32) (hb) (i : s.Idx) (h : cmpf .olt (Host.absf w) (broadcastInDim s ![] hb (constant S_ .f32 0x7F800000#32)) i = 1#1) :
    ∃ r : ℝ, w i = (r : EReal) := by
  have h' : BitVec.ofBool (decide ((max (w i) (-(w i)) : EReal) < Ideal.ofBits .f32 2139095040#32)) = 1#1 := h
  rw [top_val] at h'
  have h2 : (max (w i) (-(w i)) : EReal) < ⊤ := by
    by_contra q
    rw [decide_eq_false q] at h'
    exact absurd h' (by decide)
  have h3 := max_lt_iff.1 h2
  induction hw : w i using EReal.rec with
  | bot => rw [hw] at h3; simp at h3
  | coe r => exact ⟨r, rfl⟩
  | top => rw [hw] at h3; simp at h3

variable (a0 : IVec S16x512x2048 32) (a1 : FVec Ideal S2048x128 .f32) (a2 : FVec Ideal S1542x129 .f32) (a3 : FVec Ideal S1542 .f32) (a4 : FVec Ideal S1542x385 .f32) (a5 : FVec Ideal S1542 .f32)
  (a6 : FVec Ideal S64x384 .f32) (a7 : FVec Ideal S64 .f32) (a8 : FVec Ideal S384x64 .f32) (a9 : FVec Ideal S384 .f32) (a10 : FVec Ideal S384x384x10 .f32) (a11 : FVec Ideal S384 .f32) (a12 : FVec Ideal S128x384 .f32) (a13 : FVec Ideal S128 .f32)

/-- The count the precondition looks at. -/
def lastOf (a0 : IVec S16x512x2048 32) (a1 : FVec Ideal S2048x128 .f32) : IVec S16 32 :=
  subi (Host.reduce IntOp.addi (extui 32 (Host.reduce IntOp.ori (cmpf .une (shapeCast S16x512x128 (Host.dotGeneral dot_S8192x2048_S2048x128_S8192x128_1_0_0_1_n_n none
    (shapeCast S8192x2048 (uitofp .f32 (cmpi .eq a0 (broadcastInDim S16x512x2048 ![] Facts.bcast_S_S16x512x2048 (constantI S_ 32 1#32)))) Facts.shapeCasts_S16x512x2048_S8192x2048 : FVec Ideal S8192x2048 .f32) a1) Facts.shapeCasts_S8192x128_S16x512x128)
    (broadcastInDim S16x512x128 ![] Facts.bcast_S_S16x512x128 (constant S_ .f32 0x00000000#32))) (constantI S_ 1 0#1) Facts.reducesTo_S16x512x128_S16x512_d2 Facts.h_S_) Facts.natLt_1_32) (constantI S_ 32 0#32) Facts.reducesTo_S16x512_S16_d1 Facts.h_S_)
    (broadcastInDim S16 ![] Facts.bcast_S_S16 (constantI S_ 32 1#32))

/-- The precondition, one test after the other. -/
theorem parts : (fn (F := Ideal) a0 a1 a2 a3 a4 a5 a6 a7 a8 a9 a10 a11 a12 a13) =
    (cmpf .olt (Host.absf a1) (broadcastInDim S2048x128 ![] Facts.bcast_S_S2048x128 (constant S_ .f32 0x7F800000#32)),
     cmpf .olt (Host.absf a2) (broadcastInDim S1542x129 ![] Facts.bcast_S_S1542x129 (constant S_ .f32 0x7F800000#32)),
     cmpf .olt (Host.absf a3) (broadcastInDim S1542 ![] Facts.bcast_S_S1542 (constant S_ .f32 0x7F800000#32)),
     cmpf .olt (Host.absf a4) (broadcastInDim S1542x385 ![] Facts.bcast_S_S1542x385 (constant S_ .f32 0x7F800000#32)),
     cmpf .olt (Host.absf a5) (broadcastInDim S1542 ![] Facts.bcast_S_S1542 (constant S_ .f32 0x7F800000#32)),
     cmpi .sge (lastOf a0 a1) (broadcastInDim S16 ![] Facts.bcast_S_S16 (constantI S_ 32 0#32))) := rfl

/-- The count is the number of visits that are seen, less one. -/
theorem last_at (E : Fin 2048 → Fin 128 → ℝ) (hE : ∀ v d, a1 (ix2 v d) = ((E v d : ℝ) : EReal)) (b : Fin 16) :
    lastOf a0 a1 (ix1 b) = BitVec.ofNat 32 (seen (visits (fun b t v => a0 (ix3 b t v)) E b)) - 1#32 := by
  unfold lastOf
  pointwise
  simp only [hE, Cert.ReferenceIdeal.Value.part_at, sum_coe, Cert.ReferenceIdeal.Value.visits_at (cd := fun b t v => a0 (ix3 b t v)) (E := E)]
  rw [Cert.ReferenceIdeal.Value.count_words Finset.univ (fun t : Fin 512 => ∃ d, visits (fun b t v => a0 (ix3 b t v)) E b t.val d ≠ 0)]
  · rfl
  · intro t
    exact Cert.ReferenceIdeal.Value.any_bit _

/-- Every patient has a visit that is seen. -/
theorem seen_pos (E : Fin 2048 → Fin 128 → ℝ) (hE : ∀ v d, a1 (ix2 v d) = ((E v d : ℝ) : EReal))
    (h : cmpi .sge (lastOf a0 a1) (broadcastInDim S16 ![] Facts.bcast_S_S16 (constantI S_ 32 0#32)) = fun _ => 1#1) (b : Fin 16) :
    1 ≤ seen (visits (fun b t v => a0 (ix3 b t v)) E b) := by
  by_contra hn
  have h0 : seen (visits (fun b t v => a0 (ix3 b t v)) E b) = 0 := by omega
  have h1 := congrFun h (ix1 b)
  have h2 : IntOp.cmpi .sge (lastOf a0 a1 (ix1 b)) 0#32 = 1#1 := h1
  rw [last_at a0 a1 E hE, h0] at h2
  exact absurd h2 (by decide)

/-- A table whose entries all pass the test is a table of reals. -/
theorem reals {s : Shape} (w : FVec Ideal s .f32) (hb : S_.BroadcastsInDim s (![] : Fin 0 → Fin s.rank))
    (h : cmpf .olt (Host.absf w) (broadcastInDim s ![] hb (constant S_ .f32 0x7F800000#32)) = fun _ => 1#1) : ∃ f : s.Idx → ℝ, ∀ i, w i = ((f i : ℝ) : EReal) := by
  choose f hf using fun i => real_of_bit w hb i (congrFun h i)
  exact ⟨f, hf⟩

end Cert.Pre_finite_and_visited

end
-- ==== Proof.Value.Algebra.lean ====
module

public import proofs.«01_k».proof.Defs
public import proofs.«01_k».proof.Proof.Value.Kern
public import proofs.«01_k».proof.Proof.Value.Pre

/-! The kernel's result and the reference's are the same extended reals. -/

@[expose] public section

set_option maxRecDepth 16384

noncomputable section

namespace Cert.Proof

open Idealize.ShloMosaic Idealize.ShloMosaic.TcCoe Idealize.SL.Sem Cert.Spec

/-- A memory of the kernel. -/
abbrev KMem := (ℓ : Loc KernelIdeal.nD KernelIdeal.τ KernelIdeal.sig) → Buf (Elt Ideal) ℓ
/-- A memory of the reference. -/
abbrev RMem := (ℓ : Loc ReferenceIdeal.nD ReferenceIdeal.τ ReferenceIdeal.sig) → Buf (Elt Ideal) ℓ

/-- What the precondition says of one device's arguments. -/
theorem pre_gives (m : KMem) (h : Pre_KernelIdeal_finite_and_visited m) (c : Dev KernelIdeal.nD) :
    ∃ P E, KernelIdeal.Gen.ArgsOk m c P E ∧ ∀ b, 1 ≤ seen (visits (KernelIdeal.Gen.codes m c) E b) := by
  obtain ⟨h1, h2, h3, h4, h5, h6⟩ := h c
  obtain ⟨e, he⟩ := Pre_finite_and_visited.reals _ _ h1
  obtain ⟨kW, hkW⟩ := Pre_finite_and_visited.reals _ _ h2
  obtain ⟨kb, hkb⟩ := Pre_finite_and_visited.reals _ _ h3
  obtain ⟨rW, hrW⟩ := Pre_finite_and_visited.reals _ _ h4
  obtain ⟨rb, hrb⟩ := Pre_finite_and_visited.reals _ _ h5
  refine ⟨⟨fun j d => kW (ix2 j d), fun j => kb (ix1 j), fun j d => rW (ix2 j d), fun j => rb (ix1 j)⟩, fun v d => e (ix2 v d),
    ⟨fun v d => he _, fun j d => hkW _, fun j => hkb _, fun j d => hrW _, fun j => hrb _⟩, fun b => ?_⟩
  exact Pre_finite_and_visited.seen_pos _ _ (fun v d => e (ix2 v d)) (fun v d => he _) h6 b

variable (m : KMem) (m' : RMem) (ρ : Dev KernelIdeal.nD → PrngReg) (c : Dev KernelIdeal.nD)

/-- The two memories hold the same arguments on a device. -/
def Agree : Prop :=
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)
      ∧ m' ((c.tc : Thread ReferenceIdeal.nD ReferenceIdeal.τ).loc ReferenceIdeal.main_arg11) = m ((c.tc : Thread KernelIdeal.nD KernelIdeal.τ).loc KernelIdeal.main_arg11)
      ∧ m' ((c.tc : Thread ReferenceIdeal.nD ReferenceIdeal.τ).loc ReferenceIdeal.main_arg12) = m ((c.tc : Thread KernelIdeal.nD KernelIdeal.τ).loc KernelIdeal.main_arg12)
      ∧ m' ((c.tc : Thread ReferenceIdeal.nD ReferenceIdeal.τ).loc ReferenceIdeal.main_arg13) = m ((c.tc : Thread KernelIdeal.nD KernelIdeal.τ).loc KernelIdeal.main_arg13)

variable {m m' c}

/-- The reference's arguments are the kernel's. -/
theorem ref_args (ha : Agree m m' c) {P : Par} {E : Fin 2048 → Fin 128 → ℝ} (hA : KernelIdeal.Gen.ArgsOk m c P E) :
    ReferenceIdeal.Value.ROk (StableHlo.launchContents m' c) (KernelIdeal.Gen.codes m c) E P (KernelIdeal.Gen.head m c) := by
  obtain ⟨a0, a1, a2, a3, a4, a5, a6, a7, a8, a9, a10, a11, -, -⟩ := ha
  exact ⟨fun _ _ _ => congrFun a0 _, fun _ _ => (congrFun a1 _).trans (hA.emb _ _), fun _ _ => (congrFun a2 _).trans (hA.kW _ _), fun _ => (congrFun a3 _).trans (hA.kb _),
    fun _ _ => (congrFun a4 _).trans (hA.rW _ _), fun _ => (congrFun a5 _).trans (hA.rb _), fun _ _ => congrFun a6 _, fun _ => congrFun a7 _, fun _ _ => congrFun a8 _,
    fun _ => congrFun a9 _, fun _ _ _ => congrFun a10 _, fun _ => congrFun a11 _⟩

/-- The two results, entry by entry. -/
theorem same (hp : Pre_KernelIdeal_finite_and_visited m) (ha : Agree m m' c) :
    (StableHlo.finalContents ReferenceIdeal.Value.condOps ReferenceIdeal.Value.preI ReferenceIdeal.Value.bodyI ReferenceIdeal.Value.postI 512 m' c (Proc.devRef .tc ReferenceIdeal.main_v45) : Vec Ideal ReferenceIdeal.S16x128 .f32)
      = (KernelIdeal.Gen.W6 m ρ c (Proc.devRef .tc KernelIdeal.main_v0) : Vec Ideal KernelIdeal.S16x128 .f32) := by
  obtain ⟨P, E, hA, hn⟩ := pre_gives m hp c
  have hR := ref_args ha hA
  obtain ⟨-, -, -, -, -, -, -, -, -, -, -, -, a12, a13⟩ := ha
  funext i
  obtain ⟨b, o, rfl⟩ : ∃ b o, i = ix2 b o := ⟨i 0, i 1, by funext d; fin_cases d <;> rfl⟩
  exact (ReferenceIdeal.Value.final_at hR (fun _ _ => congrFun a12 _) (fun _ => congrFun a13 _) b (hn b) o).trans (KernelIdeal.Gen.kern ρ hA b (hn b) o).symm

/-- The kernel's arguments live outside every scope, so the run says what they hold at the end. -/
theorem kernel_unscoped : ∀ a ∈ KernelIdeal.Gen.argRefs, ¬ (Proc.devRef .tc a : DevRef KernelIdeal.τ KernelIdeal.sig).isScoped :=
  ListAll.forall_mem_of_all_decide (by decide +kernel)

/-- From memories with the same arguments, where the precondition holds, both programs end with the same result and leave their arguments alone. -/
theorem algebra : algebraic_KernelIdeal_ReferenceIdeal_pre_finite_and_visited := by
  intro m g m' g' hp ha
  refine ⟨fun c => KernelIdeal.Gen.W6 m g c (Proc.devRef .tc KernelIdeal.main_v0), (θ_run _ _ _).mono (fun r h c => ?_) (KernelIdeal.Gen.run m g),
    (θ_run _ _ _).mono (fun r h c => ?_) (ReferenceIdeal.Value.run_fold m' g')⟩
  · have key : ∀ a ∈ KernelIdeal.Gen.argRefs, r.2.mem ((c.tc : Thread KernelIdeal.nD KernelIdeal.τ).loc a) = m ((c.tc : Thread KernelIdeal.nD KernelIdeal.τ).loc a) := fun a h' =>
      (h.1 c _ (KernelIdeal.Gen.mem_uc a (kernel_unscoped a h'))).trans (KernelIdeal.Gen.W6_args m g c a h')
    refine ⟨h.1 c _ (KernelIdeal.Gen.mem_uc KernelIdeal.main_v0 (by decide)), ?_⟩
    repeat' apply And.intro
    all_goals exact key _ (by decide +kernel)
  · have key : ∀ a ∈ ReferenceIdeal.Value.argRefs, r.2.mem ((c.tc : Thread ReferenceIdeal.nD ReferenceIdeal.τ).loc a) = m' ((c.tc : Thread ReferenceIdeal.nD ReferenceIdeal.τ).loc a) := fun a h' =>
      (h c a (ReferenceIdeal.Value.args_unscoped a h')).trans
        (ReferenceIdeal.Value.final_keeps m' c a (ReferenceIdeal.Value.args_hostOps0 a h') (ReferenceIdeal.Value.args_loop a h') (ReferenceIdeal.Value.args_tail a h'))
    refine ⟨(h c ReferenceIdeal.main_v45 (by decide)).trans (same g hp (ha c)), ?_⟩
    repeat' apply And.intro
    all_goals exact key _ (by decide +kernel)

end Cert.Proof

end
-- ==== Proof.lean ====
module

public import proofs.«01_k».proof.Defs
public import proofs.«01_k».proof.Proof.Rounded.Launch
public import proofs.«01_k».proof.Proof.Ideal.Launch
public import proofs.«01_k».proof.Proof.Reference.Frame
public import proofs.«01_k».proof.Proof.Value.Algebra

/-! The claim: the rounded kernel, the kernel over the extended reals and the reference each run to the end and
leave their arguments alone; the constants given an exact value are the rounded ones' nearest; and over the extended
reals, where the precondition holds, the kernel's result is the reference's. -/

@[expose] public section

noncomputable section

namespace Cert.Proof

open Idealize.ShloMosaic Idealize.SL.Sem

/-- The two named constants print the rounded values the kernel uses. -/
theorem named : Cert.preserves_Kernel_KernelIdeal :=
  ⟨IdealRules.named_const.statement Cert.KernelIdeal.κ "third" .f32 0x3EAAAAAB#32 ((1 / 3 : ℝ) : EReal) rfl,
   IdealRules.named_const.statement Cert.KernelIdeal.κ "tenth" .f32 0x3DCCCCCD#32 ((1 / 10 : ℝ) : EReal) rfl⟩

theorem claim : Cert.Claim := ⟨Cert.Kernel.Gen.facts, Cert.KernelIdeal.Gen.facts, Cert.ReferenceIdeal.Gen.facts, Cert.Pre_finite_and_visited.facts,
  fun m g _ => Cert.Kernel.Gen.frame m g,
  fun m g _ => Cert.KernelIdeal.Gen.frame m g,
  fun m g _ => Cert.KernelIdeal.Gen.frame m g,
  fun m g _ => Cert.ReferenceIdeal.Value.frame m g,
  fun m g _ => Cert.ReferenceIdeal.Value.frame m g,
  named,
  algebra⟩

end Cert.Proof

end
